-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S1024x128
  ∧ IdealRules.bf16_pair.Statement Cert.KernelIdeal.S1024x2x128 Cert.KernelIdeal.S1024x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v16)) (v7 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_v16) = v6 c
          ∧ r.2.mem ((c.tc : Thread Cert.KernelIdeal.nD Cert.KernelIdeal.τ).loc Cert.KernelIdeal.main_v17) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_v10) = v5 c
          ∧ r.2.mem ((c.tc : Thread Cert.ReferenceIdeal.nD Cert.ReferenceIdeal.τ).loc Cert.ReferenceIdeal.main_v11) = v6 c
          ∧ r.2.mem ((c.tc : Thread Cert.ReferenceIdeal.nD Cert.ReferenceIdeal.τ).loc Cert.ReferenceIdeal.main_v12) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x7168 : Shape := ⟨3, ![2, 4096, 7168]⟩
abbrev S7168 : Shape := ⟨1, ![7168]⟩
abbrev S21504x7168 : Shape := ⟨2, ![21504, 7168]⟩
abbrev S21504 : Shape := ⟨1, ![21504]⟩
abbrev S7168x4608 : Shape := ⟨2, ![7168, 4608]⟩
abbrev S8192x7168 : Shape := ⟨2, ![8192, 7168]⟩
abbrev S1x21504 : Shape := ⟨2, ![1, 21504]⟩
abbrev S1x7168 : Shape := ⟨2, ![1, 7168]⟩
abbrev S8192x1 : Shape := ⟨2, ![8192, 1]⟩
abbrev S256x7168 : Shape := ⟨2, ![256, 7168]⟩
abbrev S256x1 : Shape := ⟨2, ![256, 1]⟩
abbrev S256 : Shape := ⟨1, ![256]⟩
abbrev S8192x32x128 : Shape := ⟨3, ![8192, 32, 128]⟩
abbrev S1024x7168 : Shape := ⟨2, ![1024, 7168]⟩
abbrev S1024x1 : Shape := ⟨2, ![1024, 1]⟩
abbrev S1x1024 : Shape := ⟨2, ![1, 1024]⟩
abbrev S1024x8x128 : Shape := ⟨3, ![1024, 8, 128]⟩
abbrev S1024x1024 : Shape := ⟨2, ![1024, 1024]⟩
abbrev S1024x128 : Shape := ⟨2, ![1024, 128]⟩
abbrev S1024x4x128 : Shape := ⟨3, ![1024, 4, 128]⟩
abbrev S4096x128 : Shape := ⟨2, ![4096, 128]⟩
abbrev S1024x2x128 : Shape := ⟨3, ![1024, 2, 128]⟩
abbrev S1024x1x128 : Shape := ⟨3, ![1024, 1, 128]⟩
abbrev S2x4096x32x128 : Shape := ⟨4, ![2, 4096, 32, 128]⟩
abbrev S8192x4608 : Shape := ⟨2, ![8192, 4608]⟩
abbrev S512x7168 : Shape := ⟨2, ![512, 7168]⟩
abbrev S512x1 : Shape := ⟨2, ![512, 1]⟩
abbrev S1x512 : Shape := ⟨2, ![1, 512]⟩
abbrev S512x4608 : Shape := ⟨2, ![512, 4608]⟩
abbrev S9x512x512 : Shape := ⟨3, ![9, 512, 512]⟩
abbrev S512x512 : Shape := ⟨2, ![512, 512]⟩
abbrev S1x512x512 : Shape := ⟨3, ![1, 512, 512]⟩
abbrev S512 : Shape := ⟨1, ![512]⟩
abbrev S1024x4608 : Shape := ⟨2, ![1024, 4608]⟩
abbrev S2x4096x1 : Shape := ⟨3, ![2, 4096, 1]⟩
abbrev S2x4096x4608 : Shape := ⟨3, ![2, 4096, 4608]⟩

abbrev nBuf : Space → Nat
  | .hbm => 26
  | .vmem => 67
  | .smem => 0
  | _ => 0

abbrev bufTy : (tb : Table) → Fin (tcTables nBuf tb) → BufTy
  | .hbm, ⟨0, _⟩ => ⟨S2x4096x7168, .bf16⟩
  | .hbm, ⟨1, _⟩ => ⟨S7168, .bf16⟩
  | .hbm, ⟨2, _⟩ => ⟨S21504x7168, .fp8e4m3⟩
  | .hbm, ⟨3, _⟩ => ⟨S21504, .f32⟩
  | .hbm, ⟨4, _⟩ => ⟨S7168x4608, .fp8e4m3⟩
  | .hbm, ⟨5, _⟩ => ⟨S7168, .f32⟩
  | .hbm, ⟨6, _⟩ => ⟨S8192x7168, .bf16⟩
  | .hbm, ⟨7, _⟩ => ⟨S1x21504, .f32⟩
  | .hbm, ⟨8, _⟩ => ⟨S1x7168, .f32⟩
  | .hbm, ⟨9, _⟩ => ⟨S1x7168, .bf16⟩
  | .hbm, ⟨10, _⟩ => ⟨S8192x7168, .fp8e4m3⟩
  | .hbm, ⟨11, _⟩ => ⟨S8192x1, .f32⟩
  | .hbm, ⟨12, _⟩ => ⟨S8192x32x128, .bf16⟩
  | .hbm, ⟨13, _⟩ => ⟨S2x4096x32x128, .bf16⟩
  | .hbm, ⟨14, _⟩ => ⟨S8192x32x128, .bf16⟩
  | .hbm, ⟨15, _⟩ => ⟨S2x4096x32x128, .bf16⟩
  | .hbm, ⟨16, _⟩ => ⟨S8192x32x128, .bf16⟩
  | .hbm, ⟨17, _⟩ => ⟨S2x4096x32x128, .bf16⟩
  | .hbm, ⟨18, _⟩ => ⟨S8192x4608, .fp8e4m3⟩
  | .hbm, ⟨19, _⟩ => ⟨S8192x1, .f32⟩
  | .hbm, ⟨20, _⟩ => ⟨S8192x7168, .bf16⟩
  | .hbm, ⟨21, _⟩ => ⟨S2x4096x7168, .bf16⟩
  | .hbm, ⟨22, _⟩ => ⟨S2x4096x7168, .fp8e4m3⟩
  | .hbm, ⟨23, _⟩ => ⟨S2x4096x1, .f32⟩
  | .hbm, ⟨24, _⟩ => ⟨S2x4096x4608, .fp8e4m3⟩
  | .hbm, ⟨25, _⟩ => ⟨S2x4096x1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .bf16⟩
  | .local _ .vmem, ⟨3, _⟩ => ⟨S256x7168, .fp8e4m3⟩
  | .local _ .vmem, ⟨4, _⟩ => ⟨S256x7168, .fp8e4m3⟩
  | .local _ .vmem, ⟨5, _⟩ => ⟨S256x1, .f32⟩
  | .local _ .vmem, ⟨6, _⟩ => ⟨S256x1, .f32⟩
  | .local _ .vmem, ⟨7, _⟩ => ⟨S1024x7168, .fp8e4m3⟩
  | .local _ .vmem, ⟨8, _⟩ => ⟨S1024x7168, .fp8e4m3⟩
  | .local _ .vmem, ⟨9, _⟩ => ⟨S1024x1, .f32⟩
  | .local _ .vmem, ⟨10, _⟩ => ⟨S1024x1, .f32⟩
  | .local _ .vmem, ⟨11, _⟩ => ⟨S1024x7168, .fp8e4m3⟩
  | .local _ .vmem, ⟨12, _⟩ => ⟨S1024x7168, .fp8e4m3⟩
  | .local _ .vmem, ⟨13, _⟩ => ⟨S1x1024, .f32⟩
  | .local _ .vmem, ⟨14, _⟩ => ⟨S1x1024, .f32⟩
  | .local _ .vmem, ⟨15, _⟩ => ⟨S1024x8x128, .bf16⟩
  | .local _ .vmem, ⟨16, _⟩ => ⟨S1024x8x128, .bf16⟩
  | .local _ .vmem, ⟨17, _⟩ => ⟨S1024x7168, .fp8e4m3⟩
  | .local _ .vmem, ⟨18, _⟩ => ⟨S1024x7168, .fp8e4m3⟩
  | .local _ .vmem, ⟨19, _⟩ => ⟨S1024x1, .f32⟩
  | .local _ .vmem, ⟨20, _⟩ => ⟨S1024x1, .f32⟩
  | .local _ .vmem, ⟨21, _⟩ => ⟨S1024x7168, .fp8e4m3⟩
  | .local _ .vmem, ⟨22, _⟩ => ⟨S1024x7168, .fp8e4m3⟩
  | .local _ .vmem, ⟨23, _⟩ => ⟨S1x1024, .f32⟩
  | .local _ .vmem, ⟨24, _⟩ => ⟨S1x1024, .f32⟩
  | .local _ .vmem, ⟨25, _⟩ => ⟨S1024x8x128, .bf16⟩
  | .local _ .vmem, ⟨26, _⟩ => ⟨S1024x8x128, .bf16⟩
  | .local _ .vmem, ⟨27, _⟩ => ⟨S1024x7168, .fp8e4m3⟩
  | .local _ .vmem, ⟨28, _⟩ => ⟨S1024x7168, .fp8e4m3⟩
  | .local _ .vmem, ⟨29, _⟩ => ⟨S1024x1, .f32⟩
  | .local _ .vmem, ⟨30, _⟩ => ⟨S1024x1, .f32⟩
  | .local _ .vmem, ⟨31, _⟩ => ⟨S1024x7168, .fp8e4m3⟩
  | .local _ .vmem, ⟨32, _⟩ => ⟨S1024x7168, .fp8e4m3⟩
  | .local _ .vmem, ⟨33, _⟩ => ⟨S1x1024, .f32⟩
  | .local _ .vmem, ⟨34, _⟩ => ⟨S1x1024, .f32⟩
  | .local _ .vmem, ⟨35, _⟩ => ⟨S1024x8x128, .bf16⟩
  | .local _ .vmem, ⟨36, _⟩ => ⟨S1024x8x128, .bf16⟩
  | .local _ .vmem, ⟨37, _⟩ => ⟨S512x7168, .fp8e4m3⟩
  | .local _ .vmem, ⟨38, _⟩ => ⟨S512x7168, .fp8e4m3⟩
  | .local _ .vmem, ⟨39, _⟩ => ⟨S512x1, .f32⟩
  | .local _ .vmem, ⟨40, _⟩ => ⟨S512x1, .f32⟩
  | .local _ .vmem, ⟨41, _⟩ => ⟨S512x7168, .fp8e4m3⟩
  | .local _ .vmem, ⟨42, _⟩ => ⟨S512x7168, .fp8e4m3⟩
  | .local _ .vmem, ⟨43, _⟩ => ⟨S512x7168, .fp8e4m3⟩
  | .local _ .vmem, ⟨44, _⟩ => ⟨S512x7168, .fp8e4m3⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S512x4608, .fp8e4m3⟩
  | .local _ .vmem, ⟨50, _⟩ => ⟨S512x4608, .fp8e4m3⟩
  | .local _ .vmem, ⟨51, _⟩ => ⟨S512x1, .f32⟩
  | .local _ .vmem, ⟨52, _⟩ => ⟨S512x1, .f32⟩
  | .local _ .vmem, ⟨53, _⟩ => ⟨S9x512x512, .f32⟩
  | .local _ .vmem, ⟨54, _⟩ => ⟨S512x1, .f32⟩
  | .local _ .vmem, ⟨55, _⟩ => ⟨S1024x4608, .fp8e4m3⟩
  | .local _ .vmem, ⟨56, _⟩ => ⟨S1024x4608, .fp8e4m3⟩
  | .local _ .vmem, ⟨57, _⟩ => ⟨S1024x1, .f32⟩
  | .local _ .vmem, ⟨58, _⟩ => ⟨S1024x1, .f32⟩
  | .local _ .vmem, ⟨59, _⟩ => ⟨S1024x4608, .fp8e4m3⟩
  | .local _ .vmem, ⟨60, _⟩ => ⟨S1024x4608, .fp8e4m3⟩
  | .local _ .vmem, ⟨61, _⟩ => ⟨S1x1024, .f32⟩
  | .local _ .vmem, ⟨62, _⟩ => ⟨S1x1024, .f32⟩
  | .local _ .vmem, ⟨63, _⟩ => ⟨S1024x1024, .bf16⟩
  | .local _ .vmem, ⟨64, _⟩ => ⟨S1024x1024, .bf16⟩
  | .local _ .vmem, ⟨65, _⟩ => ⟨S1024x1024, .bf16⟩
  | .local _ .vmem, ⟨66, _⟩ => ⟨S1024x1024, .bf16⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg6_1 : Ref sig .tc := ⟨.vmem, 50, rfl⟩
abbrev cc4_stg7_0 : Ref sig .tc := ⟨.vmem, 51, rfl⟩
abbrev cc4_stg7_1 : Ref sig .tc := ⟨.vmem, 52, rfl⟩
abbrev cc4_scratch0 : Ref sig .tc := ⟨.vmem, 53, rfl⟩
abbrev cc4_scratch1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_stg4_0 : Ref sig .tc := ⟨.vmem, 63, rfl⟩
abbrev cc5_stg4_1 : Ref sig .tc := ⟨.vmem, 64, rfl⟩
abbrev cc5_stg5_0 : Ref sig .tc := ⟨.vmem, 65, rfl⟩
abbrev cc5_stg5_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc4_sem6_0 : DmaSem sig := 49
abbrev cc4_sem6_1 : DmaSem sig := 50
abbrev cc4_sem7_0 : DmaSem sig := 51
abbrev cc4_sem7_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem3_1 : DmaSem sig := 60
abbrev cc5_sem4_0 : DmaSem sig := 61
abbrev cc5_sem4_1 : DmaSem sig := 62
abbrev cc5_sem5_0 : DmaSem sig := 63
abbrev cc5_sem5_1 : DmaSem sig := 64

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x7168 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x8x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1024x7168 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x7168 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x8x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1024x7168 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x7168 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x8x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![16, 9], ![false, false]⟩

def k4_off1 (i : grid4.Coords) : Fin 3 → Nat :=
  let arg1 : BitVec 32 := BitVec.ofNat 32 (i 1).val
  let v25 : Index := Scalar.indexCast arg1
  let c0_14 : Index := 0#32
  let c0_15 : Index := 0#32
  ![v25.toNat, 0, 0]
def k4_cond1 (i : grid4.Coords) : BitVec 1 :=
  let arg1 : BitVec 32 := BitVec.ofNat 32 (i 1).val
  let c8_i32 : BitVec 32 := 8#32
  let v39 : BitVec 1 := Scalar.cmpi .eq arg1 c8_i32
  let v40 : BitVec 32 := Scalar.extui v39
  let c0_i32_21 : BitVec 32 := 0#32
  let v41 : BitVec 1 := Scalar.cmpi .ne v40 c0_i32_21
  v41

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi arg1 c33_i32
  let c0_i32 : BitVec 32 := 0#32
  let c0_i32_0 : BitVec 32 := 0#32
  ![v0.toNat, c0_i32.toNat]

def cc4_transform_4 (i : grid4.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![c0_i32.toNat, v0.toNat]

def cc4_transform_5 (i : grid4.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi arg1 c33_i32
  let c0_i32 : BitVec 32 := 0#32
  let c0_i32_0 : BitVec 32 := 0#32
  ![c0_i32.toNat, v0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x7168 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x7168 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x7168 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![false, true]

abbrev stage4_6 : Fin 2 → Memref sig .tc .vmem S512x4608 .fp8e4m3 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S512x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev grid5 : Pipeline.Grid := ⟨2, ![8, 7], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4608 .fp8e4m3 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x4608 .fp8e4m3 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1024x1024 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]
-- ==== KernelIdeal.lean ====
variable {F : FTy → Type} [FloatOps F]
-- ==== ReferenceIdeal.lean ====
abbrev S2x4096x7168 : Shape := ⟨3, ![2, 4096, 7168]⟩
abbrev S7168 : Shape := ⟨1, ![7168]⟩
abbrev S21504x7168 : Shape := ⟨2, ![21504, 7168]⟩
abbrev S21504 : Shape := ⟨1, ![21504]⟩
abbrev S7168x4608 : Shape := ⟨2, ![7168, 4608]⟩
abbrev S8192x7168 : Shape := ⟨2, ![8192, 7168]⟩
abbrev S1x7168 : Shape := ⟨2, ![1, 7168]⟩
abbrev S1x21504 : Shape := ⟨2, ![1, 21504]⟩
abbrev S8192x4096 : Shape := ⟨2, ![8192, 4096]⟩
abbrev S8192x1 : Shape := ⟨2, ![8192, 1]⟩
abbrev S8192x4608 : Shape := ⟨2, ![8192, 4608]⟩
abbrev S8192 : Shape := ⟨1, ![8192]⟩
abbrev S8192x21504 : Shape := ⟨2, ![8192, 21504]⟩
abbrev S2x4096x32x128 : Shape := ⟨4, ![2, 4096, 32, 128]⟩
abbrev S2x4096x1 : Shape := ⟨3, ![2, 4096, 1]⟩
abbrev S2x4096x4608 : Shape := ⟨3, ![2, 4096, 4608]⟩

abbrev nBuf : Space → Nat
  | .hbm => 26
  | .vmem => 14
  | .smem => 0
  | _ => 0

abbrev bufTy : (tb : Table) → Fin (tcTables nBuf tb) → BufTy
  | .hbm, ⟨0, _⟩ => ⟨S2x4096x7168, .bf16⟩
  | .hbm, ⟨1, _⟩ => ⟨S7168, .bf16⟩
  | .hbm, ⟨2, _⟩ => ⟨S21504x7168, .fp8e4m3⟩
  | .hbm, ⟨3, _⟩ => ⟨S21504, .f32⟩
  | .hbm, ⟨4, _⟩ => ⟨S7168x4608, .fp8e4m3⟩
  | .hbm, ⟨5, _⟩ => ⟨S7168, .f32⟩
  | .hbm, ⟨6, _⟩ => ⟨S8192x7168, .bf16⟩
  | .hbm, ⟨7, _⟩ => ⟨S1x7168, .bf16⟩
  | .hbm, ⟨8, _⟩ => ⟨S1x21504, .f32⟩
  | .hbm, ⟨9, _⟩ => ⟨S1x7168, .f32⟩
  | .hbm, ⟨10, _⟩ => ⟨S8192x4096, .bf16⟩
  | .hbm, ⟨11, _⟩ => ⟨S8192x4096, .bf16⟩
  | .hbm, ⟨12, _⟩ => ⟨S8192x4096, .bf16⟩
  | .hbm, ⟨13, _⟩ => ⟨S8192x7168, .bf16⟩
  | .hbm, ⟨14, _⟩ => ⟨S8192x7168, .fp8e4m3⟩
  | .hbm, ⟨15, _⟩ => ⟨S8192x1, .f32⟩
  | .hbm, ⟨16, _⟩ => ⟨S8192x4608, .fp8e4m3⟩
  | .hbm, ⟨17, _⟩ => ⟨S8192x1, .f32⟩
  | .hbm, ⟨18, _⟩ => ⟨S2x4096x32x128, .bf16⟩
  | .hbm, ⟨19, _⟩ => ⟨S2x4096x32x128, .bf16⟩
  | .hbm, ⟨20, _⟩ => ⟨S2x4096x32x128, .bf16⟩
  | .hbm, ⟨21, _⟩ => ⟨S2x4096x7168, .bf16⟩
  | .hbm, ⟨22, _⟩ => ⟨S2x4096x7168, .fp8e4m3⟩
  | .hbm, ⟨23, _⟩ => ⟨S2x4096x1, .f32⟩
  | .hbm, ⟨24, _⟩ => ⟨S2x4096x4608, .fp8e4m3⟩
  | .hbm, ⟨25, _⟩ => ⟨S2x4096x1, .f32⟩
  | .local _ .vmem, ⟨0, _⟩ => ⟨S8192x7168, .bf16⟩
  | .local _ .vmem, ⟨1, _⟩ => ⟨S1x7168, .bf16⟩
  | .local _ .vmem, ⟨2, _⟩ => ⟨S21504x7168, .fp8e4m3⟩
  | .local _ .vmem, ⟨3, _⟩ => ⟨S1x21504, .f32⟩
  | .local _ .vmem, ⟨4, _⟩ => ⟨S7168x4608, .fp8e4m3⟩
  | .local _ .vmem, ⟨5, _⟩ => ⟨S1x7168, .f32⟩
  | .local _ .vmem, ⟨6, _⟩ => ⟨S8192x4096, .bf16⟩
  | .local _ .vmem, ⟨7, _⟩ => ⟨S8192x4096, .bf16⟩
  | .local _ .vmem, ⟨8, _⟩ => ⟨S8192x4096, .bf16⟩
  | .local _ .vmem, ⟨9, _⟩ => ⟨S8192x7168, .bf16⟩
  | .local _ .vmem, ⟨10, _⟩ => ⟨S8192x7168, .fp8e4m3⟩
  | .local _ .vmem, ⟨11, _⟩ => ⟨S8192x1, .f32⟩
  | .local _ .vmem, ⟨12, _⟩ => ⟨S8192x4608, .fp8e4m3⟩
  | .local _ .vmem, ⟨13, _⟩ => ⟨S8192x1, .f32⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "log_two" => some ((Real.log 2 : ℝ) : EReal)
  | _ => none

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21504x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x7168 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x4608 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Kernel.Region0.lean ====
/- The norm region (pipeline 0) of `Kernel`, at any contents `V` of the unscoped buffers on entry: each window's
   block at a point, what the body leaves in each output window's buffer, the body's triple, the proof data and the
   body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x7168 := Rect.unit (s := S256x7168) ![0, 0] S256x7168.size inb_S256x7168_S256x7168_0_0
abbrev r0_1 : Rect S1x7168 := Rect.unit (s := S1x7168) ![0, 0] S1x7168.size inb_S1x7168_S1x7168_0_0
abbrev r0_2 : Rect S256x1 := Rect.unit (s := S256x1) ![0, 0] S256x1.size inb_S256x1_S256x1_0_0

/-! ## What the body leaves in each output window's buffer -/

def val_10 (x0 : Vec F S256x7168 .bf16) (x1 : Vec F S1x7168 .bf16) : FVec F S256x1 .f32 :=
  k0_pay5 (View.ld x0 r0_0) (View.ld x1 r0_1)
def val_11 (x0 : Vec F S256x7168 .bf16) (x1 : Vec F S1x7168 .bf16) : IVec S256x1 32 :=
  k0_pay6 (View.ld x0 r0_0) (View.ld x1 r0_1)
def val_13 (x0 : Vec F S256x7168 .bf16) (x1 : Vec F S1x7168 .bf16) : IVec S256x1 32 :=
  k0_pay7 (val_10 x0 x1) (val_11 x0 x1) 32#32

def out0_2 (x0 : Vec F S256x7168 .bf16) (x1 : Vec F S1x7168 .bf16) : Vec F S256x7168 .fp8e4m3 :=
  View.canon [⟨r0_0, k0_pay3 (k0_pay4 (View.ld x0 r0_0) (View.ld x1 r0_1)) (val_10 x0 x1) (val_13 x0 x1) 1#32⟩]

theorem cover0_2 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

def out0_3 (x0 : Vec F S256x7168 .bf16) (x1 : Vec F S1x7168 .bf16) : Vec F S256x1 .f32 :=
  View.canon [⟨r0_2, k0_pay2 (val_10 x0 x1) (val_13 x0 x1) 1#32⟩]

theorem cover0_3 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid0.Coords) (arg1 : Memref sig .tc .vmem S256x7168 .bf16) (harg1 : arg1.IsWhole) (arg2 : Memref sig .tc .vmem S1x7168 .bf16) (harg2 : arg2.IsWhole) (arg3 : Memref sig .tc .vmem S256x7168 .fp8e4m3) (harg3 : arg3.IsWhole) (arg4 : Memref sig .tc .vmem S256x1 .f32) (harg4 : arg4.IsWhole)
    (x0 : Vec F S256x7168 .bf16) (x1 : Vec F S1x7168 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_norm i arg1 harg1 arg2 harg2 arg3 harg3 arg4 harg4) K := by
  simp only [cc0_norm_eq_skeleton]; unfold cc0_norm_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  iexists _; isplitr
  swap; · iexact H3
  ipureintro
  refine (View.read_writes_eq_canon _ _ _ (cover0_3 _)).trans ?_
  rfl

/-! ## The pipeline's proof data -/

/-- The proof data: the arrays as the region finds them; after the body each input at its block and each output at
    `out` of the input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]
theorem after0_3 (c : Dev nD) (t : Fin cfg0.N) : (dat V c).after 3 t = out0_3 (iblk V c 0 t) (iblk V c 1 t) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.R0

end
-- ==== Proof.Kernel.Region1.lean ====
/- The proj0 region (pipeline 1) of `Kernel`, at any contents `V` of the unscoped buffers on entry: each window's
   block at a point, what the body leaves in each output window's buffer, the body's triple, the proof data and the
   body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S1024x7168 := Rect.unit (s := S1024x7168) ![0, 0] S1024x7168.size inb_S1024x7168_S1024x7168_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0
abbrev r1_3 : Rect S1024x8x128 := Rect.unit (s := S1024x8x128) ![0, 0, 0] S1024x2x128.size inb_S1024x8x128_S1024x2x128_0_0_0
abbrev r1_4 : Rect S1024x8x128 := Rect.unit (s := S1024x8x128) ![0, 2, 0] S1024x2x128.size inb_S1024x8x128_S1024x2x128_0_2_0
abbrev r1_5 : Rect S1024x8x128 := Rect.unit (s := S1024x8x128) ![0, 4, 0] S1024x2x128.size inb_S1024x8x128_S1024x2x128_0_4_0
abbrev r1_6 : Rect S1024x8x128 := Rect.unit (s := S1024x8x128) ![0, 6, 0] S1024x2x128.size inb_S1024x8x128_S1024x2x128_0_6_0

/-! ## What the body leaves in each output window's buffer -/

def out1_4 (x0 : Vec F S1024x7168 .fp8e4m3) (x1 : Vec F S1024x1 .f32) (x2 : Vec F S1024x7168 .fp8e4m3) (x3 : Vec F S1x1024 .f32) : Vec F S1024x8x128 .bf16 :=
  View.canon [⟨r1_6, k1_pay5 (View.ld x0 r1_0) (View.ld x2 r1_0) (View.ld x1 r1_1) (View.ld x3 r1_2)⟩,
    ⟨r1_5, k1_pay4 (View.ld x0 r1_0) (View.ld x2 r1_0) (View.ld x1 r1_1) (View.ld x3 r1_2)⟩,
    ⟨r1_4, k1_pay3 (View.ld x0 r1_0) (View.ld x2 r1_0) (View.ld x1 r1_1) (View.ld x3 r1_2)⟩,
    ⟨r1_3, k1_pay2 (View.ld x0 r1_0) (View.ld x2 r1_0) (View.ld x1 r1_1) (View.ld x3 r1_2)⟩]

theorem cover1_4 (p0 : Vec F S1024x2x128 .bf16) (p1 : Vec F S1024x2x128 .bf16) (p2 : Vec F S1024x2x128 .bf16) (p3 : Vec F S1024x2x128 .bf16) (y : S1024x8x128.Idx) :
    ∃ pc ∈ ([⟨r1_6, p0⟩, ⟨r1_5, p1⟩, ⟨r1_4, p2⟩, ⟨r1_3, p3⟩] : List (View.Piece (Elt F) S1024x8x128 .bf16)), y ∈ pc.1.set :=
  View.cover_of_tiled [⟨r1_6, p0⟩, ⟨r1_5, p1⟩, ⟨r1_4, p2⟩, ⟨r1_3, p3⟩] S1024x2x128.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S1024x7168 .fp8e4m3) (harg4 : arg4.IsWhole) (arg5 : Memref sig .tc .vmem S1x1024 .f32) (harg5 : arg5.IsWhole) (arg6 : Memref sig .tc .vmem S1024x8x128 .bf16) (harg6 : arg6.IsWhole)
    (x0 : Vec F S1024x7168 .fp8e4m3) (x1 : Vec F S1024x1 .f32) (x2 : Vec F S1024x7168 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_proj0 i arg2 harg2 arg3 harg3 arg4 harg4 arg5 harg5 arg6 harg6) K := by
  simp only [cc1_proj0_eq_skeleton]; unfold cc1_proj0_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The pipeline's proof data -/

/-- The proof data: the arrays as the region finds them; after the body each input at its block and each output at
    `out` of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out1_4 (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = out1_4 (iblk V c 0 t) (iblk V c 1 t) (iblk V c 2 t) (iblk V c 3 t) := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).Φ t.succ = (dat V c).Φ t.castSucc from rfl,
    show (dat V c).owesAt () t.succ = (dat V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.R1

end
-- ==== Proof.Kernel.Region2.lean ====
/- The proj1 region (pipeline 2) of `Kernel`, at any contents `V` of the unscoped buffers on entry: each window's
   block at a point, what the body leaves in each output window's buffer, the body's triple, the proof data and the
   body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S1024x7168 := Rect.unit (s := S1024x7168) ![0, 0] S1024x7168.size inb_S1024x7168_S1024x7168_0_0
abbrev r2_1 : Rect S1024x1 := Rect.unit (s := S1024x1) ![0, 0] S1024x1.size inb_S1024x1_S1024x1_0_0
abbrev r2_2 : Rect S1x1024 := Rect.unit (s := S1x1024) ![0, 0] S1x1024.size inb_S1x1024_S1x1024_0_0
abbrev r2_3 : Rect S1024x8x128 := Rect.unit (s := S1024x8x128) ![0, 0, 0] S1024x2x128.size inb_S1024x8x128_S1024x2x128_0_0_0
abbrev r2_4 : Rect S1024x8x128 := Rect.unit (s := S1024x8x128) ![0, 2, 0] S1024x2x128.size inb_S1024x8x128_S1024x2x128_0_2_0
abbrev r2_5 : Rect S1024x8x128 := Rect.unit (s := S1024x8x128) ![0, 4, 0] S1024x2x128.size inb_S1024x8x128_S1024x2x128_0_4_0
abbrev r2_6 : Rect S1024x8x128 := Rect.unit (s := S1024x8x128) ![0, 6, 0] S1024x2x128.size inb_S1024x8x128_S1024x2x128_0_6_0

/-! ## What the body leaves in each output window's buffer -/

def out2_4 (x0 : Vec F S1024x7168 .fp8e4m3) (x1 : Vec F S1024x1 .f32) (x2 : Vec F S1024x7168 .fp8e4m3) (x3 : Vec F S1x1024 .f32) : Vec F S1024x8x128 .bf16 :=
  View.canon [⟨r2_6, k2_pay5 (View.ld x0 r2_0) (View.ld x2 r2_0) (View.ld x1 r2_1) (View.ld x3 r2_2)⟩,
    ⟨r2_5, k2_pay4 (View.ld x0 r2_0) (View.ld x2 r2_0) (View.ld x1 r2_1) (View.ld x3 r2_2)⟩,
    ⟨r2_4, k2_pay3 (View.ld x0 r2_0) (View.ld x2 r2_0) (View.ld x1 r2_1) (View.ld x3 r2_2)⟩,
    ⟨r2_3, k2_pay2 (View.ld x0 r2_0) (View.ld x2 r2_0) (View.ld x1 r2_1) (View.ld x3 r2_2)⟩]

theorem cover2_4 (p0 : Vec F S1024x2x128 .bf16) (p1 : Vec F S1024x2x128 .bf16) (p2 : Vec F S1024x2x128 .bf16) (p3 : Vec F S1024x2x128 .bf16) (y : S1024x8x128.Idx) :
    ∃ pc ∈ ([⟨r2_6, p0⟩, ⟨r2_5, p1⟩, ⟨r2_4, p2⟩, ⟨r2_3, p3⟩] : List (View.Piece (Elt F) S1024x8x128 .bf16)), y ∈ pc.1.set :=
  View.cover_of_tiled [⟨r2_6, p0⟩, ⟨r2_5, p1⟩, ⟨r2_4, p2⟩, ⟨r2_3, p3⟩] S1024x2x128.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid2.Coords) (arg2 : Memref sig .tc .vmem S1024x7168 .fp8e4m3) (harg2 : arg2.IsWhole) (arg3 : Memref sig .tc .vmem S1024x1 .f32) (harg3 : arg3.IsWhole) (arg4 : Memref sig .tc .vmem S1024x7168 .fp8e4m3) (harg4 : arg4.IsWhole) (arg5 : Memref sig .tc .vmem S1x1024 .f32) (harg5 : arg5.IsWhole) (arg6 : Memref sig .tc .vmem S1024x8x128 .bf16) (harg6 : arg6.IsWhole)
    (x0 : Vec F S1024x7168 .fp8e4m3) (x1 : Vec F S1024x1 .f32) (x2 : Vec F S1024x7168 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_proj1 i arg2 harg2 arg3 harg3 arg4 harg4 arg5 harg5 arg6 harg6) K := by
  simp only [cc2_proj1_eq_skeleton]; unfold cc2_proj1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _ _ _)

/-! ## The pipeline's proof data -/

/-- The proof data: the arrays as the region finds them; after the body each input at its block and each output at
    `out` of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out2_4 (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = out2_4 (iblk V c 0 t) (iblk V c 1 t) (iblk V c 2 t) (iblk V c 3 t) := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat V c).Φ t.succ = (dat V c).Φ t.castSucc from rfl,
    show (dat V c).owesAt () t.succ = (dat V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.R2

end
-- ==== Proof.Kernel.Region3.lean ====
/- The proj2 region (pipeline 3) of `Kernel`, at any contents `V` of the unscoped buffers on entry: each window's
   block at a point, what the body leaves in each output window's buffer, the body's triple, the proof data and the
   body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_0 : Rect S1024x7168 := Rect.unit (s := S1024x7168) ![0, 0] S1024x7168.size inb_S1024x7168_S1024x7168_0_0
abbrev r3_1 : Rect S1024x1 := Rect.unit (s := S1024x1) ![0, 0] S1024x1.size inb_S1024x1_S1024x1_0_0
abbrev r3_2 : Rect S1x1024 := Rect.unit (s := S1x1024) ![0, 0] S1x1024.size inb_S1x1024_S1x1024_0_0
abbrev r3_3 : Rect S1024x8x128 := Rect.unit (s := S1024x8x128) ![0, 0, 0] S1024x2x128.size inb_S1024x8x128_S1024x2x128_0_0_0
abbrev r3_4 : Rect S1024x8x128 := Rect.unit (s := S1024x8x128) ![0, 2, 0] S1024x2x128.size inb_S1024x8x128_S1024x2x128_0_2_0
abbrev r3_5 : Rect S1024x8x128 := Rect.unit (s := S1024x8x128) ![0, 4, 0] S1024x2x128.size inb_S1024x8x128_S1024x2x128_0_4_0
abbrev r3_6 : Rect S1024x8x128 := Rect.unit (s := S1024x8x128) ![0, 6, 0] S1024x2x128.size inb_S1024x8x128_S1024x2x128_0_6_0

/-! ## What the body leaves in each output window's buffer -/

def out3_4 (x0 : Vec F S1024x7168 .fp8e4m3) (x1 : Vec F S1024x1 .f32) (x2 : Vec F S1024x7168 .fp8e4m3) (x3 : Vec F S1x1024 .f32) : Vec F S1024x8x128 .bf16 :=
  View.canon [⟨r3_6, k3_pay5 (View.ld x0 r3_0) (View.ld x2 r3_0) (View.ld x1 r3_1) (View.ld x3 r3_2)⟩,
    ⟨r3_5, k3_pay4 (View.ld x0 r3_0) (View.ld x2 r3_0) (View.ld x1 r3_1) (View.ld x3 r3_2)⟩,
    ⟨r3_4, k3_pay3 (View.ld x0 r3_0) (View.ld x2 r3_0) (View.ld x1 r3_1) (View.ld x3 r3_2)⟩,
    ⟨r3_3, k3_pay2 (View.ld x0 r3_0) (View.ld x2 r3_0) (View.ld x1 r3_1) (View.ld x3 r3_2)⟩]

theorem cover3_4 (p0 : Vec F S1024x2x128 .bf16) (p1 : Vec F S1024x2x128 .bf16) (p2 : Vec F S1024x2x128 .bf16) (p3 : Vec F S1024x2x128 .bf16) (y : S1024x8x128.Idx) :
    ∃ pc ∈ ([⟨r3_6, p0⟩, ⟨r3_5, p1⟩, ⟨r3_4, p2⟩, ⟨r3_3, p3⟩] : List (View.Piece (Elt F) S1024x8x128 .bf16)), y ∈ pc.1.set :=
  View.cover_of_tiled [⟨r3_6, p0⟩, ⟨r3_5, p1⟩, ⟨r3_4, p2⟩, ⟨r3_3, p3⟩] S1024x2x128.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid3.Coords) (arg2 : Memref sig .tc .vmem S1024x7168 .fp8e4m3) (harg2 : arg2.IsWhole) (arg3 : Memref sig .tc .vmem S1024x1 .f32) (harg3 : arg3.IsWhole) (arg4 : Memref sig .tc .vmem S1024x7168 .fp8e4m3) (harg4 : arg4.IsWhole) (arg5 : Memref sig .tc .vmem S1x1024 .f32) (harg5 : arg5.IsWhole) (arg6 : Memref sig .tc .vmem S1024x8x128 .bf16) (harg6 : arg6.IsWhole)
    (x0 : Vec F S1024x7168 .fp8e4m3) (x1 : Vec F S1024x1 .f32) (x2 : Vec F S1024x7168 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3_proj2 i arg2 harg2 arg3 harg3 arg4 harg4 arg5 harg5 arg6 harg6) K := by
  simp only [cc3_proj2_eq_skeleton]; unfold cc3_proj2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _ _ _ _)

/-! ## The pipeline's proof data -/

/-- The proof data: the arrays as the region finds them; after the body each input at its block and each output at
    `out` of the input blocks. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out3_4 (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := by
  dsimp only [dat]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = out3_4 (iblk V c 0 t) (iblk V c 1 t) (iblk V c 2 t) (iblk V c 3 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d

/-! ## The body obligation, at a generic point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3]
  rw [show (dat V c).Φ t.succ = (dat V c).Φ t.castSucc from rfl,
    show (dat V c).owesAt () t.succ = (dat V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg3.N) :
    defs₀ (F := F) .tc cfg3.body (cfg3.bodyArgs t (cfg3.slots t)) = bodyAt3 t := by
  unfold defs₀; rw [Defs.onTc_tc]

/-- The body obligation at every point. -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.Kernel.R3

end
-- ==== Proof.Kernel.Region4.lean ====
/- The glu region (pipeline 4) of `Kernel`, at any contents `V` of the unscoped buffers on entry: each window's
   block at a point, what the body leaves in each output window's buffer, the body's triple, the proof data and the
   body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Kernel.R4

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The body's accesses -/

abbrev r4_0 : Rect S512x7168 := Rect.unit (s := S512x7168) ![0, 0] S512x7168.size inb_S512x7168_S512x7168_0_0
abbrev r4_1 : Rect S512x1 := Rect.unit (s := S512x1) ![0, 0] S512x1.size inb_S512x1_S512x1_0_0
abbrev r4_2 : Rect S1x512 := Rect.unit (s := S1x512) ![0, 0] S1x512.size inb_S1x512_S1x512_0_0
abbrev rh_0 : Rect S9x512x512 := Rect.unit (s := S9x512x512) ![0, 0, 0] S1x512x512.size inb_S9x512x512_S1x512x512_0_0_0
abbrev rh_1 : Rect S9x512x512 := Rect.unit (s := S9x512x512) ![1, 0, 0] S1x512x512.size inb_S9x512x512_S1x512x512_1_0_0
abbrev rh_2 : Rect S9x512x512 := Rect.unit (s := S9x512x512) ![2, 0, 0] S1x512x512.size inb_S9x512x512_S1x512x512_2_0_0
abbrev rh_3 : Rect S9x512x512 := Rect.unit (s := S9x512x512) ![3, 0, 0] S1x512x512.size inb_S9x512x512_S1x512x512_3_0_0
abbrev rh_4 : Rect S9x512x512 := Rect.unit (s := S9x512x512) ![4, 0, 0] S1x512x512.size inb_S9x512x512_S1x512x512_4_0_0
abbrev rh_5 : Rect S9x512x512 := Rect.unit (s := S9x512x512) ![5, 0, 0] S1x512x512.size inb_S9x512x512_S1x512x512_5_0_0
abbrev rh_6 : Rect S9x512x512 := Rect.unit (s := S9x512x512) ![6, 0, 0] S1x512x512.size inb_S9x512x512_S1x512x512_6_0_0
abbrev rh_7 : Rect S9x512x512 := Rect.unit (s := S9x512x512) ![7, 0, 0] S1x512x512.size inb_S9x512x512_S1x512x512_7_0_0
abbrev rh_8 : Rect S9x512x512 := Rect.unit (s := S9x512x512) ![8, 0, 0] S1x512x512.size inb_S9x512x512_S1x512x512_8_0_0
abbrev rc_0 : Rect S512x4608 := Rect.unit (s := S512x4608) ![0, 0] S512x512.size inb_S512x4608_S512x512_0_0
abbrev rc_1 : Rect S512x4608 := Rect.unit (s := S512x4608) ![0, 512] S512x512.size inb_S512x4608_S512x512_0_512
abbrev rc_2 : Rect S512x4608 := Rect.unit (s := S512x4608) ![0, 1024] S512x512.size inb_S512x4608_S512x512_0_1024
abbrev rc_3 : Rect S512x4608 := Rect.unit (s := S512x4608) ![0, 1536] S512x512.size inb_S512x4608_S512x512_0_1536
abbrev rc_4 : Rect S512x4608 := Rect.unit (s := S512x4608) ![0, 2048] S512x512.size inb_S512x4608_S512x512_0_2048
abbrev rc_5 : Rect S512x4608 := Rect.unit (s := S512x4608) ![0, 2560] S512x512.size inb_S512x4608_S512x512_0_2560
abbrev rc_6 : Rect S512x4608 := Rect.unit (s := S512x4608) ![0, 3072] S512x512.size inb_S512x4608_S512x512_0_3072
abbrev rc_7 : Rect S512x4608 := Rect.unit (s := S512x4608) ![0, 3584] S512x512.size inb_S512x4608_S512x512_0_3584
abbrev rc_8 : Rect S512x4608 := Rect.unit (s := S512x4608) ![0, 4096] S512x512.size inb_S512x4608_S512x512_0_4096

/-! ## What the body computes -/

/-- The block of `h` a point computes, from the input windows' blocks, as it is stored in the scratch. -/
def hpay (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) : FVec F S1x512x512 .f32 :=
  k4_pay19 (View.ld x1 r4_1) (View.ld x0 r4_0) (View.ld x2 r4_0) (View.ld x4 r4_2) (View.ld x0 r4_0) (View.ld x3 r4_0) (View.ld x5 r4_2)
/-- Its rows' largest magnitudes. -/
def rowmax (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) : FVec F S512x1 .f32 :=
  k4_pay20 (View.ld x1 r4_1) (View.ld x0 r4_0) (View.ld x2 r4_0) (View.ld x4 r4_2) (View.ld x0 r4_0) (View.ld x3 r4_0) (View.ld x5 r4_2)
/-- The running largest magnitudes after the point, from the ones before it. -/
def amaxStep (i : grid4.Coords) (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) (xa : Vec F S512x1 .f32) : FVec F S512x1 .f32 :=
  k4_pay1 (rowmax x0 x1 x2 x3 x4 x5) (Scalar.cmpi .eq (BitVec.ofNat 32 (i 1).val) 0#32) (k4_pay21 (View.ld x1 r4_1) (View.ld x0 r4_0) (View.ld x2 r4_0) (View.ld x4 r4_2) (View.ld x0 r4_0) (View.ld x3 r4_0) (View.ld x5 r4_2) (View.ld xa r4_1))
/-- The exponent field the last point of a row block finds, from the largest magnitudes. -/
def aexp (a : Vec F S512x1 .f32) : IVec S512x1 32 :=
  k4_pay8 (k4_pay5 a) (k4_pay6 a) (k4_pay7 a) 23#32
/-- The scales stored at the last point of a row block. -/
def out4_7 (a : Vec F S512x1 .f32) : Vec F S512x1 .f32 :=
  k4_pay9 (k4_pay5 a) (k4_pay6 a) (k4_pay7 a) 23#32
/-- The codes stored at the last point of a row block, from the largest magnitudes and the nine blocks of `h`. -/
def out4_6 (a : Vec F S512x1 .f32) (H : Fin 9 → Vec F S1x512x512 .f32) : Vec F S512x4608 .fp8e4m3 :=
  View.canon [⟨rc_8, k4_pay4 (k4_pay10 (F := F) (aexp a)) (H 8)⟩,
    ⟨rc_7, k4_pay3 (k4_pay10 (F := F) (aexp a)) (H 7)⟩,
    ⟨rc_6, k4_pay2 (k4_pay10 (F := F) (aexp a)) (H 6)⟩,
    ⟨rc_5, k4_pay17 (k4_pay10 (F := F) (aexp a)) (H 5)⟩,
    ⟨rc_4, k4_pay16 (k4_pay10 (F := F) (aexp a)) (H 4)⟩,
    ⟨rc_3, k4_pay15 (k4_pay10 (F := F) (aexp a)) (H 3)⟩,
    ⟨rc_2, k4_pay14 (k4_pay13 (aexp a) (H 2))⟩,
    ⟨rc_1, k4_pay12 (aexp a) (H 1)⟩,
    ⟨rc_0, k4_pay11 (aexp a) (H 0)⟩]

theorem cover4_6 (p0 p1 p2 p3 p4 p5 p6 p7 p8 : Vec F S512x512 .fp8e4m3) (y : S512x4608.Idx) :
    ∃ pc ∈ ([⟨rc_8, p8⟩, ⟨rc_7, p7⟩, ⟨rc_6, p6⟩, ⟨rc_5, p5⟩, ⟨rc_4, p4⟩, ⟨rc_3, p3⟩, ⟨rc_2, p2⟩, ⟨rc_1, p1⟩, ⟨rc_0, p0⟩] : List (View.Piece (Elt F) S512x4608 .fp8e4m3)), y ∈ pc.1.set :=
  View.cover_of_tiled [⟨rc_8, p8⟩, ⟨rc_7, p7⟩, ⟨rc_6, p6⟩, ⟨rc_5, p5⟩, ⟨rc_4, p4⟩, ⟨rc_3, p3⟩, ⟨rc_2, p2⟩, ⟨rc_1, p1⟩, ⟨rc_0, p0⟩] S512x512.size (by rfl) y

/-- The nine blocks of the scratch. -/
def rows (xh : Vec F S9x512x512 .f32) (j : Fin 9) : Vec F S1x512x512 .f32 := match j with
  | 0 => View.ld xh rh_0
  | 1 => View.ld xh rh_1
  | 2 => View.ld xh rh_2
  | 3 => View.ld xh rh_3
  | 4 => View.ld xh rh_4
  | 5 => View.ld xh rh_5
  | 6 => View.ld xh rh_6
  | 7 => View.ld xh rh_7
  | 8 => View.ld xh rh_8

set_option maxHeartbeats 1000000 in
theorem sound_mid (c : Dev nD) (E : Set ℕ) (i : grid4.Coords) (hi : ¬ k4_cond1 i = 1#1) (arg2 : Memref sig .tc .vmem S512x7168 .fp8e4m3) (harg2 : arg2.IsWhole) (arg3 : Memref sig .tc .vmem S512x1 .f32) (harg3 : arg3.IsWhole) (arg4 : Memref sig .tc .vmem S512x7168 .fp8e4m3) (harg4 : arg4.IsWhole) (arg5 : Memref sig .tc .vmem S512x7168 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4608 .fp8e4m3) (harg8 : arg8.IsWhole) (arg9 : Memref sig .tc .vmem S512x1 .f32) (harg9 : arg9.IsWhole) (arg10 : Memref sig .tc .vmem S9x512x512 .f32) (harg10 : arg10.IsWhole) (arg11 : Memref sig .tc .vmem S512x1 .f32) (harg11 : arg11.IsWhole)
    (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) (xh : Vec F S9x512x512 .f32) (xa : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xh ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (VecWindow.put xh (k4_off1 i) S1x512x512.size (hpay x0 x1 x2 x3 x4 x5)) ∗ owns (c : Thread nD τ) arg11 fullShare (amaxStep i x0 x1 x2 x3 x4 x5 xa)) -∗ K ⟨⟩))
      ⊢ wp frame (wpE (defs₀ (F := F)) Variants.none c none) E (cc4_glu i arg2 harg2 arg3 harg3 arg4 harg4 arg5 harg5 arg6 harg6 arg7 harg7 arg8 harg8 arg9 harg9 arg10 harg10 arg11 harg11) K := by
  simp only [cc4_glu_eq_skeleton]; unfold cc4_glu_skel
  simp only [k4_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fh, %hfh, Hh⟩, ⟨%fa, %hfa, Ha⟩, Hk⟩
  subst hf0 hf1 hf2 hf3 hf4 hf5 hfh hfa
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [Hh]
  · iexists _; isplitr
    swap; · iexact Hh
    ipureintro
    exact View.read_writes_cons_put _ _ _ _ [] rfl
  iexists _; isplitr
  swap; · iexact Ha
  ipureintro
  exact View.read_writes_full _ _ _ _ _

set_option maxHeartbeats 1000000 in
theorem sound_last (c : Dev nD) (E : Set ℕ) (i : grid4.Coords) (hi : k4_cond1 i = 1#1) (arg2 : Memref sig .tc .vmem S512x7168 .fp8e4m3) (harg2 : arg2.IsWhole) (arg3 : Memref sig .tc .vmem S512x1 .f32) (harg3 : arg3.IsWhole) (arg4 : Memref sig .tc .vmem S512x7168 .fp8e4m3) (harg4 : arg4.IsWhole) (arg5 : Memref sig .tc .vmem S512x7168 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4608 .fp8e4m3) (harg8 : arg8.IsWhole) (arg9 : Memref sig .tc .vmem S512x1 .f32) (harg9 : arg9.IsWhole) (arg10 : Memref sig .tc .vmem S9x512x512 .f32) (harg10 : arg10.IsWhole) (arg11 : Memref sig .tc .vmem S512x1 .f32) (harg11 : arg11.IsWhole)
    (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) (xh : Vec F S9x512x512 .f32) (xa : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xh ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out4_6 (amaxStep i x0 x1 x2 x3 x4 x5 xa) (rows (VecWindow.put xh (k4_off1 i) S1x512x512.size (hpay x0 x1 x2 x3 x4 x5)))) ∗ owns (c : Thread nD τ) arg9 fullShare (out4_7 (amaxStep i x0 x1 x2 x3 x4 x5 xa)) ∗ owns (c : Thread nD τ) arg10 fullShare (VecWindow.put xh (k4_off1 i) S1x512x512.size (hpay x0 x1 x2 x3 x4 x5)) ∗ owns (c : Thread nD τ) arg11 fullShare (amaxStep i x0 x1 x2 x3 x4 x5 xa)) -∗ K ⟨⟩))
      ⊢ wp frame (wpE (defs₀ (F := F)) Variants.none c none) E (cc4_glu i arg2 harg2 arg3 harg3 arg4 harg4 arg5 harg5 arg6 harg6 arg7 harg7 arg8 harg8 arg9 harg9 arg10 harg10 arg11 harg11) K := by
  simp only [cc4_glu_eq_skeleton]; unfold cc4_glu_skel
  simp only [k4_part5_eq_skeleton, k4_part1_eq_skeleton, k4_part2_eq_skeleton, k4_part3_eq_skeleton, k4_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fh, %hfh, Hh⟩, ⟨%fa, %hfa, Ha⟩, Hk⟩
  subst hf0 hf1 hf2 hf3 hf4 hf5 hfh hfa
  sl_exec
  have ea : sound_last.sl.v42 c i arg2 arg3 arg4 arg5 arg6 arg7 arg11 f0 f1 f2 f3 f4 f5 fa = (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa)) := View.readCov_full _ _ _ _ _
  have e5 : sound_last.sl.r_5 c i arg2 arg3 arg4 arg5 arg6 arg7 arg11 f0 f1 f2 f3 f4 f5 fa = aexp (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa)) := by
    rw [← ea]; rfl
  have e9 : sound_last.sl.r_6 c i arg2 arg3 arg4 arg5 arg6 arg7 arg11 f0 f1 f2 f3 f4 f5 fa = out4_7 (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa)) := by
    rw [← ea]; rfl
  have e6 : sound_last.sl.r_7 c i arg2 arg3 arg4 arg5 arg6 arg7 arg11 f0 f1 f2 f3 f4 f5 fa = k4_pay10 (F := F) (aexp (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa))) := by
    rw [← e5]; rfl
  have eh : View.read (Elt F) arg10.view (arg10.view.writes (Elt F) fh (sound_last.sl.Hh_1 c i arg2 arg3 arg4 arg5 arg6 arg7 f0 f1 f2 f3 f4 f5)) = (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) :=
    View.read_writes_cons_put _ _ _ _ [] rfl
  have v0 : sound_last.sl.v135 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 0 := by
    rw [← eh]; rfl
  have v1 : sound_last.sl.v145 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 1 := by
    rw [← eh]; rfl
  have v2 : sound_last.sl.v155 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 2 := by
    rw [← eh]; rfl
  have v3 : sound_last.sl.v165 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 3 := by
    rw [← eh]; rfl
  have v4 : sound_last.sl.v175 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 4 := by
    rw [← eh]; rfl
  have v5 : sound_last.sl.v185 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 5 := by
    rw [← eh]; rfl
  have v6 : sound_last.sl.v195 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 6 := by
    rw [← eh]; rfl
  have v7 : sound_last.sl.v205 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 7 := by
    rw [← eh]; rfl
  have v8 : sound_last.sl.v215 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 8 := by
    rw [← eh]; rfl
  have e8 : sound_last.sl.r_8 c i arg2 arg3 arg4 arg5 arg6 arg7 arg10 arg11 f0 f1 f2 f3 f4 f5 fh fa = k4_pay13 (aexp (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa))) (rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 2) := by
    rw [← e5, ← v2]; rfl
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_6 _ _ _ _ _ _ _ _ _)).trans ?_
    rw [e6, e5, e8, v0, v1, v3, v4, v5, v6, v7, v8]
    rfl
  isplitl [H7]
  · iexists _; isplitr
    swap; · iexact H7
    ipureintro
    exact (View.read_writes_full _ _ _ _ _).trans e9
  isplitl [Hh]
  · iexists _; isplitr
    swap; · iexact Hh
    ipureintro
    exact View.read_writes_cons_put _ _ _ _ [] rfl
  iexists _; isplitr
  swap; · iexact Ha
  ipureintro
  exact View.read_writes_full _ _ _ _ _
/-! ## The windows' blocks -/

/-- Window `w`'s block at point `t`. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk V c 5 t) (t : Fin cfg4.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The scratch, point by point -/

/-- The grid point of a number. -/
def pt (n : ℕ) : Fin cfg4.N := ⟨n % 144, (Nat.mod_lt _ (by decide)).trans_eq N_4.symm⟩
theorem pt_val (t : Fin cfg4.N) : pt t.val = t := Fin.ext (Nat.mod_eq_of_lt (t.isLt.trans_eq N_4))

/-- The block of `h` point `n` computes. -/
def hval (c : Dev nD) (n : ℕ) : Vec F S1x512x512 .f32 := hpay (iblk V c 0 (pt n)) (iblk V c 1 (pt n)) (iblk V c 2 (pt n)) (iblk V c 3 (pt n)) (iblk V c 4 (pt n)) (iblk V c 5 (pt n))
/-- Its rows' largest magnitudes. -/
def rmax (c : Dev nD) (n : ℕ) : Vec F S512x1 .f32 := rowmax (iblk V c 0 (pt n)) (iblk V c 1 (pt n)) (iblk V c 2 (pt n)) (iblk V c 3 (pt n)) (iblk V c 4 (pt n)) (iblk V c 5 (pt n))
/-- The largest magnitudes over the points of the row block up to `n`. -/
def amx (c : Dev nD) : ℕ → Vec F S512x1 .f32
  | 0 => rmax V c 0
  | n + 1 => if (n + 1) % 9 = 0 then rmax V c (n + 1) else maximumf (amx c n) (rmax V c (n + 1))

theorem off1_eq : ∀ t : Fin grid4.N, k4_off1 (grid4.coords t) = ![t.val % 9, 0, 0] := by decide +kernel
theorem cond1_iff : ∀ t : Fin grid4.N, k4_cond1 (grid4.coords t) = 1#1 ↔ t.val % 9 = 8 := by decide +kernel
theorem first_eq : ∀ t : Fin grid4.N, Scalar.cmpi .eq (BitVec.ofNat 32 ((grid4.coords t) 1).val) 0#32 = if t.val % 9 = 0 then 1#1 else 0#1 := by decide +kernel

theorem ld_r4_1 (x : Vec F S512x1 .f32) : View.ld x r4_1 = x := View.ld_unit_zero (by funext a; fin_cases a <;> rfl) _ x

theorem rows_eq (xh : Vec F S9x512x512 .f32) (j : Fin 9) (h : ∀ a, (![j.val, 0, 0] : Fin 3 → ℕ) a + S1x512x512.size a ≤ S9x512x512.size a) :
    rows xh j = VecWindow.window xh ![j.val, 0, 0] S1x512x512.size h := by
  fin_cases j <;> rfl

theorem rows_put (xh : Vec F S9x512x512 .f32) (w : Vec F S1x512x512 .f32) (k j : Fin 9) :
    rows (VecWindow.put xh ![k.val, 0, 0] S1x512x512.size w) j = if j = k then w else rows xh j := by
  have hb : ∀ j : Fin 9, ∀ a, (![j.val, 0, 0] : Fin 3 → ℕ) a + S1x512x512.size a ≤ S9x512x512.size a := by decide
  rw [rows_eq _ j (hb j)]
  by_cases h : j = k
  · subst h; rw [if_pos rfl]; exact VecWindow.window_put_same _ _ _ _ _
  · rw [if_neg h, rows_eq _ j (hb j)]
    refine VecWindow.window_put_of_disjoint _ _ _ _ _ _ _ 0 ?_
    have h' : j.val ≠ k.val := fun e => h (Fin.ext e)
    show j.val + 1 ≤ k.val ∨ k.val + 1 ≤ j.val
    omega

theorem amaxStep_eq (c : Dev nD) (t : Fin cfg4.N) (xa : Vec F S512x1 .f32) (h : 0 < t.val % 9 → xa = amx V c (t.val - 1)) :
    amaxStep (grid4.coords t) (iblk V c 0 t) (iblk V c 1 t) (iblk V c 2 t) (iblk V c 3 t) (iblk V c 4 t) (iblk V c 5 t) xa = amx V c t.val := by
  unfold amaxStep k4_pay1
  rw [first_eq, ld_r4_1 xa]
  have hr : rowmax (iblk V c 0 t) (iblk V c 1 t) (iblk V c 2 t) (iblk V c 3 t) (iblk V c 4 t) (iblk V c 5 t) = rmax V c t.val := by unfold rmax; rw [pt_val]
  obtain h0 | h0 := Nat.eq_zero_or_pos (t.val % 9)
  · rw [if_pos h0]
    refine (shapeCast_self _ _).trans ?_
    refine (if_pos rfl).trans ?_
    rw [hr]
    obtain he | ⟨n, he⟩ : t.val = 0 ∨ ∃ n, t.val = n + 1 := by cases t.val <;> simp
    · rw [he]; rfl
    · rw [he] at h0 ⊢; unfold amx; rw [if_pos h0]
  · rw [if_neg (by omega)]
    refine (shapeCast_self _ _).trans ?_
    refine (if_neg (by decide)).trans ?_
    unfold k4_pay21
    show maximumf xa (rowmax _ _ _ _ _ _) = _
    rw [hr, h h0]
    obtain ⟨n, he⟩ : ∃ n, t.val = n + 1 := ⟨t.val - 1, by omega⟩
    rw [he] at h0 ⊢
    conv_rhs => unfold amx
    rw [if_neg (by omega)]; rfl

/-- What the scratch holds before point `n`: the row block's blocks of `h` so far, and their largest magnitudes. -/
def Inv (c : Dev nD) (n : ℕ) (xh : Vec F S9x512x512 .f32) (xa : Vec F S512x1 .f32) : Prop :=
  (∀ j : Fin 9, j.val < n % 9 → rows xh j = hval V c (n - n % 9 + j.val)) ∧ (0 < n % 9 → xa = amx V c (n - 1))

theorem step_rows (c : Dev nD) (t : Fin cfg4.N) (xh : Vec F S9x512x512 .f32) (xa : Vec F S512x1 .f32) (h : Inv V c t.val xh xa) (j : Fin 9)
    (hj : j.val ≤ t.val % 9) :
    rows (VecWindow.put xh (k4_off1 (grid4.coords t)) S1x512x512.size (hpay (iblk V c 0 t) (iblk V c 1 t) (iblk V c 2 t) (iblk V c 3 t) (iblk V c 4 t) (iblk V c 5 t))) j = hval V c (t.val - t.val % 9 + j.val) := by
  rw [off1_eq]
  refine (rows_put xh _ ⟨t.val % 9, Nat.mod_lt _ (by decide)⟩ j).trans ?_
  by_cases e : j = ⟨t.val % 9, Nat.mod_lt _ (by decide)⟩
  · rw [if_pos e]
    have e' : t.val - t.val % 9 + j.val = t.val := by rw [e]; have := Nat.mod_le t.val 9; show t.val - t.val % 9 + t.val % 9 = _; omega
    rw [e']; unfold hval; rw [pt_val]
  · rw [if_neg e]
    exact h.1 j (lt_of_le_of_ne hj fun e' => e (Fin.ext e'))

theorem step_inv (c : Dev nD) (t : Fin cfg4.N) (xh : Vec F S9x512x512 .f32) (xa : Vec F S512x1 .f32) (h : Inv V c t.val xh xa) :
    Inv V c (t.val + 1) (VecWindow.put xh (k4_off1 (grid4.coords t)) S1x512x512.size (hpay (iblk V c 0 t) (iblk V c 1 t) (iblk V c 2 t) (iblk V c 3 t) (iblk V c 4 t) (iblk V c 5 t)))
      (amaxStep (grid4.coords t) (iblk V c 0 t) (iblk V c 1 t) (iblk V c 2 t) (iblk V c 3 t) (iblk V c 4 t) (iblk V c 5 t) xa) := by
  constructor
  · intro j hj
    have e : (t.val + 1) - (t.val + 1) % 9 = t.val - t.val % 9 := by omega
    rw [e]; exact step_rows V c t xh xa h j (by omega)
  · intro _; exact amaxStep_eq V c t xa h.2

/-! ## The pipeline's proof data -/

/-- The region's invariant: the scratch at contents the points so far explain, the other scoped buffers and the
    generator register at anything. -/
def Phi (c : Dev nD) (n : ℕ) : sProp 𝕄 :=
  iprop(∃ xh xa, ⌜Inv V c n xh xa⌝ ∗ owns (c : Thread nD τ) (Memref.whole cc4_scratch0) fullShare xh ∗ owns (c : Thread nD τ) (Memref.whole cc4_scratch1) fullShare xa
    ∗ Pipeline.scopedRestBut (Ix := Unit) (Name := ℕ) (U := UR sig nD τ) (Lvl := ℕ) (Val := Elt F) spec4 c [cc4_scratch0, cc4_scratch1] ∗ ∃ r, prngReg c r)

/-- The codes and scales stored for point `n`'s row block, when `n` is its last point. -/
def codesAt (c : Dev nD) (n : ℕ) : Vec F S512x4608 .fp8e4m3 := out4_6 (amx V c n) (fun j => hval V c (n - n % 9 + j.val))
def scalesAt (c : Dev nD) (n : ℕ) : Vec F S512x1 .f32 := out4_7 (amx V c n)

/-- The proof data: the arrays as the region finds them; after the body each input at its block and each output at
    what a row block's last point stores. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => codesAt V c t.val
    | ⟨7, _⟩ => scalesAt V c t.val
  Φ t := Phi V c t.val
  q w := Pipeline.shareOf spec4 w
  owed _ := 0

theorem A_eq (c : Dev nD) (w : Fin cfg4.W) : (dat V c).A w = V c (Pipeline.arrRef spec4 w) := by
  dsimp only [dat]

theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = iblk V c 3 t := by dsimp only [dat]
theorem after4_4 (c : Dev nD) (t : Fin cfg4.N) : (dat V c).after 4 t = iblk V c 4 t := by dsimp only [dat]
theorem after4_5 (c : Dev nD) (t : Fin cfg4.N) : (dat V c).after 5 t = iblk V c 5 t := by dsimp only [dat]
theorem after4_6 (c : Dev nD) (t : Fin cfg4.N) : (dat V c).after 6 t = codesAt V c t.val := by dsimp only [dat]
theorem after4_7 (c : Dev nD) (t : Fin cfg4.N) : (dat V c).after 7 t = scalesAt V c t.val := by dsimp only [dat]

theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d
theorem before4_3 (c : Dev nD) (t : Fin cfg4.N) (d) : (dat V c).before 3 t d = iblk V c 3 t :=
  before4_3_of V (dat V c) (A_eq V c 3) (after4_3 V c) t d
theorem before4_4 (c : Dev nD) (t : Fin cfg4.N) (d) : (dat V c).before 4 t d = iblk V c 4 t :=
  before4_4_of V (dat V c) (A_eq V c 4) (after4_4 V c) t d
theorem before4_5 (c : Dev nD) (t : Fin cfg4.N) (d) : (dat V c).before 5 t d = iblk V c 5 t :=
  before4_5_of V (dat V c) (A_eq V c 5) (after4_5 V c) t d

/-- Entering the region, and leaving it. -/
theorem hin (c : Dev nD) : Pipeline.ΦA (Val := Elt F) (U := UR sig nD τ) spec4 c ⊢ (dat V c).Φ 0 := by
  show Pipeline.ΦA (Val := Elt F) (U := UR sig nD τ) spec4 c ⊢ Phi V c 0
  unfold Pipeline.ΦA Phi
  rw [scopedRest4_split]
  simp only [owns_whole]
  iintro ⟨⟨⟨⟨%f, Hf⟩, ⟨%g, Hg⟩⟩, Hr⟩, Hp⟩
  iexists f; iexists g
  isplitr
  · ipureintro; exact ⟨fun j hj => absurd hj (by simp), fun h => absurd h (by simp)⟩
  isplitl [Hf]; · iexact Hf
  isplitl [Hg]; · iexact Hg
  isplitl [Hr]; · iexact Hr
  iexact Hp

theorem hout (c : Dev nD) (n : ℕ) : Phi V c n ⊢ Pipeline.ΦA (Val := Elt F) (U := UR sig nD τ) spec4 c := by
  unfold Pipeline.ΦA Phi
  rw [scopedRest4_split]
  simp only [owns_whole]
  iintro ⟨%xh, %xa, -, Hf, Hg, Hr, Hp⟩
  isplitr [Hp]
  · isplitr [Hr]
    · isplitl [Hf]
      · iexists xh; iexact Hf
      · iexists xa; iexact Hg
    · iexact Hr
  · iexact Hp

/-! ## The body obligation, at a generic point -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ (dat V c).leavesExact 6 t
    ∗ (dat V c).leavesExact 7 t)

theorem idle6 (t : Fin cfg4.N) : cfg4.idle 6 (cfg4.grid.coords t) = !(k4_cond1 (grid4.coords t) == 1#1) := rfl
theorem idle7 (t : Fin cfg4.N) : cfg4.idle 7 (cfg4.grid.coords t) = !(k4_cond1 (grid4.coords t) == 1#1) := rfl

set_option maxHeartbeats 1000000 in
theorem sound_body (c : Dev nD) (t : Fin cfg4.N) :
    bodyPre V c t ⊢ wp frame (wpE (defs₀ (F := F)) Variants.none c none) Set.univ (bodyAt4 t) (fun _ => bodyPost V c t) := by
  by_cases hi : k4_cond1 (grid4.coords t) = 1#1
  · have h8 := (cond1_iff t).1 hi
    have l6 : (dat V c).leavesExact 6 t = owns (c : Thread nD τ) (st4_6 t) fullShare (codesAt V c t.val) := by
      unfold Dat.leavesExact; rw [idle6, hi]
      show owns (c : Thread nD τ) (st4_6 t) fullShare ((dat V c).after 6 t) = _
      rw [after4_6]
    have l7 : (dat V c).leavesExact 7 t = owns (c : Thread nD τ) (st4_7 t) fullShare (scalesAt V c t.val) := by
      unfold Dat.leavesExact; rw [idle7, hi]
      show owns (c : Thread nD τ) (st4_7 t) fullShare ((dat V c).after 7 t) = _
      rw [after4_7]
    unfold bodyPre bodyPost bodyAt4
    rw [l6, l7]
    simp only [before4_0, before4_1, before4_2, before4_3, before4_4, before4_5]
    rw [show (dat V c).Φ t.succ = Phi V c (t.val + 1) from rfl, show (dat V c).Φ t.castSucc = Phi V c t.val from rfl,
      show (dat V c).owesAt () t.succ = (dat V c).owesAt () t.castSucc from rfl,
      after4_0, after4_1, after4_2, after4_3, after4_4, after4_5]
    unfold Phi
    iintro ⟨⟨%xh, %xa, %hI, Hh, Ha, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_last c Set.univ (grid4.coords t) hi _ _ _ _ _ _ _ _ _ _ _ _ _ _ _ _ _ _ _ _ (iblk V c 0 t) (iblk V c 1 t) (iblk V c 2 t) (iblk V c 3 t) (iblk V c 4 t) (iblk V c 5 t) xh xa _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hh]; · iexact Hh
    isplitl [Ha]; · iexact Ha
    have e6 : out4_6 (amaxStep (grid4.coords t) (iblk V c 0 t) (iblk V c 1 t) (iblk V c 2 t) (iblk V c 3 t) (iblk V c 4 t) (iblk V c 5 t) xa) (rows (VecWindow.put xh (k4_off1 (grid4.coords t)) S1x512x512.size (hpay (iblk V c 0 t) (iblk V c 1 t) (iblk V c 2 t) (iblk V c 3 t) (iblk V c 4 t) (iblk V c 5 t)))) = codesAt V c t.val := by
      unfold codesAt
      rw [amaxStep_eq V c t xa hI.2]
      congr 1
      funext j
      exact step_rows V c t xh xa hI j (by omega)
    have e7 : out4_7 (amaxStep (grid4.coords t) (iblk V c 0 t) (iblk V c 1 t) (iblk V c 2 t) (iblk V c 3 t) (iblk V c 4 t) (iblk V c 5 t) xa) = scalesAt V c t.val := by
      unfold scalesAt
      rw [amaxStep_eq V c t xa hI.2]
    rw [e6, e7]
    iintro ⟨H0, H1, H2, H3, H4, H5, H6, H7, Hh, Ha⟩
    isplitl [Hh Ha Hr Hp]
    · iexists _; iexists _
      isplitr
      swap
      · isplitl [Hh]; · iexact Hh
        isplitl [Ha]; · iexact Ha
        isplitl [Hr]; · iexact Hr
        iexact Hp
      ipureintro; exact step_inv V c t xh xa hI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h8 : t.val % 9 ≠ 8 := fun h => hi ((cond1_iff t).2 h)
    have hb : (!(k4_cond1 (grid4.coords t) == 1#1)) = true := by simpa using hi
    have f6 : (cfg4.win 6).flush t = false := Bool.eq_false_iff.2 fun h => h8 ((flush4_6 t).1 h)
    have f7 : (cfg4.win 7).flush t = false := Bool.eq_false_iff.2 fun h => h8 ((flush4_7 t).1 h)
    unfold bodyPre bodyPost bodyAt4
    rw [(dat V c).leavesExact_idle 6 t ((idle6 t).trans hb) f6, (dat V c).leavesExact_idle 7 t ((idle7 t).trans hb) f7]
    simp only [before4_0, before4_1, before4_2, before4_3, before4_4, before4_5]
    rw [show (dat V c).Φ t.succ = Phi V c (t.val + 1) from rfl, show (dat V c).Φ t.castSucc = Phi V c t.val from rfl,
      show (dat V c).owesAt () t.succ = (dat V c).owesAt () t.castSucc from rfl,
      after4_0, after4_1, after4_2, after4_3, after4_4, after4_5]
    unfold Phi
    iintro ⟨⟨%xh, %xa, %hI, Hh, Ha, Hr, Hp⟩, Ho, ⟨%d0, H0⟩, ⟨%d1, H1⟩, ⟨%d2, H2⟩, ⟨%d3, H3⟩, ⟨%d4, H4⟩, ⟨%d5, H5⟩, H6, H7⟩
    iapply (sound_mid c Set.univ (grid4.coords t) hi _ _ _ _ _ _ _ _ _ _ _ _ _ _ _ _ _ _ _ _ (iblk V c 0 t) (iblk V c 1 t) (iblk V c 2 t) (iblk V c 3 t) (iblk V c 4 t) (iblk V c 5 t) xh xa _)
    isplitl [H0]; · iexact H0
    isplitl [H1]; · iexact H1
    isplitl [H2]; · iexact H2
    isplitl [H3]; · iexact H3
    isplitl [H4]; · iexact H4
    isplitl [H5]; · iexact H5
    isplitl [Hh]; · iexact Hh
    isplitl [Ha]; · iexact Ha
    iintro ⟨H0, H1, H2, H3, H4, H5, Hh, Ha⟩
    isplitl [Hh Ha Hr Hp]
    · iexists _; iexists _
      isplitr
      swap
      · isplitl [Hh]; · iexact Hh
        isplitl [Ha]; · iexact Ha
        isplitl [Hr]; · iexact Hr
        iexact Hp
      ipureintro; exact step_inv V c t xh xa hI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg4.N) :
    defs₀ (F := F) .tc cfg4.body (cfg4.bodyArgs t (cfg4.slots t)) = bodyAt4 t := by
  unfold defs₀; rw [Defs.onTc_tc]

/-- The body obligation at every point. -/
theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

end Cert.Kernel.R4

end
-- ==== Proof.Kernel.Region5.lean ====
/- The down region (pipeline 5) of `Kernel`, at any contents `V` of the unscoped buffers on entry: each window's
   block at a point, what the body leaves in each output window's buffer, the body's triple, the proof data and the
   body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.R5

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk V c 2 t) (t : Fin cfg5.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk V c 3 t) (t : Fin cfg5.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk V c 4 t) (t : Fin cfg5.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r5_0 : Rect S1024x4608 := Rect.unit (s := S1024x4608) ![0, 0] S1024x4608.size inb_S1024x4608_S1024x4608_0_0
abbrev r5_1 : Rect S1024x1 := Rect.unit (s := S1024x1) ![0, 0] S1024x1.size inb_S1024x1_S1024x1_0_0
abbrev r5_2 : Rect S1x1024 := Rect.unit (s := S1x1024) ![0, 0] S1x1024.size inb_S1x1024_S1x1024_0_0
abbrev r5_3 : Rect S1024x1024 := Rect.unit (s := S1024x1024) ![0, 0] S1024x1024.size inb_S1024x1024_S1024x1024_0_0

/-! ## What the body leaves in each output window's buffer -/

def out5_5 (x0 : Vec F S1024x4608 .fp8e4m3) (x1 : Vec F S1024x1 .f32) (x2 : Vec F S1024x4608 .fp8e4m3) (x3 : Vec F S1x1024 .f32) (x4 : Vec F S1024x1024 .bf16) : Vec F S1024x1024 .bf16 :=
  View.canon [⟨r5_3, k5_pay1 (View.ld x0 r5_0) (View.ld x2 r5_0) (View.ld x1 r5_1) (View.ld x3 r5_2) (View.ld x4 r5_3)⟩]

theorem cover5_5 (p0 : Vec F S1024x1024 .bf16) (y : S1024x1024.Idx) :
    ∃ pc ∈ ([⟨r5_3, p0⟩] : List (View.Piece (Elt F) S1024x1024 .bf16)), y ∈ pc.1.set :=
  View.cover_of_tiled [⟨r5_3, p0⟩] S1024x1024.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid5.Coords) (arg2 : Memref sig .tc .vmem S1024x4608 .fp8e4m3) (harg2 : arg2.IsWhole) (arg3 : Memref sig .tc .vmem S1024x1 .f32) (harg3 : arg3.IsWhole) (arg4 : Memref sig .tc .vmem S1024x4608 .fp8e4m3) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x4608 .fp8e4m3) (x1 : Vec F S1024x1 .f32) (x2 : Vec F S1024x4608 .fp8e4m3) (x3 : Vec F S1x1024 .f32) (x4 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5_down i arg2 harg2 arg3 harg3 arg4 harg4 arg5 harg5 arg6 harg6 arg7 harg7) K := by
  simp only [cc5_down_eq_skeleton]; unfold cc5_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data: the arrays as the region finds them; after the body each input at its block and each output at
    `out` of the input blocks. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5_5 (iblk V c 0 t) (iblk V c 1 t) (iblk V c 2 t) (iblk V c 3 t) (iblk V c 4 t)
  Φ _ := Pipeline.ΦA spec5 c
  q _ := fullShare
  owed _ := 0

theorem A_eq (c : Dev nD) (w : Fin cfg5.W) : (dat V c).A w = V c (Pipeline.arrRef spec5 w) := by
  dsimp only [dat]

theorem after5_0 (c : Dev nD) (t : Fin cfg5.N) : (dat V c).after 0 t = iblk V c 0 t := by dsimp only [dat]
theorem after5_1 (c : Dev nD) (t : Fin cfg5.N) : (dat V c).after 1 t = iblk V c 1 t := by dsimp only [dat]
theorem after5_2 (c : Dev nD) (t : Fin cfg5.N) : (dat V c).after 2 t = iblk V c 2 t := by dsimp only [dat]
theorem after5_3 (c : Dev nD) (t : Fin cfg5.N) : (dat V c).after 3 t = iblk V c 3 t := by dsimp only [dat]
theorem after5_4 (c : Dev nD) (t : Fin cfg5.N) : (dat V c).after 4 t = iblk V c 4 t := by dsimp only [dat]
theorem after5_5 (c : Dev nD) (t : Fin cfg5.N) : (dat V c).after 5 t = out5_5 (iblk V c 0 t) (iblk V c 1 t) (iblk V c 2 t) (iblk V c 3 t) (iblk V c 4 t) := by dsimp only [dat]

theorem before5_0 (c : Dev nD) (t : Fin cfg5.N) (d) : (dat V c).before 0 t d = iblk V c 0 t :=
  before5_0_of V (dat V c) (A_eq V c 0) (after5_0 V c) t d
theorem before5_1 (c : Dev nD) (t : Fin cfg5.N) (d) : (dat V c).before 1 t d = iblk V c 1 t :=
  before5_1_of V (dat V c) (A_eq V c 1) (after5_1 V c) t d
theorem before5_2 (c : Dev nD) (t : Fin cfg5.N) (d) : (dat V c).before 2 t d = iblk V c 2 t :=
  before5_2_of V (dat V c) (A_eq V c 2) (after5_2 V c) t d
theorem before5_3 (c : Dev nD) (t : Fin cfg5.N) (d) : (dat V c).before 3 t d = iblk V c 3 t :=
  before5_3_of V (dat V c) (A_eq V c 3) (after5_3 V c) t d
theorem before5_4 (c : Dev nD) (t : Fin cfg5.N) (d) : (dat V c).before 4 t d = iblk V c 4 t :=
  before5_4_of V (dat V c) (A_eq V c 4) (after5_4 V c) t d

/-! ## The body obligation, at a generic point -/

def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before5_0, before5_1, before5_2, before5_3, before5_4]
  rw [show (dat V c).Φ t.succ = (dat V c).Φ t.castSucc from rfl,
    show (dat V c).owesAt () t.succ = (dat V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid5.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg5.N) :
    defs₀ (F := F) .tc cfg5.body (cfg5.bodyArgs t (cfg5.slots t)) = bodyAt5 t := by
  unfold defs₀; rw [Defs.onTc_tc]

/-- The body obligation at every point. -/
theorem body_obligation (c : Dev nD) : BodyObligation (dat (F := F) V c) (defs₀ (F := F)) Variants.none () Set.univ := fun t => by
  rw [bigSep_W5, bigSep_W5, defs₀_row]
  exact triple_restated (sound_body V c t) rfl .rfl fun _ => .rfl

end Cert.Kernel.R5

end
-- ==== Proof.Kernel.Run.lean ====
/- The run of `Kernel`: the contents of the unscoped buffers between the items of @main, the six regions as segments, and
   the launch. Every weakly fair execution ends with every unscoped buffer at the last of those contents. -/
module

public import proofs.«01_k».proof.Proof.Kernel.Region0
public import proofs.«01_k».proof.Proof.Kernel.Region1
public import proofs.«01_k».proof.Proof.Kernel.Region2
public import proofs.«01_k».proof.Proof.Kernel.Region3
public import proofs.«01_k».proof.Proof.Kernel.Region4
public import proofs.«01_k».proof.Proof.Kernel.Region5
public import proofs.«01_k».proof.Proof.Gen.Kernel.Regions
public import Idealize.ShloMosaic.Lib.Pipeline.Regions
public import Idealize.ShloMosaic.Lib.Pipeline.RegionsLoop

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A valuation, read at the TensorCore's references. -/
abbrev atTc (W : Dev nD → Valuation τ sig (Elt F)) (c : Dev nD) (b : Ref sig .tc) : Buf (Elt F) ((c : Thread nD τ).loc b) := W c (Proc.devRef .tc b)

/-! ## The unscoped buffers between the items -/

def W1 (c : Dev nD) : Valuation τ sig (Elt F) := StableHlo.after hostOps0 (V0 m c)
def W2 (c : Dev nD) : Valuation τ sig (Elt F) := Function.update (Function.update (W1 m c) (Proc.devRef .tc main_v4_0) ((R0.dat (atTc (W1 m)) c).arrAt 2 cfg0.N)) (Proc.devRef .tc main_v4_1) ((R0.dat (atTc (W1 m)) c).arrAt 3 cfg0.N)
def W3 (c : Dev nD) : Valuation τ sig (Elt F) := Function.update (W2 m c) (Proc.devRef .tc main_v5) ((R1.dat (atTc (W2 m)) c).arrAt 4 cfg1.N)
def W4 (c : Dev nD) : Valuation τ sig (Elt F) := StableHlo.after hostOps2 (W3 m c)
def W5 (c : Dev nD) : Valuation τ sig (Elt F) := Function.update (W4 m c) (Proc.devRef .tc main_v7) ((R2.dat (atTc (W4 m)) c).arrAt 4 cfg2.N)
def W6 (c : Dev nD) : Valuation τ sig (Elt F) := StableHlo.after hostOps3 (W5 m c)
def W7 (c : Dev nD) : Valuation τ sig (Elt F) := Function.update (W6 m c) (Proc.devRef .tc main_v9) ((R3.dat (atTc (W6 m)) c).arrAt 4 cfg3.N)
def W8 (c : Dev nD) : Valuation τ sig (Elt F) := StableHlo.after hostOps4 (W7 m c)
def W9 (c : Dev nD) : Valuation τ sig (Elt F) := Function.update (Function.update (W8 m c) (Proc.devRef .tc main_v11_0) ((R4.dat (atTc (W8 m)) c).arrAt 6 cfg4.N)) (Proc.devRef .tc main_v11_1) ((R4.dat (atTc (W8 m)) c).arrAt 7 cfg4.N)
def W10 (c : Dev nD) : Valuation τ sig (Elt F) := Function.update (W9 m c) (Proc.devRef .tc main_v12) ((R5.dat (atTc (W9 m)) c).arrAt 5 cfg5.N)
def W11 (c : Dev nD) : Valuation τ sig (Elt F) := StableHlo.after hostOps6 (W10 m c)

theorem W2_main_v4_0 (c : Dev nD) : W2 m c (Proc.devRef .tc main_v4_0) = (R0.dat (atTc (W1 m)) c).arrAt 2 cfg0.N := (Function.update_of_ne (StableHlo.devRef_ne_of_ne (by decide)) _ _).trans (Function.update_self _ _ _)
theorem W2_main_v4_1 (c : Dev nD) : W2 m c (Proc.devRef .tc main_v4_1) = (R0.dat (atTc (W1 m)) c).arrAt 3 cfg0.N := Function.update_self _ _ _
theorem W2_of (c : Dev nD) (b : Ref sig .tc) (h0 : b ≠ main_v4_0) (h1 : b ≠ main_v4_1) : W2 m c (Proc.devRef .tc b) = W1 m c (Proc.devRef .tc b) := by
  unfold W2; rw [Function.update_of_ne (StableHlo.devRef_ne_of_ne h1), Function.update_of_ne (StableHlo.devRef_ne_of_ne h0)]
theorem W3_main_v5 (c : Dev nD) : W3 m c (Proc.devRef .tc main_v5) = (R1.dat (atTc (W2 m)) c).arrAt 4 cfg1.N := Function.update_self _ _ _
theorem W3_of (c : Dev nD) (b : Ref sig .tc) (h0 : b ≠ main_v5) : W3 m c (Proc.devRef .tc b) = W2 m c (Proc.devRef .tc b) := by
  unfold W3; rw [Function.update_of_ne (StableHlo.devRef_ne_of_ne h0)]
theorem W5_main_v7 (c : Dev nD) : W5 m c (Proc.devRef .tc main_v7) = (R2.dat (atTc (W4 m)) c).arrAt 4 cfg2.N := Function.update_self _ _ _
theorem W5_of (c : Dev nD) (b : Ref sig .tc) (h0 : b ≠ main_v7) : W5 m c (Proc.devRef .tc b) = W4 m c (Proc.devRef .tc b) := by
  unfold W5; rw [Function.update_of_ne (StableHlo.devRef_ne_of_ne h0)]
theorem W7_main_v9 (c : Dev nD) : W7 m c (Proc.devRef .tc main_v9) = (R3.dat (atTc (W6 m)) c).arrAt 4 cfg3.N := Function.update_self _ _ _
theorem W7_of (c : Dev nD) (b : Ref sig .tc) (h0 : b ≠ main_v9) : W7 m c (Proc.devRef .tc b) = W6 m c (Proc.devRef .tc b) := by
  unfold W7; rw [Function.update_of_ne (StableHlo.devRef_ne_of_ne h0)]
theorem W9_main_v11_0 (c : Dev nD) : W9 m c (Proc.devRef .tc main_v11_0) = (R4.dat (atTc (W8 m)) c).arrAt 6 cfg4.N := (Function.update_of_ne (StableHlo.devRef_ne_of_ne (by decide)) _ _).trans (Function.update_self _ _ _)
theorem W9_main_v11_1 (c : Dev nD) : W9 m c (Proc.devRef .tc main_v11_1) = (R4.dat (atTc (W8 m)) c).arrAt 7 cfg4.N := Function.update_self _ _ _
theorem W9_of (c : Dev nD) (b : Ref sig .tc) (h0 : b ≠ main_v11_0) (h1 : b ≠ main_v11_1) : W9 m c (Proc.devRef .tc b) = W8 m c (Proc.devRef .tc b) := by
  unfold W9; rw [Function.update_of_ne (StableHlo.devRef_ne_of_ne h1), Function.update_of_ne (StableHlo.devRef_ne_of_ne h0)]
theorem W10_main_v12 (c : Dev nD) : W10 m c (Proc.devRef .tc main_v12) = (R5.dat (atTc (W9 m)) c).arrAt 5 cfg5.N := Function.update_self _ _ _
theorem W10_of (c : Dev nD) (b : Ref sig .tc) (h0 : b ≠ main_v12) : W10 m c (Proc.devRef .tc b) = W9 m c (Proc.devRef .tc b) := by
  unfold W10; rw [Function.update_of_ne (StableHlo.devRef_ne_of_ne h0)]

/-- The outputs of the regions, as the generated valuations take them. -/
def outs : Outs (F := F) := fun J r c => match J with
  | 2 => W2 m c (Proc.devRef .tc r)
  | 3 => W3 m c (Proc.devRef .tc r)
  | 5 => W5 m c (Proc.devRef .tc r)
  | 7 => W7 m c (Proc.devRef .tc r)
  | 9 => W9 m c (Proc.devRef .tc r)
  | 10 => W10 m c (Proc.devRef .tc r)
  | _ => m ((c : Thread nD τ).loc r)

theorem V1_eq (c : Dev nD) : V1 m c = W1 m c := rfl
theorem V2_eq (c : Dev nD) : V2 m (outs m) c = W2 m c := by
  show Function.update (Function.update (V1 m c) (Proc.devRef .tc main_v4_0) (W2 m c (Proc.devRef .tc main_v4_0))) (Proc.devRef .tc main_v4_1) (W2 m c (Proc.devRef .tc main_v4_1)) = _
  rw [V1_eq, W2_main_v4_0, W2_main_v4_1]; rfl
theorem V3_eq (c : Dev nD) : V3 m (outs m) c = W3 m c := by
  show Function.update (V2 m (outs m) c) (Proc.devRef .tc main_v5) (W3 m c (Proc.devRef .tc main_v5)) = _
  rw [V2_eq, W3_main_v5]; rfl
theorem V4_eq (c : Dev nD) : V4 m (outs m) c = W4 m c := by
  show StableHlo.after hostOps2 (V3 m (outs m) c) = _
  rw [V3_eq]; rfl
theorem V5_eq (c : Dev nD) : V5 m (outs m) c = W5 m c := by
  show Function.update (V4 m (outs m) c) (Proc.devRef .tc main_v7) (W5 m c (Proc.devRef .tc main_v7)) = _
  rw [V4_eq, W5_main_v7]; rfl
theorem V6_eq (c : Dev nD) : V6 m (outs m) c = W6 m c := by
  show StableHlo.after hostOps3 (V5 m (outs m) c) = _
  rw [V5_eq]; rfl
theorem V7_eq (c : Dev nD) : V7 m (outs m) c = W7 m c := by
  show Function.update (V6 m (outs m) c) (Proc.devRef .tc main_v9) (W7 m c (Proc.devRef .tc main_v9)) = _
  rw [V6_eq, W7_main_v9]; rfl
theorem V8_eq (c : Dev nD) : V8 m (outs m) c = W8 m c := by
  show StableHlo.after hostOps4 (V7 m (outs m) c) = _
  rw [V7_eq]; rfl
theorem V9_eq (c : Dev nD) : V9 m (outs m) c = W9 m c := by
  show Function.update (Function.update (V8 m (outs m) c) (Proc.devRef .tc main_v11_0) (W9 m c (Proc.devRef .tc main_v11_0))) (Proc.devRef .tc main_v11_1) (W9 m c (Proc.devRef .tc main_v11_1)) = _
  rw [V8_eq, W9_main_v11_0, W9_main_v11_1]; rfl
theorem V10_eq (c : Dev nD) : V10 m (outs m) c = W10 m c := by
  show Function.update (V9 m (outs m) c) (Proc.devRef .tc main_v12) (W10 m c (Proc.devRef .tc main_v12)) = _
  rw [V9_eq, W10_main_v12]; rfl
theorem V11_eq (c : Dev nD) : V11 m (outs m) c = W11 m c := by
  show StableHlo.after hostOps6 (V10 m (outs m) c) = _
  rw [V10_eq]; rfl

/-! ## The regions -/

/-- The regions' proof data. -/
def pdats (p : Fin 6) (c : Dev nD) : Dat τ (Elt F) Unit ℕ (UR sig nD τ) ℕ (cfgs p) c := match p with
  | 0 => R0.dat (atTc (W1 m)) c
  | 1 => R1.dat (atTc (W2 m)) c
  | 2 => R2.dat (atTc (W4 m)) c
  | 3 => R3.dat (atTc (W6 m)) c
  | 4 => R4.dat (atTc (W8 m)) c
  | 5 => R5.dat (atTc (W9 m)) c

abbrev L : GSem nD τ sig → Finset Unit := fun _ => ∅
abbrev lv : GSem nD τ sig → Unit → ℕ := fun _ _ => 0
/-- What rides beside the buffers: the core owing nothing, the generator register. -/
abbrev Rest (c : Dev nD) : sProp 𝕄 := iprop((∃ W, owes (c : Thread nD τ) (0 : CellTallies nD τ sig Unit) W) ∗ ∃ r, prngReg c r)

theorem hF0 (c : Dev nD) : ∀ w : Fin cfg0.W, (R0.dat (atTc (W1 m)) c).arrAt w cfg0.N = W2 m c (Proc.devRef .tc (Pipeline.arrRef spec0 w))
  | ⟨0, _⟩ => ((R0.dat (atTc (W1 m)) c).arrAt_in 0 rfl _).trans ((R0.A_eq (atTc (W1 m)) c 0).trans (W2_of m c (Pipeline.arrRef spec0 0) (by decide) (by decide)).symm)
  | ⟨1, _⟩ => ((R0.dat (atTc (W1 m)) c).arrAt_in 1 rfl _).trans ((R0.A_eq (atTc (W1 m)) c 1).trans (W2_of m c (Pipeline.arrRef spec0 1) (by decide) (by decide)).symm)
  | ⟨2, _⟩ => (W2_main_v4_0 m c).symm
  | ⟨3, _⟩ => (W2_main_v4_1 m c).symm
  | ⟨_ + 4, h⟩ => absurd h (Nat.not_lt.2 (Nat.le_add_left _ _))

set_option backward.isDefEq.respectTransparency.types false in
/-- Region 0 as a segment: entered from the buffers at `W1`, left with them at `W2`. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (atTc (W1 m)) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none,
      show StableHlo.held (c : Thread nD τ) (Pipeline.ucRefs τ sig) (W1 m c) = unscopedBufs c (atTc (W1 m) c)
        from (Pipeline.unscopedBufs_held (Ix := Unit) (Name := ℕ) (U := UR sig nD τ) (Lvl := ℕ) c (W1 m c)).symm]
    have hsplit := Pipeline.arrays_of_unscopedBufs (p := 0) (pcfgs (F := F)) adm (pdats m) launch0.win launch0.arr_whole c ((pdats m 0 c).share_full fun _ => rfl) (atTc (W1 m) c) (R0.A_eq (atTc (W1 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec0 c from by
    unfold Pipeline.ΦA; iintro ⟨Hp, -, Hr⟩
    isplitl [Hr] <;> iassumption).trans .rfl
  hout c := (show _ ⊢ Pipeline.ΦA (Val := Elt F) (U := UR sig nD τ) spec0 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ) launch0.win launch0.arr_whole c (pdats m) ((pdats m 0 c).share_full fun _ => rfl)
      (atTc (W1 m) c) (atTc (W2 m) c) ((pdats m 0 c).arrAt · cfg0.N) (hF0 m c)
      (fun b hb => W2_of m c b (fun h => hb (h ▸ Finset.mem_image.mpr ⟨2, Finset.mem_univ _, rfl⟩)) (fun h => hb (h ▸ Finset.mem_image.mpr ⟨3, Finset.mem_univ _, rfl⟩)))
    rw [show StableHlo.held (c : Thread nD τ) (Pipeline.ucRefs τ sig) (W2 m c) = unscopedBufs c (atTc (W2 m) c)
        from (Pipeline.unscopedBufs_held (Ix := Unit) (Name := ℕ) (U := UR sig nD τ) (Lvl := ℕ) c (W2 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF1 (c : Dev nD) : ∀ w : Fin cfg1.W, (R1.dat (atTc (W2 m)) c).arrAt w cfg1.N = W3 m c (Proc.devRef .tc (Pipeline.arrRef spec1 w))
  | ⟨0, _⟩ => ((R1.dat (atTc (W2 m)) c).arrAt_in 0 rfl _).trans ((R1.A_eq (atTc (W2 m)) c 0).trans (W3_of m c (Pipeline.arrRef spec1 0) (by decide)).symm)
  | ⟨1, _⟩ => ((R1.dat (atTc (W2 m)) c).arrAt_in 1 rfl _).trans ((R1.A_eq (atTc (W2 m)) c 1).trans (W3_of m c (Pipeline.arrRef spec1 1) (by decide)).symm)
  | ⟨2, _⟩ => ((R1.dat (atTc (W2 m)) c).arrAt_in 2 rfl _).trans ((R1.A_eq (atTc (W2 m)) c 2).trans (W3_of m c (Pipeline.arrRef spec1 2) (by decide)).symm)
  | ⟨3, _⟩ => ((R1.dat (atTc (W2 m)) c).arrAt_in 3 rfl _).trans ((R1.A_eq (atTc (W2 m)) c 3).trans (W3_of m c (Pipeline.arrRef spec1 3) (by decide)).symm)
  | ⟨4, _⟩ => (W3_main_v5 m c).symm
  | ⟨_ + 5, h⟩ => absurd h (Nat.not_lt.2 (Nat.le_add_left _ _))

set_option backward.isDefEq.respectTransparency.types false in
/-- Region 1 as a segment: entered from the buffers at `W2`, left with them at `W3`. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (atTc (W2 m)) c).loose
  hwaits := Pipeline.hwaits_of_owed_zero _ _ _ _ L lv 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none,
      show StableHlo.held (c : Thread nD τ) (Pipeline.ucRefs τ sig) (W2 m c) = unscopedBufs c (atTc (W2 m) c)
        from (Pipeline.unscopedBufs_held (Ix := Unit) (Name := ℕ) (U := UR sig nD τ) (Lvl := ℕ) c (W2 m c)).symm]
    have hsplit := Pipeline.arrays_of_unscopedBufs (p := 1) (pcfgs (F := F)) adm (pdats m) launch1.win launch1.arr_whole c ((pdats m 1 c).share_full fun _ => rfl) (atTc (W2 m) c) (R1.A_eq (atTc (W2 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec1 c from by
    unfold Pipeline.ΦA; iintro ⟨Hp, -, Hr⟩
    isplitl [Hr] <;> iassumption).trans .rfl
  hout c := (show _ ⊢ Pipeline.ΦA (Val := Elt F) (U := UR sig nD τ) spec1 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ) launch1.win launch1.arr_whole c (pdats m) ((pdats m 1 c).share_full fun _ => rfl)
      (atTc (W2 m) c) (atTc (W3 m) c) ((pdats m 1 c).arrAt · cfg1.N) (hF1 m c)
      (fun b hb => W3_of m c b (fun h => hb (h ▸ Finset.mem_image.mpr ⟨4, Finset.mem_univ _, rfl⟩)))
    rw [show StableHlo.held (c : Thread nD τ) (Pipeline.ucRefs τ sig) (W3 m c) = unscopedBufs c (atTc (W3 m) c)
        from (Pipeline.unscopedBufs_held (Ix := Unit) (Name := ℕ) (U := UR sig nD τ) (Lvl := ℕ) c (W3 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF2 (c : Dev nD) : ∀ w : Fin cfg2.W, (R2.dat (atTc (W4 m)) c).arrAt w cfg2.N = W5 m c (Proc.devRef .tc (Pipeline.arrRef spec2 w))
  | ⟨0, _⟩ => ((R2.dat (atTc (W4 m)) c).arrAt_in 0 rfl _).trans ((R2.A_eq (atTc (W4 m)) c 0).trans (W5_of m c (Pipeline.arrRef spec2 0) (by decide)).symm)
  | ⟨1, _⟩ => ((R2.dat (atTc (W4 m)) c).arrAt_in 1 rfl _).trans ((R2.A_eq (atTc (W4 m)) c 1).trans (W5_of m c (Pipeline.arrRef spec2 1) (by decide)).symm)
  | ⟨2, _⟩ => ((R2.dat (atTc (W4 m)) c).arrAt_in 2 rfl _).trans ((R2.A_eq (atTc (W4 m)) c 2).trans (W5_of m c (Pipeline.arrRef spec2 2) (by decide)).symm)
  | ⟨3, _⟩ => ((R2.dat (atTc (W4 m)) c).arrAt_in 3 rfl _).trans ((R2.A_eq (atTc (W4 m)) c 3).trans (W5_of m c (Pipeline.arrRef spec2 3) (by decide)).symm)
  | ⟨4, _⟩ => (W5_main_v7 m c).symm
  | ⟨_ + 5, h⟩ => absurd h (Nat.not_lt.2 (Nat.le_add_left _ _))

set_option backward.isDefEq.respectTransparency.types false in
/-- Region 2 as a segment: entered from the buffers at `W4`, left with them at `W5`. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation (atTc (W4 m)) c).loose
  hwaits := Pipeline.hwaits_of_owed_zero _ _ _ _ L lv 2 fun _ _ => rfl
  pre c := iprop(StableHlo.held (c : Thread nD τ) (Pipeline.ucRefs τ sig) (W4 m c) ∗ Rest c)
  post c := iprop(StableHlo.held (c : Thread nD τ) (Pipeline.ucRefs τ sig) (W5 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (W4 m) c)
  hentry c := by
    rw [Pipeline.ownSems0_none,
      show StableHlo.held (c : Thread nD τ) (Pipeline.ucRefs τ sig) (W4 m c) = unscopedBufs c (atTc (W4 m) c)
        from (Pipeline.unscopedBufs_held (Ix := Unit) (Name := ℕ) (U := UR sig nD τ) (Lvl := ℕ) c (W4 m c)).symm]
    have hsplit := Pipeline.arrays_of_unscopedBufs (p := 2) (pcfgs (F := F)) adm (pdats m) launch2.win launch2.arr_whole c ((pdats m 2 c).share_full fun _ => rfl) (atTc (W4 m) c) (R2.A_eq (atTc (W4 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec2 c from by
    unfold Pipeline.ΦA; iintro ⟨Hp, -, Hr⟩
    isplitl [Hr] <;> iassumption).trans .rfl
  hout c := (show _ ⊢ Pipeline.ΦA (Val := Elt F) (U := UR sig nD τ) spec2 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ) launch2.win launch2.arr_whole c (pdats m) ((pdats m 2 c).share_full fun _ => rfl)
      (atTc (W4 m) c) (atTc (W5 m) c) ((pdats m 2 c).arrAt · cfg2.N) (hF2 m c)
      (fun b hb => W5_of m c b (fun h => hb (h ▸ Finset.mem_image.mpr ⟨4, Finset.mem_univ _, rfl⟩)))
    rw [show StableHlo.held (c : Thread nD τ) (Pipeline.ucRefs τ sig) (W5 m c) = unscopedBufs c (atTc (W5 m) c)
        from (Pipeline.unscopedBufs_held (Ix := Unit) (Name := ℕ) (U := UR sig nD τ) (Lvl := ℕ) c (W5 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF3 (c : Dev nD) : ∀ w : Fin cfg3.W, (R3.dat (atTc (W6 m)) c).arrAt w cfg3.N = W7 m c (Proc.devRef .tc (Pipeline.arrRef spec3 w))
  | ⟨0, _⟩ => ((R3.dat (atTc (W6 m)) c).arrAt_in 0 rfl _).trans ((R3.A_eq (atTc (W6 m)) c 0).trans (W7_of m c (Pipeline.arrRef spec3 0) (by decide)).symm)
  | ⟨1, _⟩ => ((R3.dat (atTc (W6 m)) c).arrAt_in 1 rfl _).trans ((R3.A_eq (atTc (W6 m)) c 1).trans (W7_of m c (Pipeline.arrRef spec3 1) (by decide)).symm)
  | ⟨2, _⟩ => ((R3.dat (atTc (W6 m)) c).arrAt_in 2 rfl _).trans ((R3.A_eq (atTc (W6 m)) c 2).trans (W7_of m c (Pipeline.arrRef spec3 2) (by decide)).symm)
  | ⟨3, _⟩ => ((R3.dat (atTc (W6 m)) c).arrAt_in 3 rfl _).trans ((R3.A_eq (atTc (W6 m)) c 3).trans (W7_of m c (Pipeline.arrRef spec3 3) (by decide)).symm)
  | ⟨4, _⟩ => (W7_main_v9 m c).symm
  | ⟨_ + 5, h⟩ => absurd h (Nat.not_lt.2 (Nat.le_add_left _ _))

set_option backward.isDefEq.respectTransparency.types false in
/-- Region 3 as a segment: entered from the buffers at `W6`, left with them at `W7`. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (R3.body_obligation (atTc (W6 m)) c).loose
  hwaits := Pipeline.hwaits_of_owed_zero _ _ _ _ L lv 3 fun _ _ => rfl
  pre c := iprop(StableHlo.held (c : Thread nD τ) (Pipeline.ucRefs τ sig) (W6 m c) ∗ Rest c)
  post c := iprop(StableHlo.held (c : Thread nD τ) (Pipeline.ucRefs τ sig) (W7 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (W6 m) c)
  hentry c := by
    rw [Pipeline.ownSems0_none,
      show StableHlo.held (c : Thread nD τ) (Pipeline.ucRefs τ sig) (W6 m c) = unscopedBufs c (atTc (W6 m) c)
        from (Pipeline.unscopedBufs_held (Ix := Unit) (Name := ℕ) (U := UR sig nD τ) (Lvl := ℕ) c (W6 m c)).symm]
    have hsplit := Pipeline.arrays_of_unscopedBufs (p := 3) (pcfgs (F := F)) adm (pdats m) launch3.win launch3.arr_whole c ((pdats m 3 c).share_full fun _ => rfl) (atTc (W6 m) c) (R3.A_eq (atTc (W6 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec3 c from by
    unfold Pipeline.ΦA; iintro ⟨Hp, -, Hr⟩
    isplitl [Hr] <;> iassumption).trans .rfl
  hout c := (show _ ⊢ Pipeline.ΦA (Val := Elt F) (U := UR sig nD τ) spec3 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 3) (pcfgs (F := F)) adm (Ix := Unit) (Name := ℕ) (U := UR sig nD τ) (Lvl := ℕ) launch3.win launch3.arr_whole c (pdats m) ((pdats m 3 c).share_full fun _ => rfl)
      (atTc (W6 m) c) (atTc (W7 m) c) ((pdats m 3 c).arrAt · cfg3.N) (hF3 m c)
      (fun b hb => W7_of m c b (fun h => hb (h ▸ Finset.mem_image.mpr ⟨4, Finset.mem_univ _, rfl⟩)))
    rw [show StableHlo.held (c : Thread nD τ) (Pipeline.ucRefs τ sig) (W7 m c) = unscopedBufs c (atTc (W7 m) c)
        from (Pipeline.unscopedBufs_held (Ix := Unit) (Name := ℕ) (U := UR sig nD τ) (Lvl := ℕ) c (W7 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF4 (c : Dev nD) : ∀ w : Fin cfg4.W, (R4.dat (atTc (W8 m)) c).arrAt w cfg4.N = W9 m c (Proc.devRef .tc (Pipeline.arrRef spec4 w))
  | ⟨0, _⟩ => ((R4.dat (atTc (W8 m)) c).arrAt_in 0 rfl _).trans ((R4.A_eq (atTc (W8 m)) c 0).trans (W9_of m c (Pipeline.arrRef spec4 0) (by decide) (by decide)).symm)
  | ⟨1, _⟩ => ((R4.dat (atTc (W8 m)) c).arrAt_in 1 rfl _).trans ((R4.A_eq (atTc (W8 m)) c 1).trans (W9_of m c (Pipeline.arrRef spec4 1) (by decide) (by decide)).symm)
  | ⟨2, _⟩ => ((R4.dat (atTc (W8 m)) c).arrAt_in 2 rfl _).trans ((R4.A_eq (atTc (W8 m)) c 2).trans (W9_of m c (Pipeline.arrRef spec4 2) (by decide) (by decide)).symm)
  | ⟨3, _⟩ => ((R4.dat (atTc (W8 m)) c).arrAt_in 3 rfl _).trans ((R4.A_eq (atTc (W8 m)) c 3).trans (W9_of m c (Pipeline.arrRef spec4 3) (by decide) (by decide)).symm)
  | ⟨4, _⟩ => ((R4.dat (atTc (W8 m)) c).arrAt_in 4 rfl _).trans ((R4.A_eq (atTc (W8 m)) c 4).trans (W9_of m c (Pipeline.arrRef spec4 4) (by decide) (by decide)).symm)
  | ⟨5, _⟩ => ((R4.dat (atTc (W8 m)) c).arrAt_in 5 rfl _).trans ((R4.A_eq (atTc (W8 m)) c 5).trans (W9_of m c (Pipeline.arrRef spec4 5) (by decide) (by decide)).symm)
  | ⟨6, _⟩ => (W9_main_v11_0 m c).symm
  | ⟨7, _⟩ => (W9_main_v11_1 m c).symm
  | ⟨_ + 8, h⟩ => absurd h (Nat.not_lt.2 (Nat.le_add_left _ _))

set_option backward.isDefEq.respectTransparency.types false in
/-- Region 4 as a segment: entered from the buffers at `W8`, left with them at `W9`. -/
def reg4 : RegionSeg (pcfgs (F := F)) adm (pdats m) () defs₀ Variants.none L lv 4 where
  win := launch₀4.win
  block_pos := launch₀4.block_pos
  stage_whole := launch₀4.stage_whole
  K := PEmpty
  osem k := k.elim
  ho := Pipeline.OwnSemFacts.none _
  hbody c := (R4.body_obligation (atTc (W8 m)) c).loose
  hwaits := Pipeline.hwaits_of_owed_zero _ _ _ _ L lv 4 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (W8 m) c)
  hentry c := by
    rw [Pipeline.ownSems0_none,
      show StableHlo.held (c : Thread nD τ) (Pipeline.ucRefs τ sig) (W8 m c) = unscopedBufs c (atTc (W8 m) c)
        from (Pipeline.unscopedBufs_held (Ix := Unit) (Name := ℕ) (U := UR sig nD τ) (Lvl := ℕ) c (W8 m c)).symm]
    have hsplit := Pipeline.arrays_of_unscopedBufs_shared (p := 4) (pcfgs (F := F)) adm (pdats m) launch₀4.win launch₀4.sharedIn launch₀4.arr_whole c (fun _ _ => rfl) (atTc (W8 m) c) (R4.A_eq (atTc (W8 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec4 c from by
    unfold Pipeline.ΦA; iintro ⟨Hp, -, Hr⟩
    isplitl [Hr] <;> iassumption).trans (R4.hin (atTc (W8 m)) c)
  hout c := (show _ ⊢ Pipeline.ΦA (Val := Elt F) (U := UR sig nD τ) spec4 c from (R4.hout (atTc (W8 m)) c _)).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays_shared (p := 4) (pcfgs (F := F)) adm (Ix := Unit) (Name := ℕ) (U := UR sig nD τ) (Lvl := ℕ) launch₀4.win launch₀4.sharedIn launch₀4.arr_whole c (pdats m) (fun _ _ => rfl)
      (atTc (W8 m) c) (atTc (W9 m) c) ((pdats m 4 c).arrAt · cfg4.N) (hF4 m c)
      (fun b hb => W9_of m c b (fun h => hb (h ▸ Finset.mem_image.mpr ⟨6, Finset.mem_univ _, rfl⟩)) (fun h => hb (h ▸ Finset.mem_image.mpr ⟨7, Finset.mem_univ _, rfl⟩)))
    rw [show StableHlo.held (c : Thread nD τ) (Pipeline.ucRefs τ sig) (W9 m c) = unscopedBufs c (atTc (W9 m) c)
        from (Pipeline.unscopedBufs_held (Ix := Unit) (Name := ℕ) (U := UR sig nD τ) (Lvl := ℕ) c (W9 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF5 (c : Dev nD) : ∀ w : Fin cfg5.W, (R5.dat (atTc (W9 m)) c).arrAt w cfg5.N = W10 m c (Proc.devRef .tc (Pipeline.arrRef spec5 w))
  | ⟨0, _⟩ => ((R5.dat (atTc (W9 m)) c).arrAt_in 0 rfl _).trans ((R5.A_eq (atTc (W9 m)) c 0).trans (W10_of m c (Pipeline.arrRef spec5 0) (by decide)).symm)
  | ⟨1, _⟩ => ((R5.dat (atTc (W9 m)) c).arrAt_in 1 rfl _).trans ((R5.A_eq (atTc (W9 m)) c 1).trans (W10_of m c (Pipeline.arrRef spec5 1) (by decide)).symm)
  | ⟨2, _⟩ => ((R5.dat (atTc (W9 m)) c).arrAt_in 2 rfl _).trans ((R5.A_eq (atTc (W9 m)) c 2).trans (W10_of m c (Pipeline.arrRef spec5 2) (by decide)).symm)
  | ⟨3, _⟩ => ((R5.dat (atTc (W9 m)) c).arrAt_in 3 rfl _).trans ((R5.A_eq (atTc (W9 m)) c 3).trans (W10_of m c (Pipeline.arrRef spec5 3) (by decide)).symm)
  | ⟨4, _⟩ => ((R5.dat (atTc (W9 m)) c).arrAt_in 4 rfl _).trans ((R5.A_eq (atTc (W9 m)) c 4).trans (W10_of m c (Pipeline.arrRef spec5 4) (by decide)).symm)
  | ⟨5, _⟩ => (W10_main_v12 m c).symm
  | ⟨_ + 6, h⟩ => absurd h (Nat.not_lt.2 (Nat.le_add_left _ _))

set_option backward.isDefEq.respectTransparency.types false in
/-- Region 5 as a segment: entered from the buffers at `W9`, left with them at `W10`. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (R5.body_obligation (atTc (W9 m)) c).loose
  hwaits := Pipeline.hwaits_of_owed_zero _ _ _ _ L lv 5 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (W9 m) c)
  hentry c := by
    rw [Pipeline.ownSems0_none,
      show StableHlo.held (c : Thread nD τ) (Pipeline.ucRefs τ sig) (W9 m c) = unscopedBufs c (atTc (W9 m) c)
        from (Pipeline.unscopedBufs_held (Ix := Unit) (Name := ℕ) (U := UR sig nD τ) (Lvl := ℕ) c (W9 m c)).symm]
    have hsplit := Pipeline.arrays_of_unscopedBufs (p := 5) (pcfgs (F := F)) adm (pdats m) launch5.win launch5.arr_whole c ((pdats m 5 c).share_full fun _ => rfl) (atTc (W9 m) c) (R5.A_eq (atTc (W9 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec5 c from by
    unfold Pipeline.ΦA; iintro ⟨Hp, -, Hr⟩
    isplitl [Hr] <;> iassumption).trans .rfl
  hout c := (show _ ⊢ Pipeline.ΦA (Val := Elt F) (U := UR sig nD τ) spec5 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 5) (pcfgs (F := F)) adm (Ix := Unit) (Name := ℕ) (U := UR sig nD τ) (Lvl := ℕ) launch5.win launch5.arr_whole c (pdats m) ((pdats m 5 c).share_full fun _ => rfl)
      (atTc (W9 m) c) (atTc (W10 m) c) ((pdats m 5 c).arrAt · cfg5.N) (hF5 m c)
      (fun b hb => W10_of m c b (fun h => hb (h ▸ Finset.mem_image.mpr ⟨5, Finset.mem_univ _, rfl⟩)))
    rw [show StableHlo.held (c : Thread nD τ) (Pipeline.ucRefs τ sig) (W10 m c) = unscopedBufs c (atTc (W10 m) c)
        from (Pipeline.unscopedBufs_held (Ix := Unit) (Name := ℕ) (U := UR sig nD τ) (Lvl := ℕ) c (W10 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

/-! ## The launch -/

abbrev E : Fin 7 → Dev nD → sProp 𝕄 := fun _ c => Rest c
abbrev u₀ : UR sig nD τ := initOf (Pipeline.cells cfgs cellOf_inj) (Pipeline.launchToks cfgs cellOf_inj)

/-- Every weakly fair execution of @main on the TensorCores terminates with every unscoped buffer at `W11` and every
    semaphore counter at zero. -/
theorem run : θ_run defs (onTc (τ := τ) (main (F := F))) ⟨m, fun _ => 0, ρ⟩ (fun r => (∀ (c : Dev nD) (b : Ref sig .tc), b.isScoped = false →
      r.2.mem ((c.tc : Thread nD τ).loc b) = W11 m c (Proc.devRef .tc b)) ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m) (reg2 m) (reg3 m) (reg4 m) (reg5 m))
    (fun c Q => by
      rewrite [main_chain c, Seg.run_eq_chain,
        show (segs m (outs m) Variants.none L lv E () (pdats m) (reg0 m) (reg1 m) (reg2 m) (reg3 m) (reg4 m) (reg5 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀)
    (hu₀ := by
      iintro Hu; imodintro
      isplitl [Hu]
      · iapply (show (ownU u₀ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (W11 m c))
    (hch := fun c => ⟨.rfl, .rfl, .rfl, ?h3, ?h4, ?h5, ?h6, ?h7, ?h8, .rfl, ?h10, ?h11⟩)
    (hinit := ?_) (QY := fun c s => ∀ b : Ref sig .tc, b.isScoped = false → s.mem ((c.tc : Thread nD τ).loc b) = W11 m c (Proc.devRef .tc b))
    (hfin := fun c s' => ?_) (hQ := fun _ h hz => ⟨h, funext fun g => hz g (.inr (regions_no_unscoped g.2))⟩)
  case h3 => exact sep_mono (Entails.of_eq (by rw [V3_eq])) .rfl
  case h4 => exact sep_mono (Entails.of_eq (by rw [← V4_eq])) .rfl
  case h5 => exact sep_mono (Entails.of_eq (by rw [V5_eq])) .rfl
  case h6 => exact sep_mono (Entails.of_eq (by rw [← V6_eq])) .rfl
  case h7 => exact sep_mono (Entails.of_eq (by rw [V7_eq])) .rfl
  case h8 => exact sep_mono (Entails.of_eq (by rw [← V8_eq])) .rfl
  case h10 => exact sep_mono (Entails.of_eq (by rw [V10_eq])) .rfl
  case h11 => exact sep_mono (Entails.of_eq (by rw [← V11_eq])) (by iintro ⟨HO, -⟩; iexact HO)
  · -- the launch: the unscoped buffers are `held` at `V0`, the rest is made core by core
    refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    iexists _; iexact Hp
  · -- the end: every buffer read off the last contents
    unfold StableHlo.held
    iintro ⟨Hh, HSI⟩
    ihave Hr := (pointsTo_read_all (Pipeline.ucRefs τ sig) (fun b => ((c : Thread nD τ).1, b)) (W11 m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

theorem W11_main_arg0 (c : Dev nD) : W11 m c (Proc.devRef .tc main_arg0) = m ((c : Thread nD τ).loc main_arg0) := by
  rw [← V11_eq]; exact V11_main_arg0 m (outs m) c
theorem W11_main_arg1 (c : Dev nD) : W11 m c (Proc.devRef .tc main_arg1) = m ((c : Thread nD τ).loc main_arg1) := by
  rw [← V11_eq]; exact V11_main_arg1 m (outs m) c
theorem W11_main_arg2 (c : Dev nD) : W11 m c (Proc.devRef .tc main_arg2) = m ((c : Thread nD τ).loc main_arg2) := by
  rw [← V11_eq]; exact V11_main_arg2 m (outs m) c
theorem W11_main_arg3 (c : Dev nD) : W11 m c (Proc.devRef .tc main_arg3) = m ((c : Thread nD τ).loc main_arg3) := by
  rw [← V11_eq]; exact V11_main_arg3 m (outs m) c
theorem W11_main_arg4 (c : Dev nD) : W11 m c (Proc.devRef .tc main_arg4) = m ((c : Thread nD τ).loc main_arg4) := by
  rw [← V11_eq]; exact V11_main_arg4 m (outs m) c
theorem W11_main_arg5 (c : Dev nD) : W11 m c (Proc.devRef .tc main_arg5) = m ((c : Thread nD τ).loc main_arg5) := by
  rw [← V11_eq]; exact V11_main_arg5 m (outs m) c

end Cert.Kernel.Run

end
-- ==== Proof.KernelIdeal.Region0.lean ====
/- The norm region (pipeline 0) of `KernelIdeal`, at any contents `V` of the unscoped buffers on entry: each window's
   block at a point, what the body leaves in each output window's buffer, the body's triple, the proof data and the
   body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x7168 := Rect.unit (s := S256x7168) ![0, 0] S256x7168.size inb_S256x7168_S256x7168_0_0
abbrev r0_1 : Rect S1x7168 := Rect.unit (s := S1x7168) ![0, 0] S1x7168.size inb_S1x7168_S1x7168_0_0
abbrev r0_2 : Rect S256x1 := Rect.unit (s := S256x1) ![0, 0] S256x1.size inb_S256x1_S256x1_0_0

/-! ## What the body leaves in each output window's buffer -/

def val_10 (x0 : Vec F S256x7168 .bf16) (x1 : Vec F S1x7168 .bf16) : FVec F S256x1 .f32 :=
  k0_pay5 (View.ld x0 r0_0) (View.ld x1 r0_1)
def val_11 (x0 : Vec F S256x7168 .bf16) (x1 : Vec F S1x7168 .bf16) : IVec S256x1 32 :=
  k0_pay6 (View.ld x0 r0_0) (View.ld x1 r0_1)
def val_13 (x0 : Vec F S256x7168 .bf16) (x1 : Vec F S1x7168 .bf16) : IVec S256x1 32 :=
  k0_pay7 (val_10 x0 x1) (val_11 x0 x1) 32#32

def out0_2 (x0 : Vec F S256x7168 .bf16) (x1 : Vec F S1x7168 .bf16) : Vec F S256x7168 .fp8e4m3 :=
  View.canon [⟨r0_0, k0_pay3 (k0_pay4 (View.ld x0 r0_0) (View.ld x1 r0_1)) (val_10 x0 x1) (val_13 x0 x1) 1#32⟩]

theorem cover0_2 (p0 : Vec F S256x7168 .fp8e4m3) (y : S256x7168.Idx) :
    ∃ pc ∈ ([⟨r0_0, p0⟩] : List (View.Piece (Elt F) S256x7168 .fp8e4m3)), y ∈ pc.1.set :=
  View.cover_of_tiled [⟨r0_0, p0⟩] S256x7168.size (by rfl) y

def out0_3 (x0 : Vec F S256x7168 .bf16) (x1 : Vec F S1x7168 .bf16) : Vec F S256x1 .f32 :=
  View.canon [⟨r0_2, k0_pay2 (val_10 x0 x1) (val_13 x0 x1) 1#32⟩]

theorem cover0_3 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid0.Coords) (arg1 : Memref sig .tc .vmem S256x7168 .bf16) (harg1 : arg1.IsWhole) (arg2 : Memref sig .tc .vmem S1x7168 .bf16) (harg2 : arg2.IsWhole) (arg3 : Memref sig .tc .vmem S256x7168 .fp8e4m3) (harg3 : arg3.IsWhole) (arg4 : Memref sig .tc .vmem S256x1 .f32) (harg4 : arg4.IsWhole)
    (x0 : Vec F S256x7168 .bf16) (x1 : Vec F S1x7168 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_norm i arg1 harg1 arg2 harg2 arg3 harg3 arg4 harg4) K := by
  simp only [cc0_norm_eq_skeleton]; unfold cc0_norm_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  iexists _; isplitr
  swap; · iexact H3
  ipureintro
  refine (View.read_writes_eq_canon _ _ _ (cover0_3 _)).trans ?_
  rfl

/-! ## The pipeline's proof data -/

/-- The proof data: the arrays as the region finds them; after the body each input at its block and each output at
    `out` of the input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]
theorem after0_3 (c : Dev nD) (t : Fin cfg0.N) : (dat V c).after 3 t = out0_3 (iblk V c 0 t) (iblk V c 1 t) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.KernelIdeal.Region1.lean ====
/- The proj0 region (pipeline 1) of `KernelIdeal`, at any contents `V` of the unscoped buffers on entry: each window's
   block at a point, what the body leaves in each output window's buffer, the body's triple, the proof data and the
   body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S1024x7168 := Rect.unit (s := S1024x7168) ![0, 0] S1024x7168.size inb_S1024x7168_S1024x7168_0_0
abbrev r1_1 : Rect S1024x1 := Rect.unit (s := S1024x1) ![0, 0] S1024x1.size inb_S1024x1_S1024x1_0_0
abbrev r1_2 : Rect S1x1024 := Rect.unit (s := S1x1024) ![0, 0] S1x1024.size inb_S1x1024_S1x1024_0_0
abbrev r1_3 : Rect S1024x8x128 := Rect.unit (s := S1024x8x128) ![0, 0, 0] S1024x2x128.size inb_S1024x8x128_S1024x2x128_0_0_0
abbrev r1_4 : Rect S1024x8x128 := Rect.unit (s := S1024x8x128) ![0, 2, 0] S1024x2x128.size inb_S1024x8x128_S1024x2x128_0_2_0
abbrev r1_5 : Rect S1024x8x128 := Rect.unit (s := S1024x8x128) ![0, 4, 0] S1024x2x128.size inb_S1024x8x128_S1024x2x128_0_4_0
abbrev r1_6 : Rect S1024x8x128 := Rect.unit (s := S1024x8x128) ![0, 6, 0] S1024x2x128.size inb_S1024x8x128_S1024x2x128_0_6_0

/-! ## What the body leaves in each output window's buffer -/

def out1_4 (x0 : Vec F S1024x7168 .fp8e4m3) (x1 : Vec F S1024x1 .f32) (x2 : Vec F S1024x7168 .fp8e4m3) (x3 : Vec F S1x1024 .f32) : Vec F S1024x8x128 .bf16 :=
  View.canon [⟨r1_6, k1_pay1 (k1_pay6 (View.ld x0 r1_0) (View.ld x2 r1_0) (View.ld x1 r1_1) (View.ld x3 r1_2)) (k1_pay7 (View.ld x0 r1_0) (View.ld x2 r1_0) (View.ld x1 r1_1) (View.ld x3 r1_2))⟩,
    ⟨r1_5, k1_pay5 (View.ld x0 r1_0) (View.ld x2 r1_0) (View.ld x1 r1_1) (View.ld x3 r1_2)⟩,
    ⟨r1_4, k1_pay4 (View.ld x0 r1_0) (View.ld x2 r1_0) (View.ld x1 r1_1) (View.ld x3 r1_2)⟩,
    ⟨r1_3, k1_pay3 (View.ld x0 r1_0) (View.ld x2 r1_0) (View.ld x1 r1_1) (View.ld x3 r1_2)⟩]

theorem cover1_4 (p0 : Vec F S1024x2x128 .bf16) (p1 : Vec F S1024x2x128 .bf16) (p2 : Vec F S1024x2x128 .bf16) (p3 : Vec F S1024x2x128 .bf16) (y : S1024x8x128.Idx) :
    ∃ pc ∈ ([⟨r1_6, p0⟩, ⟨r1_5, p1⟩, ⟨r1_4, p2⟩, ⟨r1_3, p3⟩] : List (View.Piece (Elt F) S1024x8x128 .bf16)), y ∈ pc.1.set :=
  View.cover_of_tiled [⟨r1_6, p0⟩, ⟨r1_5, p1⟩, ⟨r1_4, p2⟩, ⟨r1_3, p3⟩] S1024x2x128.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid1.Coords) (arg2 : Memref sig .tc .vmem S1024x7168 .fp8e4m3) (harg2 : arg2.IsWhole) (arg3 : Memref sig .tc .vmem S1024x1 .f32) (harg3 : arg3.IsWhole) (arg4 : Memref sig .tc .vmem S1024x7168 .fp8e4m3) (harg4 : arg4.IsWhole) (arg5 : Memref sig .tc .vmem S1x1024 .f32) (harg5 : arg5.IsWhole) (arg6 : Memref sig .tc .vmem S1024x8x128 .bf16) (harg6 : arg6.IsWhole)
    (x0 : Vec F S1024x7168 .fp8e4m3) (x1 : Vec F S1024x1 .f32) (x2 : Vec F S1024x7168 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_proj0 i arg2 harg2 arg3 harg3 arg4 harg4 arg5 harg5 arg6 harg6) K := by
  simp only [cc1_proj0_eq_skeleton]; unfold cc1_proj0_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The pipeline's proof data -/

/-- The proof data: the arrays as the region finds them; after the body each input at its block and each output at
    `out` of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out1_4 (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = out1_4 (iblk V c 0 t) (iblk V c 1 t) (iblk V c 2 t) (iblk V c 3 t) := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).Φ t.succ = (dat V c).Φ t.castSucc from rfl,
    show (dat V c).owesAt () t.succ = (dat V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.R1

end
-- ==== Proof.KernelIdeal.Region2.lean ====
/- The proj1 region (pipeline 2) of `KernelIdeal`, at any contents `V` of the unscoped buffers on entry: each window's
   block at a point, what the body leaves in each output window's buffer, the body's triple, the proof data and the
   body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S1024x7168 := Rect.unit (s := S1024x7168) ![0, 0] S1024x7168.size inb_S1024x7168_S1024x7168_0_0
abbrev r2_1 : Rect S1024x1 := Rect.unit (s := S1024x1) ![0, 0] S1024x1.size inb_S1024x1_S1024x1_0_0
abbrev r2_2 : Rect S1x1024 := Rect.unit (s := S1x1024) ![0, 0] S1x1024.size inb_S1x1024_S1x1024_0_0
abbrev r2_3 : Rect S1024x8x128 := Rect.unit (s := S1024x8x128) ![0, 0, 0] S1024x2x128.size inb_S1024x8x128_S1024x2x128_0_0_0
abbrev r2_4 : Rect S1024x8x128 := Rect.unit (s := S1024x8x128) ![0, 2, 0] S1024x2x128.size inb_S1024x8x128_S1024x2x128_0_2_0
abbrev r2_5 : Rect S1024x8x128 := Rect.unit (s := S1024x8x128) ![0, 4, 0] S1024x2x128.size inb_S1024x8x128_S1024x2x128_0_4_0
abbrev r2_6 : Rect S1024x8x128 := Rect.unit (s := S1024x8x128) ![0, 6, 0] S1024x2x128.size inb_S1024x8x128_S1024x2x128_0_6_0

/-! ## What the body leaves in each output window's buffer -/

def out2_4 (x0 : Vec F S1024x7168 .fp8e4m3) (x1 : Vec F S1024x1 .f32) (x2 : Vec F S1024x7168 .fp8e4m3) (x3 : Vec F S1x1024 .f32) : Vec F S1024x8x128 .bf16 :=
  View.canon [⟨r2_6, k2_pay1 (k2_pay6 (View.ld x0 r2_0) (View.ld x2 r2_0) (View.ld x1 r2_1) (View.ld x3 r2_2)) (k2_pay7 (View.ld x0 r2_0) (View.ld x2 r2_0) (View.ld x1 r2_1) (View.ld x3 r2_2))⟩,
    ⟨r2_5, k2_pay5 (View.ld x0 r2_0) (View.ld x2 r2_0) (View.ld x1 r2_1) (View.ld x3 r2_2)⟩,
    ⟨r2_4, k2_pay4 (View.ld x0 r2_0) (View.ld x2 r2_0) (View.ld x1 r2_1) (View.ld x3 r2_2)⟩,
    ⟨r2_3, k2_pay3 (View.ld x0 r2_0) (View.ld x2 r2_0) (View.ld x1 r2_1) (View.ld x3 r2_2)⟩]

theorem cover2_4 (p0 : Vec F S1024x2x128 .bf16) (p1 : Vec F S1024x2x128 .bf16) (p2 : Vec F S1024x2x128 .bf16) (p3 : Vec F S1024x2x128 .bf16) (y : S1024x8x128.Idx) :
    ∃ pc ∈ ([⟨r2_6, p0⟩, ⟨r2_5, p1⟩, ⟨r2_4, p2⟩, ⟨r2_3, p3⟩] : List (View.Piece (Elt F) S1024x8x128 .bf16)), y ∈ pc.1.set :=
  View.cover_of_tiled [⟨r2_6, p0⟩, ⟨r2_5, p1⟩, ⟨r2_4, p2⟩, ⟨r2_3, p3⟩] S1024x2x128.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid2.Coords) (arg2 : Memref sig .tc .vmem S1024x7168 .fp8e4m3) (harg2 : arg2.IsWhole) (arg3 : Memref sig .tc .vmem S1024x1 .f32) (harg3 : arg3.IsWhole) (arg4 : Memref sig .tc .vmem S1024x7168 .fp8e4m3) (harg4 : arg4.IsWhole) (arg5 : Memref sig .tc .vmem S1x1024 .f32) (harg5 : arg5.IsWhole) (arg6 : Memref sig .tc .vmem S1024x8x128 .bf16) (harg6 : arg6.IsWhole)
    (x0 : Vec F S1024x7168 .fp8e4m3) (x1 : Vec F S1024x1 .f32) (x2 : Vec F S1024x7168 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_proj1 i arg2 harg2 arg3 harg3 arg4 harg4 arg5 harg5 arg6 harg6) K := by
  simp only [cc2_proj1_eq_skeleton]; unfold cc2_proj1_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _ _ _)

/-! ## The pipeline's proof data -/

/-- The proof data: the arrays as the region finds them; after the body each input at its block and each output at
    `out` of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out2_4 (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = out2_4 (iblk V c 0 t) (iblk V c 1 t) (iblk V c 2 t) (iblk V c 3 t) := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat V c).Φ t.succ = (dat V c).Φ t.castSucc from rfl,
    show (dat V c).owesAt () t.succ = (dat V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.R2

end
-- ==== Proof.KernelIdeal.Region3.lean ====
/- The proj2 region (pipeline 3) of `KernelIdeal`, at any contents `V` of the unscoped buffers on entry: each window's
   block at a point, what the body leaves in each output window's buffer, the body's triple, the proof data and the
   body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_0 : Rect S1024x7168 := Rect.unit (s := S1024x7168) ![0, 0] S1024x7168.size inb_S1024x7168_S1024x7168_0_0
abbrev r3_1 : Rect S1024x1 := Rect.unit (s := S1024x1) ![0, 0] S1024x1.size inb_S1024x1_S1024x1_0_0
abbrev r3_2 : Rect S1x1024 := Rect.unit (s := S1x1024) ![0, 0] S1x1024.size inb_S1x1024_S1x1024_0_0
abbrev r3_3 : Rect S1024x8x128 := Rect.unit (s := S1024x8x128) ![0, 0, 0] S1024x2x128.size inb_S1024x8x128_S1024x2x128_0_0_0
abbrev r3_4 : Rect S1024x8x128 := Rect.unit (s := S1024x8x128) ![0, 2, 0] S1024x2x128.size inb_S1024x8x128_S1024x2x128_0_2_0
abbrev r3_5 : Rect S1024x8x128 := Rect.unit (s := S1024x8x128) ![0, 4, 0] S1024x2x128.size inb_S1024x8x128_S1024x2x128_0_4_0
abbrev r3_6 : Rect S1024x8x128 := Rect.unit (s := S1024x8x128) ![0, 6, 0] S1024x2x128.size inb_S1024x8x128_S1024x2x128_0_6_0

/-! ## What the body leaves in each output window's buffer -/

def out3_4 (x0 : Vec F S1024x7168 .fp8e4m3) (x1 : Vec F S1024x1 .f32) (x2 : Vec F S1024x7168 .fp8e4m3) (x3 : Vec F S1x1024 .f32) : Vec F S1024x8x128 .bf16 :=
  View.canon [⟨r3_6, k3_pay1 (k3_pay6 (View.ld x0 r3_0) (View.ld x2 r3_0) (View.ld x1 r3_1) (View.ld x3 r3_2)) (k3_pay7 (View.ld x0 r3_0) (View.ld x2 r3_0) (View.ld x1 r3_1) (View.ld x3 r3_2))⟩,
    ⟨r3_5, k3_pay5 (View.ld x0 r3_0) (View.ld x2 r3_0) (View.ld x1 r3_1) (View.ld x3 r3_2)⟩,
    ⟨r3_4, k3_pay4 (View.ld x0 r3_0) (View.ld x2 r3_0) (View.ld x1 r3_1) (View.ld x3 r3_2)⟩,
    ⟨r3_3, k3_pay3 (View.ld x0 r3_0) (View.ld x2 r3_0) (View.ld x1 r3_1) (View.ld x3 r3_2)⟩]

theorem cover3_4 (p0 : Vec F S1024x2x128 .bf16) (p1 : Vec F S1024x2x128 .bf16) (p2 : Vec F S1024x2x128 .bf16) (p3 : Vec F S1024x2x128 .bf16) (y : S1024x8x128.Idx) :
    ∃ pc ∈ ([⟨r3_6, p0⟩, ⟨r3_5, p1⟩, ⟨r3_4, p2⟩, ⟨r3_3, p3⟩] : List (View.Piece (Elt F) S1024x8x128 .bf16)), y ∈ pc.1.set :=
  View.cover_of_tiled [⟨r3_6, p0⟩, ⟨r3_5, p1⟩, ⟨r3_4, p2⟩, ⟨r3_3, p3⟩] S1024x2x128.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid3.Coords) (arg2 : Memref sig .tc .vmem S1024x7168 .fp8e4m3) (harg2 : arg2.IsWhole) (arg3 : Memref sig .tc .vmem S1024x1 .f32) (harg3 : arg3.IsWhole) (arg4 : Memref sig .tc .vmem S1024x7168 .fp8e4m3) (harg4 : arg4.IsWhole) (arg5 : Memref sig .tc .vmem S1x1024 .f32) (harg5 : arg5.IsWhole) (arg6 : Memref sig .tc .vmem S1024x8x128 .bf16) (harg6 : arg6.IsWhole)
    (x0 : Vec F S1024x7168 .fp8e4m3) (x1 : Vec F S1024x1 .f32) (x2 : Vec F S1024x7168 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3_4 x0 x1 x2 x3)) -∗ K ⟨⟩))
      ⊢ wp frame (wpE (defs₀ (F := F)) Variants.none c none) E (cc3_proj2 i arg2 harg2 arg3 harg3 arg4 harg4 arg5 harg5 arg6 harg6) K := by
  simp only [cc3_proj2_eq_skeleton]; unfold cc3_proj2_skel
  simp only [k3_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _ _ _ _)

/-! ## The pipeline's proof data -/

/-- The proof data: the arrays as the region finds them; after the body each input at its block and each output at
    `out` of the input blocks. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out3_4 (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := by
  dsimp only [dat]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = out3_4 (iblk V c 0 t) (iblk V c 1 t) (iblk V c 2 t) (iblk V c 3 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d

/-! ## The body obligation, at a generic point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3]
  rw [show (dat V c).Φ t.succ = (dat V c).Φ t.castSucc from rfl,
    show (dat V c).owesAt () t.succ = (dat V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg3.N) :
    defs₀ (F := F) .tc cfg3.body (cfg3.bodyArgs t (cfg3.slots t)) = bodyAt3 t := by
  unfold defs₀; rw [Defs.onTc_tc]

/-- The body obligation at every point. -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.R3

end
-- ==== Proof.KernelIdeal.Region4.lean ====
/- The glu region (pipeline 4) of `KernelIdeal`, at any contents `V` of the unscoped buffers on entry: each window's
   block at a point, what the body leaves in each output window's buffer, the body's triple, the proof data and the
   body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.R4

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses -/

abbrev r4_0 : Rect S512x7168 := Rect.unit (s := S512x7168) ![0, 0] S512x7168.size inb_S512x7168_S512x7168_0_0
abbrev r4_1 : Rect S512x1 := Rect.unit (s := S512x1) ![0, 0] S512x1.size inb_S512x1_S512x1_0_0
abbrev r4_2 : Rect S1x512 := Rect.unit (s := S1x512) ![0, 0] S1x512.size inb_S1x512_S1x512_0_0
abbrev rh_0 : Rect S9x512x512 := Rect.unit (s := S9x512x512) ![0, 0, 0] S1x512x512.size inb_S9x512x512_S1x512x512_0_0_0
abbrev rh_1 : Rect S9x512x512 := Rect.unit (s := S9x512x512) ![1, 0, 0] S1x512x512.size inb_S9x512x512_S1x512x512_1_0_0
abbrev rh_2 : Rect S9x512x512 := Rect.unit (s := S9x512x512) ![2, 0, 0] S1x512x512.size inb_S9x512x512_S1x512x512_2_0_0
abbrev rh_3 : Rect S9x512x512 := Rect.unit (s := S9x512x512) ![3, 0, 0] S1x512x512.size inb_S9x512x512_S1x512x512_3_0_0
abbrev rh_4 : Rect S9x512x512 := Rect.unit (s := S9x512x512) ![4, 0, 0] S1x512x512.size inb_S9x512x512_S1x512x512_4_0_0
abbrev rh_5 : Rect S9x512x512 := Rect.unit (s := S9x512x512) ![5, 0, 0] S1x512x512.size inb_S9x512x512_S1x512x512_5_0_0
abbrev rh_6 : Rect S9x512x512 := Rect.unit (s := S9x512x512) ![6, 0, 0] S1x512x512.size inb_S9x512x512_S1x512x512_6_0_0
abbrev rh_7 : Rect S9x512x512 := Rect.unit (s := S9x512x512) ![7, 0, 0] S1x512x512.size inb_S9x512x512_S1x512x512_7_0_0
abbrev rh_8 : Rect S9x512x512 := Rect.unit (s := S9x512x512) ![8, 0, 0] S1x512x512.size inb_S9x512x512_S1x512x512_8_0_0
abbrev rc_0 : Rect S512x4608 := Rect.unit (s := S512x4608) ![0, 0] S512x512.size inb_S512x4608_S512x512_0_0
abbrev rc_1 : Rect S512x4608 := Rect.unit (s := S512x4608) ![0, 512] S512x512.size inb_S512x4608_S512x512_0_512
abbrev rc_2 : Rect S512x4608 := Rect.unit (s := S512x4608) ![0, 1024] S512x512.size inb_S512x4608_S512x512_0_1024
abbrev rc_3 : Rect S512x4608 := Rect.unit (s := S512x4608) ![0, 1536] S512x512.size inb_S512x4608_S512x512_0_1536
abbrev rc_4 : Rect S512x4608 := Rect.unit (s := S512x4608) ![0, 2048] S512x512.size inb_S512x4608_S512x512_0_2048
abbrev rc_5 : Rect S512x4608 := Rect.unit (s := S512x4608) ![0, 2560] S512x512.size inb_S512x4608_S512x512_0_2560
abbrev rc_6 : Rect S512x4608 := Rect.unit (s := S512x4608) ![0, 3072] S512x512.size inb_S512x4608_S512x512_0_3072
abbrev rc_7 : Rect S512x4608 := Rect.unit (s := S512x4608) ![0, 3584] S512x512.size inb_S512x4608_S512x512_0_3584
abbrev rc_8 : Rect S512x4608 := Rect.unit (s := S512x4608) ![0, 4096] S512x512.size inb_S512x4608_S512x512_0_4096

/-! ## What the body computes -/

/-- The block of `h` a point computes, from the input windows' blocks, as it is stored in the scratch. -/
def hpay (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) : FVec F S1x512x512 .f32 :=
  k4_pay19 (View.ld x1 r4_1) (View.ld x0 r4_0) (View.ld x2 r4_0) (View.ld x4 r4_2) (View.ld x0 r4_0) (View.ld x3 r4_0) (View.ld x5 r4_2)
/-- Its rows' largest magnitudes. -/
def rowmax (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) : FVec F S512x1 .f32 :=
  k4_pay20 (View.ld x1 r4_1) (View.ld x0 r4_0) (View.ld x2 r4_0) (View.ld x4 r4_2) (View.ld x0 r4_0) (View.ld x3 r4_0) (View.ld x5 r4_2)
/-- The running largest magnitudes after the point, from the ones before it. -/
def amaxStep (i : grid4.Coords) (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) (xa : Vec F S512x1 .f32) : FVec F S512x1 .f32 :=
  k4_pay1 (rowmax x0 x1 x2 x3 x4 x5) (Scalar.cmpi .eq (BitVec.ofNat 32 (i 1).val) 0#32) (k4_pay21 (View.ld x1 r4_1) (View.ld x0 r4_0) (View.ld x2 r4_0) (View.ld x4 r4_2) (View.ld x0 r4_0) (View.ld x3 r4_0) (View.ld x5 r4_2) (View.ld xa r4_1))
/-- The exponent field the last point of a row block finds, from the largest magnitudes. -/
def aexp (a : Vec F S512x1 .f32) : IVec S512x1 32 :=
  k4_pay8 (k4_pay5 a) (k4_pay6 a) (k4_pay7 a) 23#32
/-- The scales stored at the last point of a row block. -/
def out4_7 (a : Vec F S512x1 .f32) : Vec F S512x1 .f32 :=
  k4_pay9 (k4_pay5 a) (k4_pay6 a) (k4_pay7 a) 23#32
/-- The codes stored at the last point of a row block, from the largest magnitudes and the nine blocks of `h`. -/
def out4_6 (a : Vec F S512x1 .f32) (H : Fin 9 → Vec F S1x512x512 .f32) : Vec F S512x4608 .fp8e4m3 :=
  View.canon [⟨rc_8, k4_pay4 (k4_pay10 (F := F) (aexp a)) (H 8)⟩,
    ⟨rc_7, k4_pay3 (k4_pay10 (F := F) (aexp a)) (H 7)⟩,
    ⟨rc_6, k4_pay2 (k4_pay10 (F := F) (aexp a)) (H 6)⟩,
    ⟨rc_5, k4_pay17 (k4_pay10 (F := F) (aexp a)) (H 5)⟩,
    ⟨rc_4, k4_pay16 (k4_pay10 (F := F) (aexp a)) (H 4)⟩,
    ⟨rc_3, k4_pay15 (k4_pay10 (F := F) (aexp a)) (H 3)⟩,
    ⟨rc_2, k4_pay14 (k4_pay13 (aexp a) (H 2))⟩,
    ⟨rc_1, k4_pay12 (aexp a) (H 1)⟩,
    ⟨rc_0, k4_pay11 (aexp a) (H 0)⟩]

theorem cover4_6 (p0 p1 p2 p3 p4 p5 p6 p7 p8 : Vec F S512x512 .fp8e4m3) (y : S512x4608.Idx) :
    ∃ pc ∈ ([⟨rc_8, p8⟩, ⟨rc_7, p7⟩, ⟨rc_6, p6⟩, ⟨rc_5, p5⟩, ⟨rc_4, p4⟩, ⟨rc_3, p3⟩, ⟨rc_2, p2⟩, ⟨rc_1, p1⟩, ⟨rc_0, p0⟩] : List (View.Piece (Elt F) S512x4608 .fp8e4m3)), y ∈ pc.1.set :=
  View.cover_of_tiled [⟨rc_8, p8⟩, ⟨rc_7, p7⟩, ⟨rc_6, p6⟩, ⟨rc_5, p5⟩, ⟨rc_4, p4⟩, ⟨rc_3, p3⟩, ⟨rc_2, p2⟩, ⟨rc_1, p1⟩, ⟨rc_0, p0⟩] S512x512.size (by rfl) y

/-- The nine blocks of the scratch. -/
def rows (xh : Vec F S9x512x512 .f32) (j : Fin 9) : Vec F S1x512x512 .f32 := match j with
  | 0 => View.ld xh rh_0
  | 1 => View.ld xh rh_1
  | 2 => View.ld xh rh_2
  | 3 => View.ld xh rh_3
  | 4 => View.ld xh rh_4
  | 5 => View.ld xh rh_5
  | 6 => View.ld xh rh_6
  | 7 => View.ld xh rh_7
  | 8 => View.ld xh rh_8

set_option maxHeartbeats 1000000 in
theorem sound_mid (c : Dev nD) (E : Set ℕ) (i : grid4.Coords) (hi : ¬ k4_cond1 i = 1#1) (arg2 : Memref sig .tc .vmem S512x7168 .fp8e4m3) (harg2 : arg2.IsWhole) (arg3 : Memref sig .tc .vmem S512x1 .f32) (harg3 : arg3.IsWhole) (arg4 : Memref sig .tc .vmem S512x7168 .fp8e4m3) (harg4 : arg4.IsWhole) (arg5 : Memref sig .tc .vmem S512x7168 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4608 .fp8e4m3) (harg8 : arg8.IsWhole) (arg9 : Memref sig .tc .vmem S512x1 .f32) (harg9 : arg9.IsWhole) (arg10 : Memref sig .tc .vmem S9x512x512 .f32) (harg10 : arg10.IsWhole) (arg11 : Memref sig .tc .vmem S512x1 .f32) (harg11 : arg11.IsWhole)
    (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) (xh : Vec F S9x512x512 .f32) (xa : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xh ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (VecWindow.put xh (k4_off1 i) S1x512x512.size (hpay x0 x1 x2 x3 x4 x5)) ∗ owns (c : Thread nD τ) arg11 fullShare (amaxStep i x0 x1 x2 x3 x4 x5 xa)) -∗ K ⟨⟩))
      ⊢ wp frame (wpE (defs₀ (F := F)) Variants.none c none) E (cc4_glu i arg2 harg2 arg3 harg3 arg4 harg4 arg5 harg5 arg6 harg6 arg7 harg7 arg8 harg8 arg9 harg9 arg10 harg10 arg11 harg11) K := by
  simp only [cc4_glu_eq_skeleton]; unfold cc4_glu_skel
  simp only [k4_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fh, %hfh, Hh⟩, ⟨%fa, %hfa, Ha⟩, Hk⟩
  subst hf0 hf1 hf2 hf3 hf4 hf5 hfh hfa
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [Hh]
  · iexists _; isplitr
    swap; · iexact Hh
    ipureintro
    exact View.read_writes_cons_put _ _ _ _ [] rfl
  iexists _; isplitr
  swap; · iexact Ha
  ipureintro
  exact View.read_writes_full _ _ _ _ _

set_option maxHeartbeats 1000000 in
theorem sound_last (c : Dev nD) (E : Set ℕ) (i : grid4.Coords) (hi : k4_cond1 i = 1#1) (arg2 : Memref sig .tc .vmem S512x7168 .fp8e4m3) (harg2 : arg2.IsWhole) (arg3 : Memref sig .tc .vmem S512x1 .f32) (harg3 : arg3.IsWhole) (arg4 : Memref sig .tc .vmem S512x7168 .fp8e4m3) (harg4 : arg4.IsWhole) (arg5 : Memref sig .tc .vmem S512x7168 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x4608 .fp8e4m3) (harg8 : arg8.IsWhole) (arg9 : Memref sig .tc .vmem S512x1 .f32) (harg9 : arg9.IsWhole) (arg10 : Memref sig .tc .vmem S9x512x512 .f32) (harg10 : arg10.IsWhole) (arg11 : Memref sig .tc .vmem S512x1 .f32) (harg11 : arg11.IsWhole)
    (x0 : Vec F S512x7168 .fp8e4m3) (x1 : Vec F S512x1 .f32) (x2 : Vec F S512x7168 .fp8e4m3) (x3 : Vec F S512x7168 .fp8e4m3) (x4 : Vec F S1x512 .f32) (x5 : Vec F S1x512 .f32) (xh : Vec F S9x512x512 .f32) (xa : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xh ∗ owns (c : Thread nD τ) arg11 fullShare xa
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out4_6 (amaxStep i x0 x1 x2 x3 x4 x5 xa) (rows (VecWindow.put xh (k4_off1 i) S1x512x512.size (hpay x0 x1 x2 x3 x4 x5)))) ∗ owns (c : Thread nD τ) arg9 fullShare (out4_7 (amaxStep i x0 x1 x2 x3 x4 x5 xa)) ∗ owns (c : Thread nD τ) arg10 fullShare (VecWindow.put xh (k4_off1 i) S1x512x512.size (hpay x0 x1 x2 x3 x4 x5)) ∗ owns (c : Thread nD τ) arg11 fullShare (amaxStep i x0 x1 x2 x3 x4 x5 xa)) -∗ K ⟨⟩))
      ⊢ wp frame (wpE (defs₀ (F := F)) Variants.none c none) E (cc4_glu i arg2 harg2 arg3 harg3 arg4 harg4 arg5 harg5 arg6 harg6 arg7 harg7 arg8 harg8 arg9 harg9 arg10 harg10 arg11 harg11) K := by
  simp only [cc4_glu_eq_skeleton]; unfold cc4_glu_skel
  simp only [k4_part5_eq_skeleton, k4_part1_eq_skeleton, k4_part2_eq_skeleton, k4_part3_eq_skeleton, k4_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fh, %hfh, Hh⟩, ⟨%fa, %hfa, Ha⟩, Hk⟩
  subst hf0 hf1 hf2 hf3 hf4 hf5 hfh hfa
  sl_exec
  have ea : sound_last.sl.v42 c i arg2 arg3 arg4 arg5 arg6 arg7 arg11 f0 f1 f2 f3 f4 f5 fa = (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa)) := View.readCov_full _ _ _ _ _
  have e5 : sound_last.sl.r_5 c i arg2 arg3 arg4 arg5 arg6 arg7 arg11 f0 f1 f2 f3 f4 f5 fa = aexp (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa)) := by
    rw [← ea]; rfl
  have e9 : sound_last.sl.r_6 c i arg2 arg3 arg4 arg5 arg6 arg7 arg11 f0 f1 f2 f3 f4 f5 fa = out4_7 (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa)) := by
    rw [← ea]; rfl
  have e6 : sound_last.sl.r_7 c i arg2 arg3 arg4 arg5 arg6 arg7 arg11 f0 f1 f2 f3 f4 f5 fa = k4_pay10 (F := F) (aexp (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa))) := by
    rw [← e5]; rfl
  have eh : View.read (Elt F) arg10.view (arg10.view.writes (Elt F) fh (sound_last.sl.Hh_1 c i arg2 arg3 arg4 arg5 arg6 arg7 f0 f1 f2 f3 f4 f5)) = (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) :=
    View.read_writes_cons_put _ _ _ _ [] rfl
  have v0 : sound_last.sl.v135 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 0 := by
    rw [← eh]; rfl
  have v1 : sound_last.sl.v145 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 1 := by
    rw [← eh]; rfl
  have v2 : sound_last.sl.v155 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 2 := by
    rw [← eh]; rfl
  have v3 : sound_last.sl.v165 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 3 := by
    rw [← eh]; rfl
  have v4 : sound_last.sl.v175 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 4 := by
    rw [← eh]; rfl
  have v5 : sound_last.sl.v185 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 5 := by
    rw [← eh]; rfl
  have v6 : sound_last.sl.v195 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 6 := by
    rw [← eh]; rfl
  have v7 : sound_last.sl.v205 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 7 := by
    rw [← eh]; rfl
  have v8 : sound_last.sl.v215 c i arg2 arg3 arg4 arg5 arg6 arg7 arg10 f0 f1 f2 f3 f4 f5 fh = rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 8 := by
    rw [← eh]; rfl
  have e8 : sound_last.sl.r_8 c i arg2 arg3 arg4 arg5 arg6 arg7 arg10 arg11 f0 f1 f2 f3 f4 f5 fh fa = k4_pay13 (aexp (amaxStep i (View.read (Elt F) arg2.view f0) (View.read (Elt F) arg3.view f1) (View.read (Elt F) arg4.view f2) (View.read (Elt F) arg5.view f3) (View.read (Elt F) arg6.view f4) (View.read (Elt F) arg7.view f5) (View.read (Elt F) arg11.view fa))) (rows (VecWindow.put (View.read (Elt F) arg10.view fh) (k4_off1 i) S1x512x512.size (hpay (View.read (Elt F) arg2.view f0) (View.read (Elt F) arg3.view f1) (View.read (Elt F) arg4.view f2) (View.read (Elt F) arg5.view f3) (View.read (Elt F) arg6.view f4) (View.read (Elt F) arg7.view f5))) 2) := by
    rw [← e5, ← v2]; rfl
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4_6 _ _ _ _ _ _ _ _ _)).trans ?_
    rw [e6, e5, e8, v0, v1, v3, v4, v5, v6, v7, v8]
    rfl
  isplitl [H7]
  · iexists _; isplitr
    swap; · iexact H7
    ipureintro
    exact (View.read_writes_full _ _ _ _ _).trans e9
  isplitl [Hh]
  · iexists _; isplitr
    swap; · iexact Hh
    ipureintro
    exact View.read_writes_cons_put _ _ _ _ [] rfl
  iexists _; isplitr
  swap; · iexact Ha
  ipureintro
  exact View.read_writes_full _ _ _ _ _
/-! ## The windows' blocks -/

/-- Window `w`'s block at point `t`. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk V c 5 t) (t : Fin cfg4.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The scratch, point by point -/

/-- The grid point of a number. -/
def pt (n : ℕ) : Fin cfg4.N := ⟨n % 144, (Nat.mod_lt _ (by decide)).trans_eq N_4.symm⟩
theorem pt_val (t : Fin cfg4.N) : pt t.val = t := Fin.ext (Nat.mod_eq_of_lt (t.isLt.trans_eq N_4))

/-- The block of `h` point `n` computes. -/
def hval (c : Dev nD) (n : ℕ) : Vec F S1x512x512 .f32 := hpay (iblk V c 0 (pt n)) (iblk V c 1 (pt n)) (iblk V c 2 (pt n)) (iblk V c 3 (pt n)) (iblk V c 4 (pt n)) (iblk V c 5 (pt n))
/-- Its rows' largest magnitudes. -/
def rmax (c : Dev nD) (n : ℕ) : Vec F S512x1 .f32 := rowmax (iblk V c 0 (pt n)) (iblk V c 1 (pt n)) (iblk V c 2 (pt n)) (iblk V c 3 (pt n)) (iblk V c 4 (pt n)) (iblk V c 5 (pt n))
/-- The largest magnitudes over the points of the row block up to `n`. -/
def amx (c : Dev nD) : ℕ → Vec F S512x1 .f32
  | 0 => rmax V c 0
  | n + 1 => if (n + 1) % 9 = 0 then rmax V c (n + 1) else maximumf (amx c n) (rmax V c (n + 1))

theorem off1_eq : ∀ t : Fin grid4.N, k4_off1 (grid4.coords t) = ![t.val % 9, 0, 0] := by decide +kernel
theorem cond1_iff : ∀ t : Fin grid4.N, k4_cond1 (grid4.coords t) = 1#1 ↔ t.val % 9 = 8 := by decide +kernel
theorem first_eq : ∀ t : Fin grid4.N, Scalar.cmpi .eq (BitVec.ofNat 32 ((grid4.coords t) 1).val) 0#32 = if t.val % 9 = 0 then 1#1 else 0#1 := by decide +kernel

theorem ld_r4_1 (x : Vec F S512x1 .f32) : View.ld x r4_1 = x := View.ld_unit_zero (by funext a; fin_cases a <;> rfl) _ x

theorem rows_eq (xh : Vec F S9x512x512 .f32) (j : Fin 9) (h : ∀ a, (![j.val, 0, 0] : Fin 3 → ℕ) a + S1x512x512.size a ≤ S9x512x512.size a) :
    rows xh j = VecWindow.window xh ![j.val, 0, 0] S1x512x512.size h := by
  fin_cases j <;> rfl

theorem rows_put (xh : Vec F S9x512x512 .f32) (w : Vec F S1x512x512 .f32) (k j : Fin 9) :
    rows (VecWindow.put xh ![k.val, 0, 0] S1x512x512.size w) j = if j = k then w else rows xh j := by
  have hb : ∀ j : Fin 9, ∀ a, (![j.val, 0, 0] : Fin 3 → ℕ) a + S1x512x512.size a ≤ S9x512x512.size a := by decide
  rw [rows_eq _ j (hb j)]
  by_cases h : j = k
  · subst h; rw [if_pos rfl]; exact VecWindow.window_put_same _ _ _ _ _
  · rw [if_neg h, rows_eq _ j (hb j)]
    refine VecWindow.window_put_of_disjoint _ _ _ _ _ _ _ 0 ?_
    have h' : j.val ≠ k.val := fun e => h (Fin.ext e)
    show j.val + 1 ≤ k.val ∨ k.val + 1 ≤ j.val
    omega

theorem amaxStep_eq (c : Dev nD) (t : Fin cfg4.N) (xa : Vec F S512x1 .f32) (h : 0 < t.val % 9 → xa = amx V c (t.val - 1)) :
    amaxStep (grid4.coords t) (iblk V c 0 t) (iblk V c 1 t) (iblk V c 2 t) (iblk V c 3 t) (iblk V c 4 t) (iblk V c 5 t) xa = amx V c t.val := by
  unfold amaxStep k4_pay1
  rw [first_eq, ld_r4_1 xa]
  have hr : rowmax (iblk V c 0 t) (iblk V c 1 t) (iblk V c 2 t) (iblk V c 3 t) (iblk V c 4 t) (iblk V c 5 t) = rmax V c t.val := by unfold rmax; rw [pt_val]
  obtain h0 | h0 := Nat.eq_zero_or_pos (t.val % 9)
  · rw [if_pos h0]
    refine (shapeCast_self _ _).trans ?_
    refine (if_pos rfl).trans ?_
    rw [hr]
    obtain he | ⟨n, he⟩ : t.val = 0 ∨ ∃ n, t.val = n + 1 := by cases t.val <;> simp
    · rw [he]; rfl
    · rw [he] at h0 ⊢; unfold amx; rw [if_pos h0]
  · rw [if_neg (by omega)]
    refine (shapeCast_self _ _).trans ?_
    refine (if_neg (by decide)).trans ?_
    unfold k4_pay21
    show maximumf xa (rowmax _ _ _ _ _ _) = _
    rw [hr, h h0]
    obtain ⟨n, he⟩ : ∃ n, t.val = n + 1 := ⟨t.val - 1, by omega⟩
    rw [he] at h0 ⊢
    conv_rhs => unfold amx
    rw [if_neg (by omega)]; rfl

/-- What the scratch holds before point `n`: the row block's blocks of `h` so far, and their largest magnitudes. -/
def Inv (c : Dev nD) (n : ℕ) (xh : Vec F S9x512x512 .f32) (xa : Vec F S512x1 .f32) : Prop :=
  (∀ j : Fin 9, j.val < n % 9 → rows xh j = hval V c (n - n % 9 + j.val)) ∧ (0 < n % 9 → xa = amx V c (n - 1))

theorem step_rows (c : Dev nD) (t : Fin cfg4.N) (xh : Vec F S9x512x512 .f32) (xa : Vec F S512x1 .f32) (h : Inv V c t.val xh xa) (j : Fin 9)
    (hj : j.val ≤ t.val % 9) :
    rows (VecWindow.put xh (k4_off1 (grid4.coords t)) S1x512x512.size (hpay (iblk V c 0 t) (iblk V c 1 t) (iblk V c 2 t) (iblk V c 3 t) (iblk V c 4 t) (iblk V c 5 t))) j = hval V c (t.val - t.val % 9 + j.val) := by
  rw [off1_eq]
  refine (rows_put xh _ ⟨t.val % 9, Nat.mod_lt _ (by decide)⟩ j).trans ?_
  by_cases e : j = ⟨t.val % 9, Nat.mod_lt _ (by decide)⟩
  · rw [if_pos e]
    have e' : t.val - t.val % 9 + j.val = t.val := by rw [e]; have := Nat.mod_le t.val 9; show t.val - t.val % 9 + t.val % 9 = _; omega
    rw [e']; unfold hval; rw [pt_val]
  · rw [if_neg e]
    exact h.1 j (lt_of_le_of_ne hj fun e' => e (Fin.ext e'))

theorem step_inv (c : Dev nD) (t : Fin cfg4.N) (xh : Vec F S9x512x512 .f32) (xa : Vec F S512x1 .f32) (h : Inv V c t.val xh xa) :
    Inv V c (t.val + 1) (VecWindow.put xh (k4_off1 (grid4.coords t)) S1x512x512.size (hpay (iblk V c 0 t) (iblk V c 1 t) (iblk V c 2 t) (iblk V c 3 t) (iblk V c 4 t) (iblk V c 5 t)))
      (amaxStep (grid4.coords t) (iblk V c 0 t) (iblk V c 1 t) (iblk V c 2 t) (iblk V c 3 t) (iblk V c 4 t) (iblk V c 5 t) xa) := by
  constructor
  · intro j hj
    have e : (t.val + 1) - (t.val + 1) % 9 = t.val - t.val % 9 := by omega
    rw [e]; exact step_rows V c t xh xa h j (by omega)
  · intro _; exact amaxStep_eq V c t xa h.2

/-! ## The pipeline's proof data -/

/-- The region's invariant: the scratch at contents the points so far explain, the other scoped buffers and the
    generator register at anything. -/
def Phi (c : Dev nD) (n : ℕ) : sProp 𝕄 :=
  iprop(∃ xh xa, ⌜Inv V c n xh xa⌝ ∗ owns (c : Thread nD τ) (Memref.whole cc4_scratch0) fullShare xh ∗ owns (c : Thread nD τ) (Memref.whole cc4_scratch1) fullShare xa
    ∗ Pipeline.scopedRestBut (Ix := Unit) (Name := ℕ) (U := UR sig nD τ) (Lvl := ℕ) (Val := Elt F) spec4 c [cc4_scratch0, cc4_scratch1] ∗ ∃ r, prngReg c r)

/-- The codes and scales stored for point `n`'s row block, when `n` is its last point. -/
def codesAt (c : Dev nD) (n : ℕ) : Vec F S512x4608 .fp8e4m3 := out4_6 (amx V c n) (fun j => hval V c (n - n % 9 + j.val))
def scalesAt (c : Dev nD) (n : ℕ) : Vec F S512x1 .f32 := out4_7 (amx V c n)

/-- The proof data: the arrays as the region finds them; after the body each input at its block and each output at
    what a row block's last point stores. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => codesAt V c t.val
    | ⟨7, _⟩ => scalesAt V c t.val
  Φ t := Phi V c t.val
  q w := Pipeline.shareOf spec4 w
  owed _ := 0

theorem A_eq (c : Dev nD) (w : Fin cfg4.W) : (dat V c).A w = V c (Pipeline.arrRef spec4 w) := by
  dsimp only [dat]

theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = iblk V c 3 t := by dsimp only [dat]
theorem after4_4 (c : Dev nD) (t : Fin cfg4.N) : (dat V c).after 4 t = iblk V c 4 t := by dsimp only [dat]
theorem after4_5 (c : Dev nD) (t : Fin cfg4.N) : (dat V c).after 5 t = iblk V c 5 t := by dsimp only [dat]
theorem after4_6 (c : Dev nD) (t : Fin cfg4.N) : (dat V c).after 6 t = codesAt V c t.val := by dsimp only [dat]
theorem after4_7 (c : Dev nD) (t : Fin cfg4.N) : (dat V c).after 7 t = scalesAt V c t.val := by dsimp only [dat]

theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d
theorem before4_3 (c : Dev nD) (t : Fin cfg4.N) (d) : (dat V c).before 3 t d = iblk V c 3 t :=
  before4_3_of V (dat V c) (A_eq V c 3) (after4_3 V c) t d
theorem before4_4 (c : Dev nD) (t : Fin cfg4.N) (d) : (dat V c).before 4 t d = iblk V c 4 t :=
  before4_4_of V (dat V c) (A_eq V c 4) (after4_4 V c) t d
theorem before4_5 (c : Dev nD) (t : Fin cfg4.N) (d) : (dat V c).before 5 t d = iblk V c 5 t :=
  before4_5_of V (dat V c) (A_eq V c 5) (after4_5 V c) t d

/-- Entering the region, and leaving it. -/
theorem hin (c : Dev nD) : Pipeline.ΦA (Val := Elt F) (U := UR sig nD τ) spec4 c ⊢ (dat V c).Φ 0 := by
  show Pipeline.ΦA (Val := Elt F) (U := UR sig nD τ) spec4 c ⊢ Phi V c 0
  unfold Pipeline.ΦA Phi
  rw [scopedRest4_split]
  simp only [owns_whole]
  iintro ⟨⟨⟨⟨%f, Hf⟩, ⟨%g, Hg⟩⟩, Hr⟩, Hp⟩
  iexists f; iexists g
  isplitr
  · ipureintro; exact ⟨fun j hj => absurd hj (by simp), fun h => absurd h (by simp)⟩
  isplitl [Hf]; · iexact Hf
  isplitl [Hg]; · iexact Hg
  isplitl [Hr]; · iexact Hr
  iexact Hp

theorem hout (c : Dev nD) (n : ℕ) : Phi V c n ⊢ Pipeline.ΦA (Val := Elt F) (U := UR sig nD τ) spec4 c := by
  unfold Pipeline.ΦA Phi
  rw [scopedRest4_split]
  simp only [owns_whole]
  iintro ⟨%xh, %xa, -, Hf, Hg, Hr, Hp⟩
  isplitr [Hp]
  · isplitr [Hr]
    · isplitl [Hf]
      · iexists xh; iexact Hf
      · iexists xa; iexact Hg
    · iexact Hr
  · iexact Hp

/-! ## The body obligation, at a generic point -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ (dat V c).leavesExact 6 t
    ∗ (dat V c).leavesExact 7 t)

theorem idle6 (t : Fin cfg4.N) : cfg4.idle 6 (cfg4.grid.coords t) = !(k4_cond1 (grid4.coords t) == 1#1) := rfl
theorem idle7 (t : Fin cfg4.N) : cfg4.idle 7 (cfg4.grid.coords t) = !(k4_cond1 (grid4.coords t) == 1#1) := rfl

set_option maxHeartbeats 1000000 in
theorem sound_body (c : Dev nD) (t : Fin cfg4.N) :
    bodyPre V c t ⊢ wp frame (wpE (defs₀ (F := F)) Variants.none c none) Set.univ (bodyAt4 t) (fun _ => bodyPost V c t) := by
  by_cases hi : k4_cond1 (grid4.coords t) = 1#1
  · have h8 := (cond1_iff t).1 hi
    have l6 : (dat V c).leavesExact 6 t = owns (c : Thread nD τ) (st4_6 t) fullShare (codesAt V c t.val) := by
      unfold Dat.leavesExact; rw [idle6, hi]
      show owns (c : Thread nD τ) (st4_6 t) fullShare ((dat V c).after 6 t) = _
      rw [after4_6]
    have l7 : (dat V c).leavesExact 7 t = owns (c : Thread nD τ) (st4_7 t) fullShare (scalesAt V c t.val) := by
      unfold Dat.leavesExact; rw [idle7, hi]
      show owns (c : Thread nD τ) (st4_7 t) fullShare ((dat V c).after 7 t) = _
      rw [after4_7]
    unfold bodyPre bodyPost bodyAt4
    rw [l6, l7]
    simp only [before4_0, before4_1, before4_2, before4_3, before4_4, before4_5]
    rw [show (dat V c).Φ t.succ = Phi V c (t.val + 1) from rfl, show (dat V c).Φ t.castSucc = Phi V c t.val from rfl,
      show (dat V c).owesAt () t.succ = (dat V c).owesAt () t.castSucc from rfl,
      after4_0, after4_1, after4_2, after4_3, after4_4, after4_5]
    unfold Phi
    iintro ⟨⟨%xh, %xa, %hI, Hh, Ha, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_last c Set.univ (grid4.coords t) hi _ _ _ _ _ _ _ _ _ _ _ _ _ _ _ _ _ _ _ _ (iblk V c 0 t) (iblk V c 1 t) (iblk V c 2 t) (iblk V c 3 t) (iblk V c 4 t) (iblk V c 5 t) xh xa _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hh]; · iexact Hh
    isplitl [Ha]; · iexact Ha
    have e6 : out4_6 (amaxStep (grid4.coords t) (iblk V c 0 t) (iblk V c 1 t) (iblk V c 2 t) (iblk V c 3 t) (iblk V c 4 t) (iblk V c 5 t) xa) (rows (VecWindow.put xh (k4_off1 (grid4.coords t)) S1x512x512.size (hpay (iblk V c 0 t) (iblk V c 1 t) (iblk V c 2 t) (iblk V c 3 t) (iblk V c 4 t) (iblk V c 5 t)))) = codesAt V c t.val := by
      unfold codesAt
      rw [amaxStep_eq V c t xa hI.2]
      congr 1
      funext j
      exact step_rows V c t xh xa hI j (by omega)
    have e7 : out4_7 (amaxStep (grid4.coords t) (iblk V c 0 t) (iblk V c 1 t) (iblk V c 2 t) (iblk V c 3 t) (iblk V c 4 t) (iblk V c 5 t) xa) = scalesAt V c t.val := by
      unfold scalesAt
      rw [amaxStep_eq V c t xa hI.2]
    rw [e6, e7]
    iintro ⟨H0, H1, H2, H3, H4, H5, H6, H7, Hh, Ha⟩
    isplitl [Hh Ha Hr Hp]
    · iexists _; iexists _
      isplitr
      swap
      · isplitl [Hh]; · iexact Hh
        isplitl [Ha]; · iexact Ha
        isplitl [Hr]; · iexact Hr
        iexact Hp
      ipureintro; exact step_inv V c t xh xa hI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h8 : t.val % 9 ≠ 8 := fun h => hi ((cond1_iff t).2 h)
    have hb : (!(k4_cond1 (grid4.coords t) == 1#1)) = true := by simpa using hi
    have f6 : (cfg4.win 6).flush t = false := Bool.eq_false_iff.2 fun h => h8 ((flush4_6 t).1 h)
    have f7 : (cfg4.win 7).flush t = false := Bool.eq_false_iff.2 fun h => h8 ((flush4_7 t).1 h)
    unfold bodyPre bodyPost bodyAt4
    rw [(dat V c).leavesExact_idle 6 t ((idle6 t).trans hb) f6, (dat V c).leavesExact_idle 7 t ((idle7 t).trans hb) f7]
    simp only [before4_0, before4_1, before4_2, before4_3, before4_4, before4_5]
    rw [show (dat V c).Φ t.succ = Phi V c (t.val + 1) from rfl, show (dat V c).Φ t.castSucc = Phi V c t.val from rfl,
      show (dat V c).owesAt () t.succ = (dat V c).owesAt () t.castSucc from rfl,
      after4_0, after4_1, after4_2, after4_3, after4_4, after4_5]
    unfold Phi
    iintro ⟨⟨%xh, %xa, %hI, Hh, Ha, Hr, Hp⟩, Ho, ⟨%d0, H0⟩, ⟨%d1, H1⟩, ⟨%d2, H2⟩, ⟨%d3, H3⟩, ⟨%d4, H4⟩, ⟨%d5, H5⟩, H6, H7⟩
    iapply (sound_mid c Set.univ (grid4.coords t) hi _ _ _ _ _ _ _ _ _ _ _ _ _ _ _ _ _ _ _ _ (iblk V c 0 t) (iblk V c 1 t) (iblk V c 2 t) (iblk V c 3 t) (iblk V c 4 t) (iblk V c 5 t) xh xa _)
    isplitl [H0]; · iexact H0
    isplitl [H1]; · iexact H1
    isplitl [H2]; · iexact H2
    isplitl [H3]; · iexact H3
    isplitl [H4]; · iexact H4
    isplitl [H5]; · iexact H5
    isplitl [Hh]; · iexact Hh
    isplitl [Ha]; · iexact Ha
    iintro ⟨H0, H1, H2, H3, H4, H5, Hh, Ha⟩
    isplitl [Hh Ha Hr Hp]
    · iexists _; iexists _
      isplitr
      swap
      · isplitl [Hh]; · iexact Hh
        isplitl [Ha]; · iexact Ha
        isplitl [Hr]; · iexact Hr
        iexact Hp
      ipureintro; exact step_inv V c t xh xa hI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg4.N) :
    defs₀ (F := F) .tc cfg4.body (cfg4.bodyArgs t (cfg4.slots t)) = bodyAt4 t := by
  unfold defs₀; rw [Defs.onTc_tc]

/-- The body obligation at every point. -/
theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

end Cert.KernelIdeal.R4

end
-- ==== Proof.KernelIdeal.Region5.lean ====
/- The down region (pipeline 5) of `KernelIdeal`, at any contents `V` of the unscoped buffers on entry: each window's
   block at a point, what the body leaves in each output window's buffer, the body's triple, the proof data and the
   body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.R5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk V c 2 t) (t : Fin cfg5.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk V c 3 t) (t : Fin cfg5.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk V c 4 t) (t : Fin cfg5.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r5_0 : Rect S1024x4608 := Rect.unit (s := S1024x4608) ![0, 0] S1024x4608.size inb_S1024x4608_S1024x4608_0_0
abbrev r5_1 : Rect S1024x1 := Rect.unit (s := S1024x1) ![0, 0] S1024x1.size inb_S1024x1_S1024x1_0_0
abbrev r5_2 : Rect S1x1024 := Rect.unit (s := S1x1024) ![0, 0] S1x1024.size inb_S1x1024_S1x1024_0_0
abbrev r5_3 : Rect S1024x1024 := Rect.unit (s := S1024x1024) ![0, 0] S1024x1024.size inb_S1024x1024_S1024x1024_0_0

/-! ## What the body leaves in each output window's buffer -/

def out5_5 (x0 : Vec F S1024x4608 .fp8e4m3) (x1 : Vec F S1024x1 .f32) (x2 : Vec F S1024x4608 .fp8e4m3) (x3 : Vec F S1x1024 .f32) (x4 : Vec F S1024x1024 .bf16) : Vec F S1024x1024 .bf16 :=
  View.canon [⟨r5_3, k5_pay1 (View.ld x0 r5_0) (View.ld x2 r5_0) (View.ld x1 r5_1) (View.ld x3 r5_2) (View.ld x4 r5_3)⟩]

theorem cover5_5 (p0 : Vec F S1024x1024 .bf16) (y : S1024x1024.Idx) :
    ∃ pc ∈ ([⟨r5_3, p0⟩] : List (View.Piece (Elt F) S1024x1024 .bf16)), y ∈ pc.1.set :=
  View.cover_of_tiled [⟨r5_3, p0⟩] S1024x1024.size (by rfl) y

/-! ## The body's triple -/

set_option maxHeartbeats 1000000 in
/-- The body on whole staging memrefs, the inputs at `x0 …`, the outputs at anything, leaves each output at `out` of
    the inputs. -/
theorem sound_kernel (c : Dev nD) (E : Set ℕ) (i : grid5.Coords) (arg2 : Memref sig .tc .vmem S1024x4608 .fp8e4m3) (harg2 : arg2.IsWhole) (arg3 : Memref sig .tc .vmem S1024x1 .f32) (harg3 : arg3.IsWhole) (arg4 : Memref sig .tc .vmem S1024x4608 .fp8e4m3) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x4608 .fp8e4m3) (x1 : Vec F S1024x1 .f32) (x2 : Vec F S1024x4608 .fp8e4m3) (x3 : Vec F S1x1024 .f32) (x4 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5_down i arg2 harg2 arg3 harg3 arg4 harg4 arg5 harg5 arg6 harg6 arg7 harg7) K := by
  simp only [cc5_down_eq_skeleton]; unfold cc5_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data: the arrays as the region finds them; after the body each input at its block and each output at
    `out` of the input blocks. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5_5 (iblk V c 0 t) (iblk V c 1 t) (iblk V c 2 t) (iblk V c 3 t) (iblk V c 4 t)
  Φ _ := Pipeline.ΦA spec5 c
  q _ := fullShare
  owed _ := 0

theorem A_eq (c : Dev nD) (w : Fin cfg5.W) : (dat V c).A w = V c (Pipeline.arrRef spec5 w) := by
  dsimp only [dat]

theorem after5_0 (c : Dev nD) (t : Fin cfg5.N) : (dat V c).after 0 t = iblk V c 0 t := by dsimp only [dat]
theorem after5_1 (c : Dev nD) (t : Fin cfg5.N) : (dat V c).after 1 t = iblk V c 1 t := by dsimp only [dat]
theorem after5_2 (c : Dev nD) (t : Fin cfg5.N) : (dat V c).after 2 t = iblk V c 2 t := by dsimp only [dat]
theorem after5_3 (c : Dev nD) (t : Fin cfg5.N) : (dat V c).after 3 t = iblk V c 3 t := by dsimp only [dat]
theorem after5_4 (c : Dev nD) (t : Fin cfg5.N) : (dat V c).after 4 t = iblk V c 4 t := by dsimp only [dat]
theorem after5_5 (c : Dev nD) (t : Fin cfg5.N) : (dat V c).after 5 t = out5_5 (iblk V c 0 t) (iblk V c 1 t) (iblk V c 2 t) (iblk V c 3 t) (iblk V c 4 t) := by dsimp only [dat]

theorem before5_0 (c : Dev nD) (t : Fin cfg5.N) (d) : (dat V c).before 0 t d = iblk V c 0 t :=
  before5_0_of V (dat V c) (A_eq V c 0) (after5_0 V c) t d
theorem before5_1 (c : Dev nD) (t : Fin cfg5.N) (d) : (dat V c).before 1 t d = iblk V c 1 t :=
  before5_1_of V (dat V c) (A_eq V c 1) (after5_1 V c) t d
theorem before5_2 (c : Dev nD) (t : Fin cfg5.N) (d) : (dat V c).before 2 t d = iblk V c 2 t :=
  before5_2_of V (dat V c) (A_eq V c 2) (after5_2 V c) t d
theorem before5_3 (c : Dev nD) (t : Fin cfg5.N) (d) : (dat V c).before 3 t d = iblk V c 3 t :=
  before5_3_of V (dat V c) (A_eq V c 3) (after5_3 V c) t d
theorem before5_4 (c : Dev nD) (t : Fin cfg5.N) (d) : (dat V c).before 4 t d = iblk V c 4 t :=
  before5_4_of V (dat V c) (A_eq V c 4) (after5_4 V c) t d

/-! ## The body obligation, at a generic point -/

def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before5_0, before5_1, before5_2, before5_3, before5_4]
  rw [show (dat V c).Φ t.succ = (dat V c).Φ t.castSucc from rfl,
    show (dat V c).owesAt () t.succ = (dat V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid5.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg5.N) :
    defs₀ (F := F) .tc cfg5.body (cfg5.bodyArgs t (cfg5.slots t)) = bodyAt5 t := by
  unfold defs₀; rw [Defs.onTc_tc]

/-- The body obligation at every point. -/
theorem body_obligation (c : Dev nD) : BodyObligation (dat (F := F) V c) (defs₀ (F := F)) Variants.none () Set.univ := fun t => by
  rw [bigSep_W5, bigSep_W5, defs₀_row]
  exact triple_restated (sound_body V c t) rfl .rfl fun _ => .rfl

end Cert.KernelIdeal.R5

end
-- ==== Proof.KernelIdeal.Run.lean ====
/- The run of `KernelIdeal`: the contents of the unscoped buffers between the items of @main, the six regions as segments, and
   the launch. Every weakly fair execution ends with every unscoped buffer at the last of those contents. -/
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.KernelIdeal.Region4
public import proofs.«01_k».proof.Proof.KernelIdeal.Region5
public import proofs.«01_k».proof.Proof.Gen.KernelIdeal.Regions
public import Idealize.ShloMosaic.Lib.Pipeline.Regions
public import Idealize.ShloMosaic.Lib.Pipeline.RegionsLoop

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation, read at the TensorCore's references. -/
abbrev atTc (W : Dev nD → Valuation τ sig (Elt F)) (c : Dev nD) (b : Ref sig .tc) : Buf (Elt F) ((c : Thread nD τ).loc b) := W c (Proc.devRef .tc b)

/-! ## The unscoped buffers between the items -/

def W1 (c : Dev nD) : Valuation τ sig (Elt F) := StableHlo.after hostOps0 (V0 m c)
def W2 (c : Dev nD) : Valuation τ sig (Elt F) := Function.update (Function.update (W1 m c) (Proc.devRef .tc main_v4_0) ((R0.dat (atTc (W1 m)) c).arrAt 2 cfg0.N)) (Proc.devRef .tc main_v4_1) ((R0.dat (atTc (W1 m)) c).arrAt 3 cfg0.N)
def W3 (c : Dev nD) : Valuation τ sig (Elt F) := Function.update (W2 m c) (Proc.devRef .tc main_v5) ((R1.dat (atTc (W2 m)) c).arrAt 4 cfg1.N)
def W4 (c : Dev nD) : Valuation τ sig (Elt F) := StableHlo.after hostOps2 (W3 m c)
def W5 (c : Dev nD) : Valuation τ sig (Elt F) := Function.update (W4 m c) (Proc.devRef .tc main_v7) ((R2.dat (atTc (W4 m)) c).arrAt 4 cfg2.N)
def W6 (c : Dev nD) : Valuation τ sig (Elt F) := StableHlo.after hostOps3 (W5 m c)
def W7 (c : Dev nD) : Valuation τ sig (Elt F) := Function.update (W6 m c) (Proc.devRef .tc main_v9) ((R3.dat (atTc (W6 m)) c).arrAt 4 cfg3.N)
def W8 (c : Dev nD) : Valuation τ sig (Elt F) := StableHlo.after hostOps4 (W7 m c)
def W9 (c : Dev nD) : Valuation τ sig (Elt F) := Function.update (Function.update (W8 m c) (Proc.devRef .tc main_v11_0) ((R4.dat (atTc (W8 m)) c).arrAt 6 cfg4.N)) (Proc.devRef .tc main_v11_1) ((R4.dat (atTc (W8 m)) c).arrAt 7 cfg4.N)
def W10 (c : Dev nD) : Valuation τ sig (Elt F) := Function.update (W9 m c) (Proc.devRef .tc main_v12) ((R5.dat (atTc (W9 m)) c).arrAt 5 cfg5.N)
def W11 (c : Dev nD) : Valuation τ sig (Elt F) := StableHlo.after hostOps6 (W10 m c)

theorem W2_main_v4_0 (c : Dev nD) : W2 m c (Proc.devRef .tc main_v4_0) = (R0.dat (atTc (W1 m)) c).arrAt 2 cfg0.N := (Function.update_of_ne (StableHlo.devRef_ne_of_ne (by decide)) _ _).trans (Function.update_self _ _ _)
theorem W2_main_v4_1 (c : Dev nD) : W2 m c (Proc.devRef .tc main_v4_1) = (R0.dat (atTc (W1 m)) c).arrAt 3 cfg0.N := Function.update_self _ _ _
theorem W2_of (c : Dev nD) (b : Ref sig .tc) (h0 : b ≠ main_v4_0) (h1 : b ≠ main_v4_1) : W2 m c (Proc.devRef .tc b) = W1 m c (Proc.devRef .tc b) := by
  unfold W2; rw [Function.update_of_ne (StableHlo.devRef_ne_of_ne h1), Function.update_of_ne (StableHlo.devRef_ne_of_ne h0)]
theorem W3_main_v5 (c : Dev nD) : W3 m c (Proc.devRef .tc main_v5) = (R1.dat (atTc (W2 m)) c).arrAt 4 cfg1.N := Function.update_self _ _ _
theorem W3_of (c : Dev nD) (b : Ref sig .tc) (h0 : b ≠ main_v5) : W3 m c (Proc.devRef .tc b) = W2 m c (Proc.devRef .tc b) := by
  unfold W3; rw [Function.update_of_ne (StableHlo.devRef_ne_of_ne h0)]
theorem W5_main_v7 (c : Dev nD) : W5 m c (Proc.devRef .tc main_v7) = (R2.dat (atTc (W4 m)) c).arrAt 4 cfg2.N := Function.update_self _ _ _
theorem W5_of (c : Dev nD) (b : Ref sig .tc) (h0 : b ≠ main_v7) : W5 m c (Proc.devRef .tc b) = W4 m c (Proc.devRef .tc b) := by
  unfold W5; rw [Function.update_of_ne (StableHlo.devRef_ne_of_ne h0)]
theorem W7_main_v9 (c : Dev nD) : W7 m c (Proc.devRef .tc main_v9) = (R3.dat (atTc (W6 m)) c).arrAt 4 cfg3.N := Function.update_self _ _ _
theorem W7_of (c : Dev nD) (b : Ref sig .tc) (h0 : b ≠ main_v9) : W7 m c (Proc.devRef .tc b) = W6 m c (Proc.devRef .tc b) := by
  unfold W7; rw [Function.update_of_ne (StableHlo.devRef_ne_of_ne h0)]
theorem W9_main_v11_0 (c : Dev nD) : W9 m c (Proc.devRef .tc main_v11_0) = (R4.dat (atTc (W8 m)) c).arrAt 6 cfg4.N := (Function.update_of_ne (StableHlo.devRef_ne_of_ne (by decide)) _ _).trans (Function.update_self _ _ _)
theorem W9_main_v11_1 (c : Dev nD) : W9 m c (Proc.devRef .tc main_v11_1) = (R4.dat (atTc (W8 m)) c).arrAt 7 cfg4.N := Function.update_self _ _ _
theorem W9_of (c : Dev nD) (b : Ref sig .tc) (h0 : b ≠ main_v11_0) (h1 : b ≠ main_v11_1) : W9 m c (Proc.devRef .tc b) = W8 m c (Proc.devRef .tc b) := by
  unfold W9; rw [Function.update_of_ne (StableHlo.devRef_ne_of_ne h1), Function.update_of_ne (StableHlo.devRef_ne_of_ne h0)]
theorem W10_main_v12 (c : Dev nD) : W10 m c (Proc.devRef .tc main_v12) = (R5.dat (atTc (W9 m)) c).arrAt 5 cfg5.N := Function.update_self _ _ _
theorem W10_of (c : Dev nD) (b : Ref sig .tc) (h0 : b ≠ main_v12) : W10 m c (Proc.devRef .tc b) = W9 m c (Proc.devRef .tc b) := by
  unfold W10; rw [Function.update_of_ne (StableHlo.devRef_ne_of_ne h0)]

/-- The outputs of the regions, as the generated valuations take them. -/
def outs : Outs (F := F) := fun J r c => match J with
  | 2 => W2 m c (Proc.devRef .tc r)
  | 3 => W3 m c (Proc.devRef .tc r)
  | 5 => W5 m c (Proc.devRef .tc r)
  | 7 => W7 m c (Proc.devRef .tc r)
  | 9 => W9 m c (Proc.devRef .tc r)
  | 10 => W10 m c (Proc.devRef .tc r)
  | _ => m ((c : Thread nD τ).loc r)

theorem V1_eq (c : Dev nD) : V1 m c = W1 m c := rfl
theorem V2_eq (c : Dev nD) : V2 m (outs m) c = W2 m c := by
  show Function.update (Function.update (V1 m c) (Proc.devRef .tc main_v4_0) (W2 m c (Proc.devRef .tc main_v4_0))) (Proc.devRef .tc main_v4_1) (W2 m c (Proc.devRef .tc main_v4_1)) = _
  rw [V1_eq, W2_main_v4_0, W2_main_v4_1]; rfl
theorem V3_eq (c : Dev nD) : V3 m (outs m) c = W3 m c := by
  show Function.update (V2 m (outs m) c) (Proc.devRef .tc main_v5) (W3 m c (Proc.devRef .tc main_v5)) = _
  rw [V2_eq, W3_main_v5]; rfl
theorem V4_eq (c : Dev nD) : V4 m (outs m) c = W4 m c := by
  show StableHlo.after hostOps2 (V3 m (outs m) c) = _
  rw [V3_eq]; rfl
theorem V5_eq (c : Dev nD) : V5 m (outs m) c = W5 m c := by
  show Function.update (V4 m (outs m) c) (Proc.devRef .tc main_v7) (W5 m c (Proc.devRef .tc main_v7)) = _
  rw [V4_eq, W5_main_v7]; rfl
theorem V6_eq (c : Dev nD) : V6 m (outs m) c = W6 m c := by
  show StableHlo.after hostOps3 (V5 m (outs m) c) = _
  rw [V5_eq]; rfl
theorem V7_eq (c : Dev nD) : V7 m (outs m) c = W7 m c := by
  show Function.update (V6 m (outs m) c) (Proc.devRef .tc main_v9) (W7 m c (Proc.devRef .tc main_v9)) = _
  rw [V6_eq, W7_main_v9]; rfl
theorem V8_eq (c : Dev nD) : V8 m (outs m) c = W8 m c := by
  show StableHlo.after hostOps4 (V7 m (outs m) c) = _
  rw [V7_eq]; rfl
theorem V9_eq (c : Dev nD) : V9 m (outs m) c = W9 m c := by
  show Function.update (Function.update (V8 m (outs m) c) (Proc.devRef .tc main_v11_0) (W9 m c (Proc.devRef .tc main_v11_0))) (Proc.devRef .tc main_v11_1) (W9 m c (Proc.devRef .tc main_v11_1)) = _
  rw [V8_eq, W9_main_v11_0, W9_main_v11_1]; rfl
theorem V10_eq (c : Dev nD) : V10 m (outs m) c = W10 m c := by
  show Function.update (V9 m (outs m) c) (Proc.devRef .tc main_v12) (W10 m c (Proc.devRef .tc main_v12)) = _
  rw [V9_eq, W10_main_v12]; rfl
theorem V11_eq (c : Dev nD) : V11 m (outs m) c = W11 m c := by
  show StableHlo.after hostOps6 (V10 m (outs m) c) = _
  rw [V10_eq]; rfl

/-! ## The regions -/

/-- The regions' proof data. -/
def pdats (p : Fin 6) (c : Dev nD) : Dat τ (Elt F) Unit ℕ (UR sig nD τ) ℕ (cfgs p) c := match p with
  | 0 => R0.dat (atTc (W1 m)) c
  | 1 => R1.dat (atTc (W2 m)) c
  | 2 => R2.dat (atTc (W4 m)) c
  | 3 => R3.dat (atTc (W6 m)) c
  | 4 => R4.dat (atTc (W8 m)) c
  | 5 => R5.dat (atTc (W9 m)) c

abbrev L : GSem nD τ sig → Finset Unit := fun _ => ∅
abbrev lv : GSem nD τ sig → Unit → ℕ := fun _ _ => 0
/-- What rides beside the buffers: the core owing nothing, the generator register. -/
abbrev Rest (c : Dev nD) : sProp 𝕄 := iprop((∃ W, owes (c : Thread nD τ) (0 : CellTallies nD τ sig Unit) W) ∗ ∃ r, prngReg c r)

theorem hF0 (c : Dev nD) : ∀ w : Fin cfg0.W, (R0.dat (atTc (W1 m)) c).arrAt w cfg0.N = W2 m c (Proc.devRef .tc (Pipeline.arrRef spec0 w))
  | ⟨0, _⟩ => ((R0.dat (atTc (W1 m)) c).arrAt_in 0 rfl _).trans ((R0.A_eq (atTc (W1 m)) c 0).trans (W2_of m c (Pipeline.arrRef spec0 0) (by decide) (by decide)).symm)
  | ⟨1, _⟩ => ((R0.dat (atTc (W1 m)) c).arrAt_in 1 rfl _).trans ((R0.A_eq (atTc (W1 m)) c 1).trans (W2_of m c (Pipeline.arrRef spec0 1) (by decide) (by decide)).symm)
  | ⟨2, _⟩ => (W2_main_v4_0 m c).symm
  | ⟨3, _⟩ => (W2_main_v4_1 m c).symm
  | ⟨_ + 4, h⟩ => absurd h (Nat.not_lt.2 (Nat.le_add_left _ _))

set_option backward.isDefEq.respectTransparency.types false in
/-- Region 0 as a segment: entered from the buffers at `W1`, left with them at `W2`. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (atTc (W1 m)) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none,
      show StableHlo.held (c : Thread nD τ) (Pipeline.ucRefs τ sig) (W1 m c) = unscopedBufs c (atTc (W1 m) c)
        from (Pipeline.unscopedBufs_held (Ix := Unit) (Name := ℕ) (U := UR sig nD τ) (Lvl := ℕ) c (W1 m c)).symm]
    have hsplit := Pipeline.arrays_of_unscopedBufs (p := 0) (pcfgs (F := F)) adm (pdats m) launch0.win launch0.arr_whole c ((pdats m 0 c).share_full fun _ => rfl) (atTc (W1 m) c) (R0.A_eq (atTc (W1 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec0 c from by
    unfold Pipeline.ΦA; iintro ⟨Hp, -, Hr⟩
    isplitl [Hr] <;> iassumption).trans .rfl
  hout c := (show _ ⊢ Pipeline.ΦA (Val := Elt F) (U := UR sig nD τ) spec0 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ) launch0.win launch0.arr_whole c (pdats m) ((pdats m 0 c).share_full fun _ => rfl)
      (atTc (W1 m) c) (atTc (W2 m) c) ((pdats m 0 c).arrAt · cfg0.N) (hF0 m c)
      (fun b hb => W2_of m c b (fun h => hb (h ▸ Finset.mem_image.mpr ⟨2, Finset.mem_univ _, rfl⟩)) (fun h => hb (h ▸ Finset.mem_image.mpr ⟨3, Finset.mem_univ _, rfl⟩)))
    rw [show StableHlo.held (c : Thread nD τ) (Pipeline.ucRefs τ sig) (W2 m c) = unscopedBufs c (atTc (W2 m) c)
        from (Pipeline.unscopedBufs_held (Ix := Unit) (Name := ℕ) (U := UR sig nD τ) (Lvl := ℕ) c (W2 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF1 (c : Dev nD) : ∀ w : Fin cfg1.W, (R1.dat (atTc (W2 m)) c).arrAt w cfg1.N = W3 m c (Proc.devRef .tc (Pipeline.arrRef spec1 w))
  | ⟨0, _⟩ => ((R1.dat (atTc (W2 m)) c).arrAt_in 0 rfl _).trans ((R1.A_eq (atTc (W2 m)) c 0).trans (W3_of m c (Pipeline.arrRef spec1 0) (by decide)).symm)
  | ⟨1, _⟩ => ((R1.dat (atTc (W2 m)) c).arrAt_in 1 rfl _).trans ((R1.A_eq (atTc (W2 m)) c 1).trans (W3_of m c (Pipeline.arrRef spec1 1) (by decide)).symm)
  | ⟨2, _⟩ => ((R1.dat (atTc (W2 m)) c).arrAt_in 2 rfl _).trans ((R1.A_eq (atTc (W2 m)) c 2).trans (W3_of m c (Pipeline.arrRef spec1 2) (by decide)).symm)
  | ⟨3, _⟩ => ((R1.dat (atTc (W2 m)) c).arrAt_in 3 rfl _).trans ((R1.A_eq (atTc (W2 m)) c 3).trans (W3_of m c (Pipeline.arrRef spec1 3) (by decide)).symm)
  | ⟨4, _⟩ => (W3_main_v5 m c).symm
  | ⟨_ + 5, h⟩ => absurd h (Nat.not_lt.2 (Nat.le_add_left _ _))

set_option backward.isDefEq.respectTransparency.types false in
/-- Region 1 as a segment: entered from the buffers at `W2`, left with them at `W3`. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (atTc (W2 m)) c).loose
  hwaits := Pipeline.hwaits_of_owed_zero _ _ _ _ L lv 1 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none,
      show StableHlo.held (c : Thread nD τ) (Pipeline.ucRefs τ sig) (W2 m c) = unscopedBufs c (atTc (W2 m) c)
        from (Pipeline.unscopedBufs_held (Ix := Unit) (Name := ℕ) (U := UR sig nD τ) (Lvl := ℕ) c (W2 m c)).symm]
    have hsplit := Pipeline.arrays_of_unscopedBufs (p := 1) (pcfgs (F := F)) adm (pdats m) launch1.win launch1.arr_whole c ((pdats m 1 c).share_full fun _ => rfl) (atTc (W2 m) c) (R1.A_eq (atTc (W2 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec1 c from by
    unfold Pipeline.ΦA; iintro ⟨Hp, -, Hr⟩
    isplitl [Hr] <;> iassumption).trans .rfl
  hout c := (show _ ⊢ Pipeline.ΦA (Val := Elt F) (U := UR sig nD τ) spec1 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ) launch1.win launch1.arr_whole c (pdats m) ((pdats m 1 c).share_full fun _ => rfl)
      (atTc (W2 m) c) (atTc (W3 m) c) ((pdats m 1 c).arrAt · cfg1.N) (hF1 m c)
      (fun b hb => W3_of m c b (fun h => hb (h ▸ Finset.mem_image.mpr ⟨4, Finset.mem_univ _, rfl⟩)))
    rw [show StableHlo.held (c : Thread nD τ) (Pipeline.ucRefs τ sig) (W3 m c) = unscopedBufs c (atTc (W3 m) c)
        from (Pipeline.unscopedBufs_held (Ix := Unit) (Name := ℕ) (U := UR sig nD τ) (Lvl := ℕ) c (W3 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF2 (c : Dev nD) : ∀ w : Fin cfg2.W, (R2.dat (atTc (W4 m)) c).arrAt w cfg2.N = W5 m c (Proc.devRef .tc (Pipeline.arrRef spec2 w))
  | ⟨0, _⟩ => ((R2.dat (atTc (W4 m)) c).arrAt_in 0 rfl _).trans ((R2.A_eq (atTc (W4 m)) c 0).trans (W5_of m c (Pipeline.arrRef spec2 0) (by decide)).symm)
  | ⟨1, _⟩ => ((R2.dat (atTc (W4 m)) c).arrAt_in 1 rfl _).trans ((R2.A_eq (atTc (W4 m)) c 1).trans (W5_of m c (Pipeline.arrRef spec2 1) (by decide)).symm)
  | ⟨2, _⟩ => ((R2.dat (atTc (W4 m)) c).arrAt_in 2 rfl _).trans ((R2.A_eq (atTc (W4 m)) c 2).trans (W5_of m c (Pipeline.arrRef spec2 2) (by decide)).symm)
  | ⟨3, _⟩ => ((R2.dat (atTc (W4 m)) c).arrAt_in 3 rfl _).trans ((R2.A_eq (atTc (W4 m)) c 3).trans (W5_of m c (Pipeline.arrRef spec2 3) (by decide)).symm)
  | ⟨4, _⟩ => (W5_main_v7 m c).symm
  | ⟨_ + 5, h⟩ => absurd h (Nat.not_lt.2 (Nat.le_add_left _ _))

set_option backward.isDefEq.respectTransparency.types false in
/-- Region 2 as a segment: entered from the buffers at `W4`, left with them at `W5`. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation (atTc (W4 m)) c).loose
  hwaits := Pipeline.hwaits_of_owed_zero _ _ _ _ L lv 2 fun _ _ => rfl
  pre c := iprop(StableHlo.held (c : Thread nD τ) (Pipeline.ucRefs τ sig) (W4 m c) ∗ Rest c)
  post c := iprop(StableHlo.held (c : Thread nD τ) (Pipeline.ucRefs τ sig) (W5 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (W4 m) c)
  hentry c := by
    rw [Pipeline.ownSems0_none,
      show StableHlo.held (c : Thread nD τ) (Pipeline.ucRefs τ sig) (W4 m c) = unscopedBufs c (atTc (W4 m) c)
        from (Pipeline.unscopedBufs_held (Ix := Unit) (Name := ℕ) (U := UR sig nD τ) (Lvl := ℕ) c (W4 m c)).symm]
    have hsplit := Pipeline.arrays_of_unscopedBufs (p := 2) (pcfgs (F := F)) adm (pdats m) launch2.win launch2.arr_whole c ((pdats m 2 c).share_full fun _ => rfl) (atTc (W4 m) c) (R2.A_eq (atTc (W4 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec2 c from by
    unfold Pipeline.ΦA; iintro ⟨Hp, -, Hr⟩
    isplitl [Hr] <;> iassumption).trans .rfl
  hout c := (show _ ⊢ Pipeline.ΦA (Val := Elt F) (U := UR sig nD τ) spec2 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ) launch2.win launch2.arr_whole c (pdats m) ((pdats m 2 c).share_full fun _ => rfl)
      (atTc (W4 m) c) (atTc (W5 m) c) ((pdats m 2 c).arrAt · cfg2.N) (hF2 m c)
      (fun b hb => W5_of m c b (fun h => hb (h ▸ Finset.mem_image.mpr ⟨4, Finset.mem_univ _, rfl⟩)))
    rw [show StableHlo.held (c : Thread nD τ) (Pipeline.ucRefs τ sig) (W5 m c) = unscopedBufs c (atTc (W5 m) c)
        from (Pipeline.unscopedBufs_held (Ix := Unit) (Name := ℕ) (U := UR sig nD τ) (Lvl := ℕ) c (W5 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF3 (c : Dev nD) : ∀ w : Fin cfg3.W, (R3.dat (atTc (W6 m)) c).arrAt w cfg3.N = W7 m c (Proc.devRef .tc (Pipeline.arrRef spec3 w))
  | ⟨0, _⟩ => ((R3.dat (atTc (W6 m)) c).arrAt_in 0 rfl _).trans ((R3.A_eq (atTc (W6 m)) c 0).trans (W7_of m c (Pipeline.arrRef spec3 0) (by decide)).symm)
  | ⟨1, _⟩ => ((R3.dat (atTc (W6 m)) c).arrAt_in 1 rfl _).trans ((R3.A_eq (atTc (W6 m)) c 1).trans (W7_of m c (Pipeline.arrRef spec3 1) (by decide)).symm)
  | ⟨2, _⟩ => ((R3.dat (atTc (W6 m)) c).arrAt_in 2 rfl _).trans ((R3.A_eq (atTc (W6 m)) c 2).trans (W7_of m c (Pipeline.arrRef spec3 2) (by decide)).symm)
  | ⟨3, _⟩ => ((R3.dat (atTc (W6 m)) c).arrAt_in 3 rfl _).trans ((R3.A_eq (atTc (W6 m)) c 3).trans (W7_of m c (Pipeline.arrRef spec3 3) (by decide)).symm)
  | ⟨4, _⟩ => (W7_main_v9 m c).symm
  | ⟨_ + 5, h⟩ => absurd h (Nat.not_lt.2 (Nat.le_add_left _ _))

set_option backward.isDefEq.respectTransparency.types false in
/-- Region 3 as a segment: entered from the buffers at `W6`, left with them at `W7`. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (R3.body_obligation (atTc (W6 m)) c).loose
  hwaits := Pipeline.hwaits_of_owed_zero _ _ _ _ L lv 3 fun _ _ => rfl
  pre c := iprop(StableHlo.held (c : Thread nD τ) (Pipeline.ucRefs τ sig) (W6 m c) ∗ Rest c)
  post c := iprop(StableHlo.held (c : Thread nD τ) (Pipeline.ucRefs τ sig) (W7 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (W6 m) c)
  hentry c := by
    rw [Pipeline.ownSems0_none,
      show StableHlo.held (c : Thread nD τ) (Pipeline.ucRefs τ sig) (W6 m c) = unscopedBufs c (atTc (W6 m) c)
        from (Pipeline.unscopedBufs_held (Ix := Unit) (Name := ℕ) (U := UR sig nD τ) (Lvl := ℕ) c (W6 m c)).symm]
    have hsplit := Pipeline.arrays_of_unscopedBufs (p := 3) (pcfgs (F := F)) adm (pdats m) launch3.win launch3.arr_whole c ((pdats m 3 c).share_full fun _ => rfl) (atTc (W6 m) c) (R3.A_eq (atTc (W6 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec3 c from by
    unfold Pipeline.ΦA; iintro ⟨Hp, -, Hr⟩
    isplitl [Hr] <;> iassumption).trans .rfl
  hout c := (show _ ⊢ Pipeline.ΦA (Val := Elt F) (U := UR sig nD τ) spec3 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 3) (pcfgs (F := F)) adm (Ix := Unit) (Name := ℕ) (U := UR sig nD τ) (Lvl := ℕ) launch3.win launch3.arr_whole c (pdats m) ((pdats m 3 c).share_full fun _ => rfl)
      (atTc (W6 m) c) (atTc (W7 m) c) ((pdats m 3 c).arrAt · cfg3.N) (hF3 m c)
      (fun b hb => W7_of m c b (fun h => hb (h ▸ Finset.mem_image.mpr ⟨4, Finset.mem_univ _, rfl⟩)))
    rw [show StableHlo.held (c : Thread nD τ) (Pipeline.ucRefs τ sig) (W7 m c) = unscopedBufs c (atTc (W7 m) c)
        from (Pipeline.unscopedBufs_held (Ix := Unit) (Name := ℕ) (U := UR sig nD τ) (Lvl := ℕ) c (W7 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF4 (c : Dev nD) : ∀ w : Fin cfg4.W, (R4.dat (atTc (W8 m)) c).arrAt w cfg4.N = W9 m c (Proc.devRef .tc (Pipeline.arrRef spec4 w))
  | ⟨0, _⟩ => ((R4.dat (atTc (W8 m)) c).arrAt_in 0 rfl _).trans ((R4.A_eq (atTc (W8 m)) c 0).trans (W9_of m c (Pipeline.arrRef spec4 0) (by decide) (by decide)).symm)
  | ⟨1, _⟩ => ((R4.dat (atTc (W8 m)) c).arrAt_in 1 rfl _).trans ((R4.A_eq (atTc (W8 m)) c 1).trans (W9_of m c (Pipeline.arrRef spec4 1) (by decide) (by decide)).symm)
  | ⟨2, _⟩ => ((R4.dat (atTc (W8 m)) c).arrAt_in 2 rfl _).trans ((R4.A_eq (atTc (W8 m)) c 2).trans (W9_of m c (Pipeline.arrRef spec4 2) (by decide) (by decide)).symm)
  | ⟨3, _⟩ => ((R4.dat (atTc (W8 m)) c).arrAt_in 3 rfl _).trans ((R4.A_eq (atTc (W8 m)) c 3).trans (W9_of m c (Pipeline.arrRef spec4 3) (by decide) (by decide)).symm)
  | ⟨4, _⟩ => ((R4.dat (atTc (W8 m)) c).arrAt_in 4 rfl _).trans ((R4.A_eq (atTc (W8 m)) c 4).trans (W9_of m c (Pipeline.arrRef spec4 4) (by decide) (by decide)).symm)
  | ⟨5, _⟩ => ((R4.dat (atTc (W8 m)) c).arrAt_in 5 rfl _).trans ((R4.A_eq (atTc (W8 m)) c 5).trans (W9_of m c (Pipeline.arrRef spec4 5) (by decide) (by decide)).symm)
  | ⟨6, _⟩ => (W9_main_v11_0 m c).symm
  | ⟨7, _⟩ => (W9_main_v11_1 m c).symm
  | ⟨_ + 8, h⟩ => absurd h (Nat.not_lt.2 (Nat.le_add_left _ _))

set_option backward.isDefEq.respectTransparency.types false in
/-- Region 4 as a segment: entered from the buffers at `W8`, left with them at `W9`. -/
def reg4 : RegionSeg (pcfgs (F := F)) adm (pdats m) () defs₀ Variants.none L lv 4 where
  win := launch₀4.win
  block_pos := launch₀4.block_pos
  stage_whole := launch₀4.stage_whole
  K := PEmpty
  osem k := k.elim
  ho := Pipeline.OwnSemFacts.none _
  hbody c := (R4.body_obligation (atTc (W8 m)) c).loose
  hwaits := Pipeline.hwaits_of_owed_zero _ _ _ _ L lv 4 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (W8 m) c)
  hentry c := by
    rw [Pipeline.ownSems0_none,
      show StableHlo.held (c : Thread nD τ) (Pipeline.ucRefs τ sig) (W8 m c) = unscopedBufs c (atTc (W8 m) c)
        from (Pipeline.unscopedBufs_held (Ix := Unit) (Name := ℕ) (U := UR sig nD τ) (Lvl := ℕ) c (W8 m c)).symm]
    have hsplit := Pipeline.arrays_of_unscopedBufs_shared (p := 4) (pcfgs (F := F)) adm (pdats m) launch₀4.win launch₀4.sharedIn launch₀4.arr_whole c (fun _ _ => rfl) (atTc (W8 m) c) (R4.A_eq (atTc (W8 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec4 c from by
    unfold Pipeline.ΦA; iintro ⟨Hp, -, Hr⟩
    isplitl [Hr] <;> iassumption).trans (R4.hin (atTc (W8 m)) c)
  hout c := (show _ ⊢ Pipeline.ΦA (Val := Elt F) (U := UR sig nD τ) spec4 c from (R4.hout (atTc (W8 m)) c _)).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays_shared (p := 4) (pcfgs (F := F)) adm (Ix := Unit) (Name := ℕ) (U := UR sig nD τ) (Lvl := ℕ) launch₀4.win launch₀4.sharedIn launch₀4.arr_whole c (pdats m) (fun _ _ => rfl)
      (atTc (W8 m) c) (atTc (W9 m) c) ((pdats m 4 c).arrAt · cfg4.N) (hF4 m c)
      (fun b hb => W9_of m c b (fun h => hb (h ▸ Finset.mem_image.mpr ⟨6, Finset.mem_univ _, rfl⟩)) (fun h => hb (h ▸ Finset.mem_image.mpr ⟨7, Finset.mem_univ _, rfl⟩)))
    rw [show StableHlo.held (c : Thread nD τ) (Pipeline.ucRefs τ sig) (W9 m c) = unscopedBufs c (atTc (W9 m) c)
        from (Pipeline.unscopedBufs_held (Ix := Unit) (Name := ℕ) (U := UR sig nD τ) (Lvl := ℕ) c (W9 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

theorem hF5 (c : Dev nD) : ∀ w : Fin cfg5.W, (R5.dat (atTc (W9 m)) c).arrAt w cfg5.N = W10 m c (Proc.devRef .tc (Pipeline.arrRef spec5 w))
  | ⟨0, _⟩ => ((R5.dat (atTc (W9 m)) c).arrAt_in 0 rfl _).trans ((R5.A_eq (atTc (W9 m)) c 0).trans (W10_of m c (Pipeline.arrRef spec5 0) (by decide)).symm)
  | ⟨1, _⟩ => ((R5.dat (atTc (W9 m)) c).arrAt_in 1 rfl _).trans ((R5.A_eq (atTc (W9 m)) c 1).trans (W10_of m c (Pipeline.arrRef spec5 1) (by decide)).symm)
  | ⟨2, _⟩ => ((R5.dat (atTc (W9 m)) c).arrAt_in 2 rfl _).trans ((R5.A_eq (atTc (W9 m)) c 2).trans (W10_of m c (Pipeline.arrRef spec5 2) (by decide)).symm)
  | ⟨3, _⟩ => ((R5.dat (atTc (W9 m)) c).arrAt_in 3 rfl _).trans ((R5.A_eq (atTc (W9 m)) c 3).trans (W10_of m c (Pipeline.arrRef spec5 3) (by decide)).symm)
  | ⟨4, _⟩ => ((R5.dat (atTc (W9 m)) c).arrAt_in 4 rfl _).trans ((R5.A_eq (atTc (W9 m)) c 4).trans (W10_of m c (Pipeline.arrRef spec5 4) (by decide)).symm)
  | ⟨5, _⟩ => (W10_main_v12 m c).symm
  | ⟨_ + 6, h⟩ => absurd h (Nat.not_lt.2 (Nat.le_add_left _ _))

set_option backward.isDefEq.respectTransparency.types false in
/-- Region 5 as a segment: entered from the buffers at `W9`, left with them at `W10`. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (R5.body_obligation (atTc (W9 m)) c).loose
  hwaits := Pipeline.hwaits_of_owed_zero _ _ _ _ L lv 5 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (W9 m) c)
  hentry c := by
    rw [Pipeline.ownSems0_none,
      show StableHlo.held (c : Thread nD τ) (Pipeline.ucRefs τ sig) (W9 m c) = unscopedBufs c (atTc (W9 m) c)
        from (Pipeline.unscopedBufs_held (Ix := Unit) (Name := ℕ) (U := UR sig nD τ) (Lvl := ℕ) c (W9 m c)).symm]
    have hsplit := Pipeline.arrays_of_unscopedBufs (p := 5) (pcfgs (F := F)) adm (pdats m) launch5.win launch5.arr_whole c ((pdats m 5 c).share_full fun _ => rfl) (atTc (W9 m) c) (R5.A_eq (atTc (W9 m)) c)
    iintro ⟨⟨Hub, HO, Hp⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      icases HO with ⟨%W, HO⟩
      iexists W; isplitr; · ipureintro; exact fun _ _ => Or.inl trivial
      iexact HO
    isplitl [Hp]; · iexact Hp
    iexact Hrest
  hin c := (show _ ⊢ Pipeline.ΦA (Val := Elt F) (U := UR sig nD τ) spec5 c from by
    unfold Pipeline.ΦA; iintro ⟨Hp, -, Hr⟩
    isplitl [Hr] <;> iassumption).trans .rfl
  hout c := (show _ ⊢ Pipeline.ΦA (Val := Elt F) (U := UR sig nD τ) spec5 c from .rfl).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 5) (pcfgs (F := F)) adm (Ix := Unit) (Name := ℕ) (U := UR sig nD τ) (Lvl := ℕ) launch5.win launch5.arr_whole c (pdats m) ((pdats m 5 c).share_full fun _ => rfl)
      (atTc (W9 m) c) (atTc (W10 m) c) ((pdats m 5 c).arrAt · cfg5.N) (hF5 m c)
      (fun b hb => W10_of m c b (fun h => hb (h ▸ Finset.mem_image.mpr ⟨5, Finset.mem_univ _, rfl⟩)))
    rw [show StableHlo.held (c : Thread nD τ) (Pipeline.ucRefs τ sig) (W10 m c) = unscopedBufs c (atTc (W10 m) c)
        from (Pipeline.unscopedBufs_held (Ix := Unit) (Name := ℕ) (U := UR sig nD τ) (Lvl := ℕ) c (W10 m c)).symm]
    iintro ⟨Ha, HO, Hp, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact Hp

/-! ## The launch -/

abbrev E : Fin 7 → Dev nD → sProp 𝕄 := fun _ c => Rest c
abbrev u₀ : UR sig nD τ := initOf (Pipeline.cells cfgs cellOf_inj) (Pipeline.launchToks cfgs cellOf_inj)

/-- Every weakly fair execution of @main on the TensorCores terminates with every unscoped buffer at `W11` and every
    semaphore counter at zero. -/
theorem run : θ_run defs (onTc (τ := τ) (main (F := F))) ⟨m, fun _ => 0, ρ⟩ (fun r => (∀ (c : Dev nD) (b : Ref sig .tc), b.isScoped = false →
      r.2.mem ((c.tc : Thread nD τ).loc b) = W11 m c (Proc.devRef .tc b)) ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m) (reg2 m) (reg3 m) (reg4 m) (reg5 m))
    (fun c Q => by
      rewrite [main_chain c, Seg.run_eq_chain,
        show (segs m (outs m) Variants.none L lv E () (pdats m) (reg0 m) (reg1 m) (reg2 m) (reg3 m) (reg4 m) (reg5 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀)
    (hu₀ := by
      iintro Hu; imodintro
      isplitl [Hu]
      · iapply (show (ownU u₀ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (W11 m c))
    (hch := fun c => ⟨.rfl, .rfl, .rfl, ?h3, ?h4, ?h5, ?h6, ?h7, ?h8, .rfl, ?h10, ?h11⟩)
    (hinit := ?_) (QY := fun c s => ∀ b : Ref sig .tc, b.isScoped = false → s.mem ((c.tc : Thread nD τ).loc b) = W11 m c (Proc.devRef .tc b))
    (hfin := fun c s' => ?_) (hQ := fun _ h hz => ⟨h, funext fun g => hz g (.inr (regions_no_unscoped g.2))⟩)
  case h3 => exact sep_mono (Entails.of_eq (by rw [V3_eq])) .rfl
  case h4 => exact sep_mono (Entails.of_eq (by rw [← V4_eq])) .rfl
  case h5 => exact sep_mono (Entails.of_eq (by rw [V5_eq])) .rfl
  case h6 => exact sep_mono (Entails.of_eq (by rw [← V6_eq])) .rfl
  case h7 => exact sep_mono (Entails.of_eq (by rw [V7_eq])) .rfl
  case h8 => exact sep_mono (Entails.of_eq (by rw [← V8_eq])) .rfl
  case h10 => exact sep_mono (Entails.of_eq (by rw [V10_eq])) .rfl
  case h11 => exact sep_mono (Entails.of_eq (by rw [← V11_eq])) (by iintro ⟨HO, -⟩; iexact HO)
  · -- the launch: the unscoped buffers are `held` at `V0`, the rest is made core by core
    refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    iexists _; iexact Hp
  · -- the end: every buffer read off the last contents
    unfold StableHlo.held
    iintro ⟨Hh, HSI⟩
    ihave Hr := (pointsTo_read_all (Pipeline.ucRefs τ sig) (fun b => ((c : Thread nD τ).1, b)) (W11 m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

theorem W11_main_arg0 (c : Dev nD) : W11 m c (Proc.devRef .tc main_arg0) = m ((c : Thread nD τ).loc main_arg0) := by
  rw [← V11_eq]; exact V11_main_arg0 m (outs m) c
theorem W11_main_arg1 (c : Dev nD) : W11 m c (Proc.devRef .tc main_arg1) = m ((c : Thread nD τ).loc main_arg1) := by
  rw [← V11_eq]; exact V11_main_arg1 m (outs m) c
theorem W11_main_arg2 (c : Dev nD) : W11 m c (Proc.devRef .tc main_arg2) = m ((c : Thread nD τ).loc main_arg2) := by
  rw [← V11_eq]; exact V11_main_arg2 m (outs m) c
theorem W11_main_arg3 (c : Dev nD) : W11 m c (Proc.devRef .tc main_arg3) = m ((c : Thread nD τ).loc main_arg3) := by
  rw [← V11_eq]; exact V11_main_arg3 m (outs m) c
theorem W11_main_arg4 (c : Dev nD) : W11 m c (Proc.devRef .tc main_arg4) = m ((c : Thread nD τ).loc main_arg4) := by
  rw [← V11_eq]; exact V11_main_arg4 m (outs m) c
theorem W11_main_arg5 (c : Dev nD) : W11 m c (Proc.devRef .tc main_arg5) = m ((c : Thread nD τ).loc main_arg5) := by
  rw [← V11_eq]; exact V11_main_arg5 m (outs m) c

end Cert.KernelIdeal.Run

end
-- ==== Proof.Frames.lean ====
/- The frame claims: each program's every run ends, with its arguments unchanged and every counter at zero. -/
module

public import proofs.«01_k».proof.Defs
public import proofs.«01_k».proof.Proof.Kernel.Run
public import proofs.«01_k».proof.Proof.KernelIdeal.Run
public import proofs.«01_k».proof.Proof.Gen.ReferenceIdeal.Frame
public import Idealize.ShloMosaic.Lib.Bf16Pair

@[expose] public section

noncomputable section

namespace Cert

open Idealize.ShloMosaic

theorem kernel_quiescent : quiescent_Kernel := fun m ρ _ =>
  (Kernel.Run.run m ρ).mono fun r h => ⟨fun c => ⟨(h.1 c _ rfl).trans (Kernel.Run.W11_main_arg0 m c), (h.1 c _ rfl).trans (Kernel.Run.W11_main_arg1 m c),
    (h.1 c _ rfl).trans (Kernel.Run.W11_main_arg2 m c), (h.1 c _ rfl).trans (Kernel.Run.W11_main_arg3 m c), (h.1 c _ rfl).trans (Kernel.Run.W11_main_arg4 m c),
    (h.1 c _ rfl).trans (Kernel.Run.W11_main_arg5 m c)⟩, h.2⟩

theorem kernelIdeal_quiescent : quiescent_KernelIdeal := fun m ρ _ =>
  (KernelIdeal.Run.run m ρ).mono fun r h => ⟨fun c => ⟨(h.1 c _ rfl).trans (KernelIdeal.Run.W11_main_arg0 m c), (h.1 c _ rfl).trans (KernelIdeal.Run.W11_main_arg1 m c),
    (h.1 c _ rfl).trans (KernelIdeal.Run.W11_main_arg2 m c), (h.1 c _ rfl).trans (KernelIdeal.Run.W11_main_arg3 m c), (h.1 c _ rfl).trans (KernelIdeal.Run.W11_main_arg4 m c),
    (h.1 c _ rfl).trans (KernelIdeal.Run.W11_main_arg5 m c)⟩, h.2⟩

theorem referenceIdeal_quiescent : quiescent_ReferenceIdeal := fun m ρ _ => ReferenceIdeal.Gen.frame m ρ

theorem preserves : preserves_Kernel_KernelIdeal := ⟨IdealRules.bf16_pair.packStatement _, IdealRules.bf16_pair.statement _ _⟩

end Cert

end
-- ==== Proof.Scales.lean ====
/- The scale of a quantised row. The reference takes e = ⌊log₂ u⌋ + 1 of a row's u and multiplies by 2^e and 2^(-e); the
   kernel finds the same e by bisection over the powers of two that f32 words denote. The two are equal at every extended
   real u. -/
module

public import Idealize.ShloMosaic.PureOps.Ideal
public import Idealize.ShloMosaic.PureOps.Vector

@[expose] public section

noncomputable section

namespace Cert.Scales

open Idealize.ShloMosaic

/-- 2^(k - 127). -/
def p (k : ℕ) : EReal := (((2 : ℝ) ^ ((k : ℤ) - 127) : ℝ) : EReal)

theorem p_mono {a b : ℕ} (h : a ≤ b) : p a ≤ p b :=
  EReal.coe_le_coe_iff.2 (zpow_le_zpow_right₀ (by norm_num) (by omega))

theorem ieee_field (w : BitVec 32) (k : ℕ) (h1 : 1 ≤ k) (h2 : k ≤ 254) (a : (w.extractLsb' (8 + 23) 1 == 1#1) = false)
    (b : (w.extractLsb' 23 8).toNat = k) (c : (w.extractLsb' 0 23).toNat = 0) : Ideal.ieee 8 23 w = p k := by
  unfold Ideal.ieee
  simp only [a, b, c]
  rw [if_neg (by omega), if_neg (by omega)]
  unfold p
  refine congrArg Real.toEReal ?_
  have : ((k : ℤ) - 127) = 23 + ((k : ℤ) - (2 ^ (8 - 1) - 1) - (23 : ℕ)) := by push_cast; norm_num
  rw [this, zpow_add₀ (by norm_num)]
  norm_num

theorem field_words : ∀ k : Fin 255, ((BitVec.ofNat 32 k.val <<< 23).extractLsb' (8 + 23) 1 == 1#1) = false
    ∧ ((BitVec.ofNat 32 k.val <<< 23).extractLsb' 23 8).toNat = k.val ∧ ((BitVec.ofNat 32 k.val <<< 23).extractLsb' 0 23).toNat = 0 := by
  decide +kernel

/-- The f32 word with exponent field `k` and no fraction denotes 2^(k - 127). -/
theorem ofBits_field (k : ℕ) (h1 : 1 ≤ k) (h2 : k ≤ 254) : Ideal.ofBits .f32 (IntOp.shli .vector (BitVec.ofNat 32 k) 23#32) = p k := by
  have hk : IntOp.shli .vector (BitVec.ofNat 32 k) 23#32 = BitVec.ofNat 32 k <<< 23 := if_pos (by decide)
  rw [hk]
  obtain ⟨a, b, c⟩ := field_words ⟨k, by omega⟩
  exact ieee_field _ k h1 h2 a b c

/-- One step of the bisection. -/
def step (u : EReal) (n s : BitVec 32) : BitVec 32 :=
  if Ideal.ofBits .f32 (IntOp.shli .vector (IntOp.addi n s) 23#32) ≤ u then IntOp.addi n s else n

/-- The exponent field of `u`, by bisection. -/
def field (u : EReal) : BitVec 32 :=
  step u (step u (step u (step u (step u (step u (step u (step u 0#32 126#32) 63#32) 32#32) 16#32) 8#32) 4#32) 2#32) 1#32

/-- The kernel's exponent. -/
def kexp (u : EReal) : BitVec 32 := if field u = 0#32 then 0#32 else IntOp.subi (field u) 126#32

/-- The kernel's scale and its inverse. -/
def kscale (u : EReal) : EReal := Ideal.ofBits .f32 (IntOp.shli .vector (IntOp.addi (kexp u) 127#32) 23#32)
def kinv (u : EReal) : EReal := Ideal.ofBits .f32 (IntOp.shli .vector (IntOp.subi 127#32 (kexp u)) 23#32)

/-- The reference's exponent of `u`, its scale and the scale's inverse. -/
def expo (u : EReal) : EReal :=
  if u < Ideal.ofBits .f32 8388608#32 then 0
  else min (Ideal.liftRound Int.floor (Ideal.div (Ideal.log u) ((Real.log 2 : ℝ) : EReal)) + 1) (Ideal.ofBits .f32 1123811328#32)
def scale (u : EReal) : EReal := Ideal.exp2 (expo u)
def inv (u : EReal) : EReal := Ideal.exp2 (0 - expo u)

/-- With `R` still to be tried: 2^(n - 127) ≤ u unless n = 0, and u < 2^(n + R + 1 - 127) unless n + R = 252. -/
def Inv (u : EReal) (n R : ℕ) : Prop := (n = 0 ∨ p n ≤ u) ∧ (n + R = 252 ∨ u < p (n + R + 1)) ∧ n + R ≤ 252

theorem step_inv {u : EReal} {w : BitVec 32} {n R : ℕ} (hw : w = BitVec.ofNat 32 n) (h : Inv u n R) (s : ℕ) (h1 : 1 ≤ s) (hs : s ≤ R) (hR : 2 * s ≤ R + 1) :
    ∃ n', step u w (BitVec.ofNat 32 s) = BitVec.ofNat 32 n' ∧ Inv u n' (R - s) := by
  subst hw
  obtain ⟨ha, hb, hc⟩ := h
  have e : IntOp.addi (BitVec.ofNat 32 n) (BitVec.ofNat 32 s) = BitVec.ofNat 32 (n + s) := (BitVec.ofNat_add ..).symm
  unfold step
  rw [e, ofBits_field (n + s) (by omega) (by omega)]
  by_cases hle : p (n + s) ≤ u
  · refine ⟨n + s, if_pos hle, .inr hle, ?_, by omega⟩
    rw [show n + s + (R - s) = n + R by omega]; exact hb
  · refine ⟨n, if_neg hle, ha, .inr ((not_le.1 hle).trans_le (p_mono (by omega))), by omega⟩

theorem field_inv (u : EReal) : ∃ n, field u = BitVec.ofNat 32 n ∧ Inv u n 0 := by
  have h0 : Inv u 0 252 := ⟨.inl rfl, .inl rfl, le_rfl⟩
  obtain ⟨n1, e1, h1⟩ := step_inv (w := 0#32) rfl h0 126 (by norm_num) (by norm_num) (by norm_num)
  obtain ⟨n2, e2, h2⟩ := step_inv e1 h1 63 (by norm_num) (by norm_num) (by norm_num)
  obtain ⟨n3, e3, h3⟩ := step_inv e2 h2 32 (by norm_num) (by norm_num) (by norm_num)
  obtain ⟨n4, e4, h4⟩ := step_inv e3 h3 16 (by norm_num) (by norm_num) (by norm_num)
  obtain ⟨n5, e5, h5⟩ := step_inv e4 h4 8 (by norm_num) (by norm_num) (by norm_num)
  obtain ⟨n6, e6, h6⟩ := step_inv e5 h5 4 (by norm_num) (by norm_num) (by norm_num)
  obtain ⟨n7, e7, h7⟩ := step_inv e6 h6 2 (by norm_num) (by norm_num) (by norm_num)
  obtain ⟨n8, e8, h8⟩ := step_inv e7 h7 1 (by norm_num) (by norm_num) (by norm_num)
  exact ⟨n8, e8, h8⟩

theorem ofBits_least : Ideal.ofBits .f32 8388608#32 = p 1 := ofBits_field 1 (by norm_num) (by norm_num)

theorem ofBits_126 : Ideal.ofBits .f32 1123811328#32 = ((126 : ℝ) : EReal) := by
  simp [Ideal.ofBits, Ideal.ieee, -EReal.coe_mul]; norm_num

theorem exp2_int (z : ℤ) : Ideal.exp2 (((z : ℝ)) : EReal) = (((2 : ℝ) ^ z : ℝ) : EReal) := by
  rw [Ideal.exp2_coe]; congr 1; exact Real.rpow_intCast 2 z

/-- The reference's exponent where the exponent field is `n`. -/
theorem expo_eq (u : EReal) (n : ℕ) (h : Inv u n 0) : expo u = if n = 0 then 0 else ((((n : ℤ) - 126 : ℤ) : ℝ) : EReal) := by
  obtain ⟨ha, hb, hc⟩ := h
  unfold expo
  rw [ofBits_least]
  by_cases hn : n = 0
  · subst hn
    rw [if_pos rfl, if_pos]
    rcases hb with hb | hb
    · omega
    · simpa using hb
  rw [if_neg hn]
  have hp : p n ≤ u := ha.resolve_left hn
  rw [if_neg (not_lt.2 ((p_mono (by omega)).trans hp)), ofBits_126]
  have hlog : 0 < Real.log 2 := Real.log_pos (by norm_num)
  induction u with
  | bot => exact absurd hp (by simp [p])
  | top =>
    have : n = 252 := by
      rcases hb with hb | hb
      · omega
      · exact absurd hb (by simp)
    subst this
    have : Ideal.div (Ideal.log ⊤) ((Real.log 2 : ℝ) : EReal) = ⊤ := by
      rw [Ideal.div_coe hlog.ne']
      exact EReal.top_mul_coe_of_pos (by positivity)
    rw [this]
    show min ((⊤ : EReal) + 1) _ = _
    rw [show (⊤ : EReal) + 1 = ⊤ from rfl, min_eq_right le_top]
    norm_num
  | coe r =>
    have hp' : (2 : ℝ) ^ ((n : ℤ) - 127) ≤ r := EReal.coe_le_coe_iff.1 hp
    have hr : 0 < r := lt_of_lt_of_le (by positivity) hp'
    have hdiv : Ideal.div (Ideal.log (r : EReal)) ((Real.log 2 : ℝ) : EReal) = ((Real.log r / Real.log 2 : ℝ) : EReal) := by
      rw [Ideal.log_coe, if_neg (not_le.2 hr), Ideal.div_coe hlog.ne', ← EReal.coe_mul]
      congr 1; ring
    rw [hdiv, Ideal.liftRound_coe]
    have hlo : ((n : ℤ) - 127) ≤ ⌊Real.log r / Real.log 2⌋ := by
      rw [Int.le_floor, le_div_iff₀ hlog, ← Real.log_zpow]; exact Real.log_le_log (by positivity) hp'
    rcases hb with hb | hb
    · have : n = 252 := by omega
      subst this
      rw [show (1 : EReal) = ((1 : ℝ) : EReal) from rfl, ← EReal.coe_add, min_eq_right]
      · norm_num
      · refine EReal.coe_le_coe_iff.2 ?_
        have : ((125 : ℤ) : ℝ) ≤ ((⌊Real.log r / Real.log 2⌋ : ℤ) : ℝ) := by exact_mod_cast (by simpa using hlo)
        push_cast at this; linarith
    · have hb' : r < (2 : ℝ) ^ ((n : ℤ) - 126) := by
        have := EReal.coe_lt_coe_iff.1 hb
        rwa [show (((n + 0 + 1 : ℕ) : ℤ) - 127) = (n : ℤ) - 126 by push_cast; ring] at this
      have hhi : ⌊Real.log r / Real.log 2⌋ < (n : ℤ) - 126 := by
        rw [Int.floor_lt, div_lt_iff₀ hlog, ← Real.log_zpow]; exact Real.log_lt_log hr hb'
      have hf : ⌊Real.log r / Real.log 2⌋ = (n : ℤ) - 127 := by omega
      rw [hf, show (1 : EReal) = ((1 : ℝ) : EReal) from rfl, ← EReal.coe_add, min_eq_left]
      · congr 1; push_cast; ring
      · refine EReal.coe_le_coe_iff.2 ?_
        have : (n : ℝ) ≤ 252 := by exact_mod_cast (by omega : n ≤ 252)
        push_cast; linarith

theorem kexp_eq (u : EReal) (n : ℕ) (e : field u = BitVec.ofNat 32 n) (hn : n ≤ 252) :
    kexp u = if n = 0 then 0#32 else IntOp.subi (BitVec.ofNat 32 n) 126#32 := by
  unfold kexp; rw [e]
  by_cases h : n = 0
  · subst h; rfl
  · rw [if_neg h, if_neg]
    intro h'
    have := congrArg BitVec.toNat h'
    simp only [BitVec.toNat_ofNat] at this
    omega

theorem words : ∀ n : Fin 253, n.val ≠ 0 → IntOp.addi (IntOp.subi (BitVec.ofNat 32 n.val) 126#32) 127#32 = BitVec.ofNat 32 (n.val + 1)
    ∧ IntOp.subi 127#32 (IntOp.subi (BitVec.ofNat 32 n.val) 126#32) = BitVec.ofNat 32 (253 - n.val) := by
  decide +kernel

/-- The kernel's scale is the reference's. -/
theorem kscale_eq (u : EReal) : kscale u = scale u := by
  obtain ⟨n, e, h⟩ := field_inv u
  have hn : n ≤ 252 := h.2.2
  unfold kscale scale
  rw [kexp_eq u n e hn, expo_eq u n h]
  by_cases h0 : n = 0
  · rw [if_pos h0, if_pos h0]
    refine (ofBits_field 127 (by norm_num) (by norm_num)).trans ?_
    have := exp2_int 0
    simp only [Int.cast_zero, EReal.coe_zero] at this
    rw [this]; simp [p]
  · rw [if_neg h0, if_neg h0, (words ⟨n, by omega⟩ h0).1, ofBits_field (n + 1) (by omega) (by omega), exp2_int]
    unfold p; congr 2; push_cast; ring

/-- So is its inverse. -/
theorem kinv_eq (u : EReal) : kinv u = inv u := by
  obtain ⟨n, e, h⟩ := field_inv u
  have hn : n ≤ 252 := h.2.2
  unfold kinv inv
  rw [kexp_eq u n e hn, expo_eq u n h]
  by_cases h0 : n = 0
  · rw [if_pos h0, if_pos h0]
    refine (ofBits_field 127 (by norm_num) (by norm_num)).trans ?_
    have := exp2_int 0
    simp only [Int.cast_zero, EReal.coe_zero] at this
    rw [zero_sub, neg_zero, this]; simp [p]
  · have e2 := (words ⟨n, by omega⟩ h0).2
    simp only at e2
    rw [if_neg h0, if_neg h0, e2, ofBits_field (253 - n) (by omega) (by omega), zero_sub, ← EReal.coe_neg, ← Int.cast_neg, exp2_int]
    unfold p; congr 2; push_cast [Nat.cast_sub (by omega : n ≤ 253)]; ring

end Cert.Scales

end
-- ==== Proof.Spec.lean ====
/- The functions the transformer block computes, over the extended reals: the norm of a row, the quantiser's codes and scale
   of a row, the scaled product, the gated unit; and the same over arrays of any number of rows. -/
module

public import proofs.«01_k».proof.Proof.Scales
public import Idealize.ShloMosaic.Lib.Pointwise

@[expose] public section

noncomputable section

namespace Cert.Spec

open Idealize.ShloMosaic

/-- Arrays of `m` rows and `n` columns. -/
abbrev A2 (m n : ℕ) : Type := (⟨2, ![m, n]⟩ : Shape).Idx → EReal

/-- Row `i` of an array. -/
def row {m n : ℕ} (X : A2 m n) (i : Fin m) : Fin n → EReal := fun k => X (ix2 i k)

/-- The largest magnitude of a row. -/
def big {n : ℕ} (v : Fin n → EReal) : EReal :=
  Finset.univ.fold max (Ideal.ofBits .f32 4286578688#32) (fun c => FloatOps.absf (F := Ideal) (φ := .f32) (v c))

/-- A largest magnitude over 448. -/
def unit (a : EReal) : EReal := a * Ideal.ofBits .f32 991054117#32

/-- Clipped to [-448, 448]. -/
def clip (t : EReal) : EReal := min (Ideal.ofBits .f32 1138753536#32) (max (Ideal.ofBits .f32 3286237184#32) t)

/-- A row's codes and its scale. -/
def code {n : ℕ} (v : Fin n → EReal) (c : Fin n) : EReal := clip (v c * Scales.inv (unit (big v)))
def scale {n : ℕ} (v : Fin n → EReal) : EReal := Scales.scale (unit (big v))

/-- A row over its root mean square, times the gains. -/
def rms (x g : Fin 7168 → EReal) (c : Fin 7168) : EReal :=
  x c * Ideal.rsqrt (Ideal.div (∑ k, x k * x k) (Ideal.ofBits .f32 1172307968#32) + Ideal.ofBits .f32 897988541#32) * g c

/-- A scaled product. -/
def dot {K : ℕ} (a : Fin K → EReal) (s : EReal) (w : Fin K → EReal) (ws : EReal) : EReal := (∑ k, a k * w k) * s * ws

/-- The gated unit. -/
def glu (g u : EReal) : EReal := g * Ideal.logistic g * u

/-! ## Over arrays -/

def normA {m : ℕ} (x : A2 m 7168) (g : A2 1 7168) : A2 m 7168 := fun j => rms (row x (j 0)) (row g 0) (j 1)
def codeA {m n : ℕ} (v : A2 m n) : A2 m n := fun j => code (row v (j 0)) (j 1)
def scaleA {m n : ℕ} (v : A2 m n) : A2 m 1 := fun j => scale (row v (j 0))
def dotA {m n K : ℕ} (a : A2 m K) (s : A2 m 1) (w : A2 n K) (ws : A2 1 n) : A2 m n :=
  fun j => dot (row a (j 0)) (s (ix2 (j 0) 0)) (row w (j 1)) (ws (ix2 0 (j 1)))

/-- A projection: 4096 columns of the scaled product, from column `o` on. -/
def projA (o : ℕ) (ho : o + 4096 ≤ 21504) (a : A2 8192 7168) (s : A2 8192 1) (w : A2 21504 7168) (ws : A2 1 21504) : A2 8192 4096 :=
  fun j => dotA a s w ws (ix2 (j 0) ⟨o + (j 1).val, by have : (j 1).val < 4096 := (j 1).isLt; omega⟩)

/-- The gated unit of the columns from 12288 on and the columns from 16896 on. -/
def gluA (a : A2 8192 7168) (s : A2 8192 1) (w : A2 21504 7168) (ws : A2 1 21504) : A2 8192 4608 :=
  fun j => glu (dotA a s w ws (ix2 (j 0) ⟨12288 + (j 1).val, by have : (j 1).val < 4608 := (j 1).isLt; omega⟩))
    (dotA a s w ws (ix2 (j 0) ⟨16896 + (j 1).val, by have : (j 1).val < 4608 := (j 1).isLt; omega⟩))

/-- The block's input plus a scaled product. -/
def downA {m n K : ℕ} (x : A2 m n) (a : A2 m K) (s : A2 m 1) (w : A2 n K) (ws : A2 1 n) : A2 m n := fun j => x j + dotA a s w ws j

/-- Columns read as heads of 128. -/
def headsA {m n H : ℕ} (hn : 128 * H = n) (P : A2 m n) : (⟨3, ![m, H, 128]⟩ : Shape).Idx → EReal :=
  fun y => P (ix2 (y 0) ⟨128 * (y 1).val + (y 2).val, by
    have h1 : (y 1).val < H := (y 1).isLt
    have h2 : (y 2).val < 128 := (y 2).isLt
    omega⟩)

/-! ## The kernel's exponent over arrays -/

section
variable {S : Shape}

/-- One step of the bisection at every element. -/
def stepV (v : FVec Ideal S .f32) (n : IVec S 32) (s : BitVec 32) : IVec S 32 :=
  select (cmpf .oge v (bitcastToFloat .f32 (shli (addi n (broadcast S s)) (broadcast S 23#32)))) (addi n (broadcast S s)) n

theorem stepV_apply (v : FVec Ideal S .f32) (n : IVec S 32) (s : BitVec 32) (i : S.Idx) : stepV v n s i = Scales.step (v i) (n i) s := by
  unfold stepV Scales.step
  pointwise

/-- The bisection at every element. -/
def fieldV (v : FVec Ideal S .f32) : IVec S 32 :=
  stepV v (stepV v (stepV v (stepV v (stepV v (stepV v (stepV v (stepV v (broadcast S 0#32) 126#32) 63#32) 32#32) 16#32) 8#32) 4#32) 2#32) 1#32

theorem fieldV_apply (v : FVec Ideal S .f32) (i : S.Idx) : fieldV v i = Scales.field (v i) := by
  unfold fieldV Scales.field
  simp only [stepV_apply]
  rfl

/-- The exponent at every element. -/
def kexpV (v : FVec Ideal S .f32) : IVec S 32 :=
  select (cmpi .eq (fieldV v) (broadcast S 0#32)) (broadcast S 0#32) (subi (fieldV v) (broadcast S 126#32))

theorem kexpV_apply (v : FVec Ideal S .f32) (i : S.Idx) : kexpV v i = Scales.kexp (v i) := by
  unfold kexpV Scales.kexp
  pointwise
  rw [fieldV_apply]
  by_cases h : Scales.field (v i) = 0#32
  · simp [Scalar.select, IntOp.cmpi, h]
  · rw [if_neg h]
    show (if BitVec.ofBool (Scales.field (v i) == 0#32) = 1#1 then _ else _) = _
    rw [beq_eq_false_iff_ne.2 h]
    rfl

end

end Cert.Spec

end
-- ==== Proof.KNorm.lean ====
/- What one block of the norm holds: the codes and the scales of its rows' norms. -/
module

public import proofs.«01_k».proof.Proof.KernelIdeal.Region0
public import proofs.«01_k».proof.Proof.Spec
public import Idealize.ShloMosaic.Lib.Pipeline.Value

@[expose] public section

noncomputable section

namespace Cert.KernelIdeal.R0

open Cert.KernelIdeal.Gen
open Idealize.ShloMosaic Cert.Spec

theorem pay4_eq (x : Vec Ideal S256x7168 .bf16) (g : Vec Ideal S1x7168 .bf16) (r : Fin 256) (c : Fin 7168) :
    k0_pay4 (F := Ideal) x g (ix2 r c) = rms (row x r) (row g 0) c := by
  unfold rms row
  pointwise [k0_pay4]

theorem pay5_eq (x : Vec Ideal S256x7168 .bf16) (g : Vec Ideal S1x7168 .bf16) (r : Fin 256) :
    k0_pay5 (F := Ideal) x g (ix2 r 0) = unit (big (rms (row x r) (row g 0))) := by
  unfold unit big
  pointwise [k0_pay5]
  simp only [pay4_eq]

theorem pay6_eq (x : Vec Ideal S256x7168 .bf16) (g : Vec Ideal S1x7168 .bf16) :
    k0_pay6 (F := Ideal) x g = stepV (k0_pay5 x g) (stepV (k0_pay5 x g) (broadcast S256x1 0#32) 126#32) 63#32 := by
  unfold k0_pay6
  generalize k0_pay5 (F := Ideal) x g = v
  rfl

theorem pay7_eq (v : FVec Ideal S256x1 .f32) (n : IVec S256x1 32) :
    k0_pay7 (F := Ideal) v n 32#32 = stepV v (stepV v (stepV v (stepV v (stepV v n 32#32) 16#32) 8#32) 4#32) 2#32 := by
  unfold k0_pay7
  rfl

theorem pay1_eq (v : FVec Ideal S256x1 .f32) (n : IVec S256x1 32) :
    k0_pay1 (F := Ideal) v n 1#32
      = select (cmpi .eq (stepV v n 1#32) (broadcast S256x1 0#32)) (broadcast S256x1 0#32) (subi (stepV v n 1#32) (broadcast S256x1 126#32)) := by
  unfold k0_pay1
  rfl

theorem field_eq (x : Vec Ideal S256x7168 .bf16) (g : Vec Ideal S1x7168 .bf16) :
    k0_pay1 (F := Ideal) (k0_pay5 x g) (k0_pay7 (k0_pay5 x g) (k0_pay6 x g) 32#32) 1#32 = kexpV (k0_pay5 x g) := by
  rw [pay6_eq, pay7_eq, pay1_eq]
  unfold kexpV fieldV
  rfl

theorem pay2_eq (x : Vec Ideal S256x7168 .bf16) (g : Vec Ideal S1x7168 .bf16) :
    k0_pay2 (F := Ideal) (k0_pay5 x g) (k0_pay7 (k0_pay5 x g) (k0_pay6 x g) 32#32) 1#32 = scaleA (normA (m := 256) x g) := by
  funext j
  obtain ⟨r, q, rfl⟩ : ∃ (r : Fin 256) (q : Fin 1), j = ix2 r q := ⟨j 0, j 1, eq_ix2 j⟩
  obtain rfl : q = 0 := Subsingleton.elim _ _
  unfold k0_pay2
  rw [field_eq]
  pointwise
  rw [kexpV_apply, pay5_eq]
  exact Scales.kscale_eq _

theorem pay3_eq (x : Vec Ideal S256x7168 .bf16) (g : Vec Ideal S1x7168 .bf16) :
    k0_pay3 (F := Ideal) (k0_pay4 x g) (k0_pay5 x g) (k0_pay7 (k0_pay5 x g) (k0_pay6 x g) 32#32) 1#32 = codeA (normA (m := 256) x g) := by
  funext j
  obtain ⟨r, c, rfl⟩ : ∃ (r : Fin 256) (c : Fin 7168), j = ix2 r c := ⟨j 0, j 1, eq_ix2 j⟩
  unfold k0_pay3
  rw [field_eq]
  pointwise
  rw [kexpV_apply, pay5_eq, pay4_eq]
  have := Scales.kinv_eq (unit (big (rms (row x r) (row g 0))))
  unfold Scales.kinv at this
  rw [this]
  rfl

theorem out2_eq (x : Vec Ideal S256x7168 .bf16) (g : Vec Ideal S1x7168 .bf16) : out0_2 (F := Ideal) x g = codeA (normA (m := 256) x g) := by
  unfold out0_2
  rw [View.canon_unit_zero (by funext a; fin_cases a <;> rfl)]
  unfold val_10 val_13 val_11 val_10
  rw [View.ld_unit_zero (by funext a; fin_cases a <;> rfl), View.ld_unit_zero (by funext a; fin_cases a <;> rfl)]
  exact pay3_eq x g

theorem out3_eq (x : Vec Ideal S256x7168 .bf16) (g : Vec Ideal S1x7168 .bf16) : out0_3 (F := Ideal) x g = scaleA (normA (m := 256) x g) := by
  unfold out0_3
  rw [View.canon_unit_zero (by funext a; fin_cases a <;> rfl)]
  unfold val_10 val_13 val_11 val_10
  rw [View.ld_unit_zero (by funext a; fin_cases a <;> rfl), View.ld_unit_zero (by funext a; fin_cases a <;> rfl)]
  exact pay2_eq x g

end Cert.KernelIdeal.R0

end
-- ==== Proof.Blocks.lean ====
/- Where an element of a block sits in the array. -/
module

public import proofs.«01_k».proof.Proof.Spec
public import Idealize.ShloMosaic.Lib.Pipeline.Value

@[expose] public section

noncomputable section

namespace Cert.Spec

open Idealize.ShloMosaic

/-- In an array of two axes: at the block's offsets plus its own coordinates. -/
theorem emb2 {A B a b : ℕ} (off : Fin 2 → ℕ) (inb : ∀ x, off x + (![a, b] : Fin 2 → ℕ) x ≤ (⟨2, ![A, B]⟩ : Shape).size x)
    (r : Fin a) (k : Fin b) (i : Fin A) (j : Fin B) (hi : i.val = off 0 + r.val) (hj : j.val = off 1 + k.val) :
    (Rect.unit (s := ⟨2, ![A, B]⟩) off ![a, b] inb).emb (ix2 r k) = ix2 i j := by
  funext x
  apply Fin.ext
  rw [Rect.emb_apply]
  fin_cases x
  · show off 0 + 1 * r.val = i.val
    omega
  · show off 1 + 1 * k.val = j.val
    omega

/-- In an array of three axes. -/
theorem emb3 {A B C a b c : ℕ} (off : Fin 3 → ℕ) (inb : ∀ x, off x + (![a, b, c] : Fin 3 → ℕ) x ≤ (⟨3, ![A, B, C]⟩ : Shape).size x)
    (r : Fin a) (k : Fin b) (l : Fin c) (i : Fin A) (j : Fin B) (n : Fin C) (hi : i.val = off 0 + r.val) (hj : j.val = off 1 + k.val)
    (hn : n.val = off 2 + l.val) : (Rect.unit (s := ⟨3, ![A, B, C]⟩) off ![a, b, c] inb).emb (ix3 r k l) = ix3 i j n := by
  funext x
  apply Fin.ext
  rw [Rect.emb_apply]
  fin_cases x
  · show off 0 + 1 * r.val = i.val
    omega
  · show off 1 + 1 * k.val = j.val
    omega
  · show off 2 + 1 * l.val = n.val
    omega

/-- A row of a block that takes whole rows is a row of the array. -/
theorem row_cut {A B a : ℕ} (X : A2 A B) (idx : Fin 2 → ℕ) (p : ℕ) (e : idx = ![p, 0])
    (inb : ∀ x, idx x * (![a, B] : Fin 2 → ℕ) x + (![a, B] : Fin 2 → ℕ) x ≤ (⟨2, ![A, B]⟩ : Shape).size x) (r : Fin a) (i : Fin A)
    (hi : i.val = p * a + r.val) :
    row (m := a) (n := B) (fun y => X ((Rect.unit (s := ⟨2, ![A, B]⟩) (fun x => idx x * (![a, B] : Fin 2 → ℕ) x) ![a, B] inb).emb y)) r = row X i := by
  subst e
  funext k
  refine congrArg X (emb2 _ inb r k i k ?_ ?_)
  · exact hi
  · show k.val = 0 * B + k.val
    omega

/-- A column of a block that takes one row is a column of the array's row. -/
theorem col_cut {A a : ℕ} (X : A2 1 A) (idx : Fin 2 → ℕ) (p : ℕ) (e : idx = ![0, p])
    (inb : ∀ x, idx x * (![1, a] : Fin 2 → ℕ) x + (![1, a] : Fin 2 → ℕ) x ≤ (⟨2, ![1, A]⟩ : Shape).size x) (k : Fin a) (i : Fin A)
    (hi : i.val = p * a + k.val) :
    X ((Rect.unit (s := ⟨2, ![1, A]⟩) (fun x => idx x * (![1, a] : Fin 2 → ℕ) x) ![1, a] inb).emb (ix2 0 k)) = X (ix2 0 i) := by
  subst e
  exact congrArg X (emb2 _ inb 0 k 0 i rfl hi)

theorem hz2 : (![0, 0] : Fin 2 → ℕ) = fun _ => 0 := funext fun a => by fin_cases a <;> rfl

end Cert.Spec

end
-- ==== Proof.NormArr.lean ====
/- What the norm leaves in its two arrays: the codes and the scales of the rows' norms. -/
module

public import proofs.«01_k».proof.Proof.KNorm
public import proofs.«01_k».proof.Proof.Blocks

@[expose] public section

noncomputable section

namespace Cert.KernelIdeal.R0

open Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

theorem index_0 : ∀ t : Fin grid0.N, cc0_transform_0 (grid0.coords t) = ![t.val, 0] := by decide +kernel
theorem index_1 : ∀ t : Fin grid0.N, cc0_transform_1 (grid0.coords t) = ![0, 0] := by decide +kernel
theorem index_2 : ∀ t : Fin grid0.N, cc0_transform_2 (grid0.coords t) = ![t.val, 0] := by decide +kernel
theorem index_3 : ∀ t : Fin grid0.N, cc0_transform_3 (grid0.coords t) = ![t.val, 0] := by decide +kernel

/-- Row `r` of the block at point `t`, in the array. -/
def at0 (t : Fin cfg0.N) (r : Fin 256) : Fin 8192 := ⟨256 * t.val + r.val, by have : t.val < 32 := t.isLt.trans_eq N_0; omega⟩

theorem iblk_0 (c : Dev nD) (t : Fin cfg0.N) (r : Fin 256) :
    row (m := 256) (n := 7168) (iblk V c 0 t) r = row (m := 8192) (n := 7168) (V c main_v0) (at0 t r) := by
  funext k
  refine congrArg (V c main_v0) (emb2 _ _ r k (at0 t r) k ?_ ?_)
  · show 256 * t.val + r.val = cc0_transform_0 (grid0.coords t) 0 * 256 + r.val
    rw [index_0]; show _ = t.val * 256 + _; omega
  · show k.val = cc0_transform_0 (grid0.coords t) 1 * 7168 + k.val
    rw [index_0]; show _ = 0 * 7168 + _; omega

theorem iblk_1 (c : Dev nD) (t : Fin cfg0.N) :
    row (m := 1) (n := 7168) (iblk V c 1 t) 0 = row (m := 1) (n := 7168) (V c main_v3) 0 := by
  funext k
  refine congrArg (V c main_v3) (emb2 _ _ 0 k 0 k ?_ ?_)
  · show 0 = cc0_transform_1 (grid0.coords t) 0 * 1 + 0
    rw [index_1]; rfl
  · show k.val = cc0_transform_1 (grid0.coords t) 1 * 7168 + k.val
    rw [index_1]; show _ = 0 * 7168 + _; omega

theorem row_norm (c : Dev nD) (t : Fin cfg0.N) (r : Fin 256) :
    row (normA (m := 256) (iblk V c 0 t) (iblk V c 1 t)) r = row (normA (m := 8192) (V c main_v0) (V c main_v3)) (at0 t r) := by
  funext k
  show rms (row (m := 256) (iblk V c 0 t) r) (row (m := 1) (iblk V c 1 t) 0) k = rms (row (m := 8192) (V c main_v0) (at0 t r)) (row (m := 1) (V c main_v3) 0) k
  rw [iblk_0, iblk_1]

theorem emb_2 (t : Fin cfg0.N) (r : Fin 256) (k : Fin 7168) : (win0_2.rect t).emb (ix2 r k) = ix2 (at0 t r) k := by
  refine emb2 _ _ r k (at0 t r) k ?_ ?_
  · show 256 * t.val + r.val = cc0_transform_2 (grid0.coords t) 0 * 256 + r.val
    rw [index_2]; show _ = t.val * 256 + _; omega
  · show k.val = cc0_transform_2 (grid0.coords t) 1 * 7168 + k.val
    rw [index_2]; show _ = 0 * 7168 + _; omega

theorem emb_3 (t : Fin cfg0.N) (r : Fin 256) (k : Fin 1) : (win0_3.rect t).emb (ix2 r k) = ix2 (at0 t r) k := by
  refine emb2 _ _ r k (at0 t r) k ?_ ?_
  · show 256 * t.val + r.val = cc0_transform_3 (grid0.coords t) 0 * 256 + r.val
    rw [index_3]; show _ = t.val * 256 + _; omega
  · show k.val = cc0_transform_3 (grid0.coords t) 1 * 1 + k.val
    rw [index_3]; show _ = 0 * 1 + _; omega

/-- Every row is a row of some block. -/
theorem exists_at0 (i : Fin 8192) : ∃ (t : Fin cfg0.N) (r : Fin 256), at0 t r = i :=
  ⟨⟨i.val / 256, (by have := i.isLt; omega : i.val / 256 < 32).trans_eq N_0.symm⟩, ⟨i.val % 256, Nat.mod_lt _ (by decide)⟩, Fin.ext (Nat.div_add_mod _ _)⟩

theorem arr2 (c : Dev nD) : (dat V c).arrAt 2 cfg0.N = codeA (normA (m := 8192) (V c main_v0) (V c main_v3)) := by
  refine (dat V c).arrAt_eq_of_cover 2 _ (fun t _ => ?_) (fun i => ?_)
  · show (cfg0.win 2).cut (grid0.coords t) ((dat V c).after 2 t) = _
    rw [after0_2, out2_eq]
    funext y
    obtain ⟨r, k, rfl⟩ : ∃ (r : Fin 256) (k : Fin 7168), y = ix2 r k := ⟨y 0, y 1, eq_ix2 y⟩
    show code (row (normA (m := 256) (iblk V c 0 t) (iblk V c 1 t)) r) k
      = codeA (normA (m := 8192) (V c main_v0) (V c main_v3)) ((win0_2.rect t).emb (ix2 r k))
    rw [emb_2, row_norm]
    rfl
  · obtain ⟨p, k, rfl⟩ : ∃ (p : Fin 8192) (k : Fin 7168), i = ix2 p k := ⟨i 0, i 1, eq_ix2 i⟩
    obtain ⟨t, r, rfl⟩ := exists_at0 p
    refine ⟨t, flush0_2 t, ?_⟩
    rw [← emb_2]
    exact View.emb_mem_set _ _

attribute [local irreducible] scale in
theorem arr3 (c : Dev nD) : (dat V c).arrAt 3 cfg0.N = scaleA (normA (m := 8192) (V c main_v0) (V c main_v3)) := by
  refine (dat V c).arrAt_eq_of_cover 3 _ (fun t _ => ?_) (fun i => ?_)
  · show (cfg0.win 3).cut (grid0.coords t) ((dat V c).after 3 t) = _
    rw [after0_3, out3_eq]
    funext y
    obtain ⟨r, k, rfl⟩ : ∃ (r : Fin 256) (k : Fin 1), y = ix2 r k := ⟨y 0, y 1, eq_ix2 y⟩
    show scaleA (normA (m := 256) (iblk V c 0 t) (iblk V c 1 t)) (ix2 r k)
      = scaleA (normA (m := 8192) (V c main_v0) (V c main_v3)) ((win0_3.rect t).emb (ix2 r k))
    rw [emb_3]
    exact congrArg scale (row_norm V c t r)
  · obtain ⟨p, k, rfl⟩ : ∃ (p : Fin 8192) (k : Fin 1), i = ix2 p k := ⟨i 0, i 1, eq_ix2 i⟩
    obtain ⟨t, r, rfl⟩ := exists_at0 p
    refine ⟨t, flush0_3 t, ?_⟩
    rw [← emb_3]
    exact View.emb_mem_set _ _

end Cert.KernelIdeal.R0

end
-- ==== Proof.KProj.lean ====
/- What one block of a projection holds: the scaled products of its rows, 128 columns to a head. -/
module

public import proofs.«01_k».proof.Proof.KernelIdeal.Region1
public import proofs.«01_k».proof.Proof.Blocks

@[expose] public section

noncomputable section

namespace Cert.KernelIdeal.R1

open Cert.KernelIdeal.Gen
open Idealize.ShloMosaic Cert.Spec

theorem pay2_eq (x : Vec Ideal S1024x7168 .fp8e4m3) (w : Vec Ideal S1024x7168 .fp8e4m3) (s : Vec Ideal S1024x1 .f32) (ws : Vec Ideal S1x1024 .f32) :
    k1_pay2 (F := Ideal) x w s ws = dotA (m := 1024) (n := 1024) (K := 7168) x s w ws := by
  funext j
  obtain ⟨r, c, rfl⟩ : ∃ (r : Fin 1024) (c : Fin 1024), j = ix2 r c := ⟨j 0, j 1, eq_ix2 j⟩
  unfold dotA dot row
  pointwise [k1_pay2]

/-- Two slices of 128 columns, interleaved by rows, are two heads. -/
theorem pair_apply (P : A2 1024 1024) (o o' : ℕ) (ho : o' = o + 128) (hn : o + 256 ≤ 1024) (h1 : S1024x1024.Slices ![0, o] S1024x128)
    (h2 : S1024x1024.Slices ![0, o'] S1024x128) (hc : S1024x128.ShapeCasts S1024x1x128) (hb : S1024x2x128.Bitcasts 16 S1024x1x128 32)
    (r : Fin 1024) (q : Fin 2) (d : Fin 128) :
    interleaveRows S1024x2x128 (shapeCast S1024x1x128 (extractStridedSlice S1024x128 ![0, o] P h1) hc)
      (shapeCast S1024x1x128 (extractStridedSlice S1024x128 ![0, o'] P h2) hc) hb (ix3 r q d)
      = P (ix2 r ⟨o + 128 * q.val + d.val, by omega⟩) := by
  subst ho
  fin_cases q
  · pointwise
  · pointwise

/-- The block of a projection: the product's columns as heads. -/
theorem out4_eq (x : Vec Ideal S1024x7168 .fp8e4m3) (s : Vec Ideal S1024x1 .f32) (w : Vec Ideal S1024x7168 .fp8e4m3) (ws : Vec Ideal S1x1024 .f32) :
    out1_4 (F := Ideal) x s w ws = headsA (m := 1024) (H := 8) (n := 1024) rfl (dotA (m := 1024) (n := 1024) (K := 7168) x s w ws) := by
  funext y
  unfold out1_4
  have e0 (x : Vec Ideal S1024x7168 .fp8e4m3) : View.ld x r1_0 = x := View.ld_unit_zero hz2 _ x
  have e1 : View.ld s r1_1 = s := View.ld_unit_zero hz2 _ s
  have e2 : View.ld ws r1_2 = ws := View.ld_unit_zero hz2 _ ws
  rw [e0, e0, e1, e2]
  have h2 := pay2_eq x w s ws
  refine View.canon_apply_of_pieces (Val := Elt Ideal) (S := S1024x8x128) (e := .bf16) (headsA (m := 1024) (H := 8) (n := 1024) rfl (dotA (m := 1024) (n := 1024) (K := 7168) x s w ws)) _ ?_ y (cover1_4 _ _ _ _ y)
  have key : ∀ (o : ℕ) (inb : ∀ a, (![0, o, 0] : Fin 3 → ℕ) a + S1024x2x128.size a ≤ S1024x8x128.size a) (ho : o + 2 ≤ 8) (r : Fin 1024) (q : Fin 2) (d : Fin 128),
      headsA (m := 1024) (H := 8) (n := 1024) rfl (dotA (m := 1024) (n := 1024) (K := 7168) x s w ws) ((Rect.unit (s := S1024x8x128) ![0, o, 0] S1024x2x128.size inb).emb (ix3 r q d))
        = k1_pay2 (F := Ideal) x w s ws (ix2 r ⟨128 * o + 128 * q.val + d.val, by omega⟩) := by
    intro o inb ho r q d
    rw [emb3 _ _ r q d r ⟨o + q.val, by omega⟩ d (Nat.zero_add _).symm rfl (Nat.zero_add _).symm, h2]
    unfold headsA
    congr 2
    apply Fin.ext
    show 128 * (o + q.val) + d.val = 128 * o + 128 * q.val + d.val
    omega
  intro p hp
  simp only [List.mem_cons, List.not_mem_nil, or_false] at hp
  rcases hp with rfl | rfl | rfl | rfl
  all_goals
    intro z
    obtain ⟨r, q, d, rfl⟩ : ∃ (r : Fin 1024) (q : Fin 2) (d : Fin 128), z = ix3 r q d := ⟨z 0, z 1, z 2, eq_ix3 z⟩
  · exact (pair_apply (k1_pay2 (F := Ideal) x w s ws) 768 896 rfl (by decide) slices_S1024x1024_o0_768_S1024x128 slices_S1024x1024_o0_896_S1024x128
      shapeCasts_S1024x128_S1024x1x128 bitcasts_S1024x2x128_w16_S1024x1x128_w32 r q d).trans (key 6 inb_S1024x8x128_S1024x2x128_0_6_0 (by decide) r q d).symm
  · exact (pair_apply (k1_pay2 (F := Ideal) x w s ws) 512 640 rfl (by decide) slices_S1024x1024_o0_512_S1024x128 slices_S1024x1024_o0_640_S1024x128
      shapeCasts_S1024x128_S1024x1x128 bitcasts_S1024x2x128_w16_S1024x1x128_w32 r q d).trans (key 4 inb_S1024x8x128_S1024x2x128_0_4_0 (by decide) r q d).symm
  · exact (pair_apply (k1_pay2 (F := Ideal) x w s ws) 256 384 rfl (by decide) slices_S1024x1024_o0_256_S1024x128 slices_S1024x1024_o0_384_S1024x128
      shapeCasts_S1024x128_S1024x1x128 bitcasts_S1024x2x128_w16_S1024x1x128_w32 r q d).trans (key 2 inb_S1024x8x128_S1024x2x128_0_2_0 (by decide) r q d).symm
  · exact (pair_apply (k1_pay2 (F := Ideal) x w s ws) 0 128 rfl (by decide) slices_S1024x1024_o0_0_S1024x128 slices_S1024x1024_o0_128_S1024x128
      shapeCasts_S1024x128_S1024x1x128 bitcasts_S1024x2x128_w16_S1024x1x128_w32 r q d).trans (key 0 inb_S1024x8x128_S1024x2x128_0_0_0 (by decide) r q d).symm

/-- The part of a projection at row block `p` and head block `q`, computed from the blocks of its operands, is that block of the projection. -/
theorem out4_cut (o n p q : ℕ) (ho : o + 4096 ≤ 21504) (hn : n * 1024 = o + q * 1024) (hp : p < 8) (hq : q < 4)
    (a : A2 8192 7168) (s : A2 8192 1) (w : A2 21504 7168) (ws : A2 1 21504) (i0 i1 i2 i3 : Fin 2 → ℕ) (i4 : Fin 3 → ℕ)
    (e0 : i0 = ![p, 0]) (e1 : i1 = ![p, 0]) (e2 : i2 = ![n, 0]) (e3 : i3 = ![0, n]) (e4 : i4 = ![p, q, 0])
    (b0 : ∀ x, i0 x * (![1024, 7168] : Fin 2 → ℕ) x + (![1024, 7168] : Fin 2 → ℕ) x ≤ (⟨2, ![8192, 7168]⟩ : Shape).size x)
    (b1 : ∀ x, i1 x * (![1024, 1] : Fin 2 → ℕ) x + (![1024, 1] : Fin 2 → ℕ) x ≤ (⟨2, ![8192, 1]⟩ : Shape).size x)
    (b2 : ∀ x, i2 x * (![1024, 7168] : Fin 2 → ℕ) x + (![1024, 7168] : Fin 2 → ℕ) x ≤ (⟨2, ![21504, 7168]⟩ : Shape).size x)
    (b3 : ∀ x, i3 x * (![1, 1024] : Fin 2 → ℕ) x + (![1, 1024] : Fin 2 → ℕ) x ≤ (⟨2, ![1, 21504]⟩ : Shape).size x)
    (b4 : ∀ x, i4 x * (![1024, 8, 128] : Fin 3 → ℕ) x + (![1024, 8, 128] : Fin 3 → ℕ) x ≤ (⟨3, ![8192, 32, 128]⟩ : Shape).size x)
    (y : S1024x8x128.Idx) :
    out1_4 (F := Ideal) (fun z => a ((Rect.unit (s := ⟨2, ![8192, 7168]⟩) (fun x => i0 x * (![1024, 7168] : Fin 2 → ℕ) x) ![1024, 7168] b0).emb z))
        (fun z => s ((Rect.unit (s := ⟨2, ![8192, 1]⟩) (fun x => i1 x * (![1024, 1] : Fin 2 → ℕ) x) ![1024, 1] b1).emb z))
        (fun z => w ((Rect.unit (s := ⟨2, ![21504, 7168]⟩) (fun x => i2 x * (![1024, 7168] : Fin 2 → ℕ) x) ![1024, 7168] b2).emb z))
        (fun z => ws ((Rect.unit (s := ⟨2, ![1, 21504]⟩) (fun x => i3 x * (![1, 1024] : Fin 2 → ℕ) x) ![1, 1024] b3).emb z)) y
      = headsA (m := 8192) (H := 32) (n := 4096) rfl (projA o ho a s w ws)
          ((Rect.unit (s := ⟨3, ![8192, 32, 128]⟩) (fun x => i4 x * (![1024, 8, 128] : Fin 3 → ℕ) x) ![1024, 8, 128] b4).emb y) := by
  obtain ⟨r, h, d, rfl⟩ : ∃ (r : Fin 1024) (h : Fin 8) (d : Fin 128), y = ix3 r h d := ⟨y 0, y 1, y 2, eq_ix3 y⟩
  have hi : p * 1024 + r.val < 8192 := by omega
  have hg : q * 8 + h.val < 32 := by omega
  have hk : n * 1024 + (128 * h.val + d.val) < 21504 := by omega
  have hj : o + (128 * (q * 8 + h.val) + d.val) < 21504 := by omega
  have hcol : (⟨o + (128 * (q * 8 + h.val) + d.val), hj⟩ : Fin 21504) = ⟨n * 1024 + (128 * h.val + d.val), hk⟩ := Fin.ext (by show o + _ = n * 1024 + _; omega)
  have hemb := emb3 (fun x => i4 x * (![1024, 8, 128] : Fin 3 → ℕ) x) b4 r h d ⟨p * 1024 + r.val, hi⟩ ⟨q * 8 + h.val, hg⟩ d
    (by subst e4; rfl) (by subst e4; rfl) (by subst e4; show d.val = 0 * 128 + d.val; omega)
  have c0 := row_cut a i0 p e0 b0 r ⟨p * 1024 + r.val, hi⟩ rfl
  have c1 := congrFun (row_cut s i1 p e1 b1 r ⟨p * 1024 + r.val, hi⟩ (rfl)) 0
  have c2 := row_cut w i2 n e2 b2 ⟨128 * h.val + d.val, by omega⟩ ⟨n * 1024 + (128 * h.val + d.val), hk⟩ rfl
  have c3 := col_cut ws i3 n e3 b3 ⟨128 * h.val + d.val, by omega⟩ ⟨n * 1024 + (128 * h.val + d.val), hk⟩ rfl
  rw [out4_eq]
  refine Eq.trans ?_ (congrArg (headsA (m := 8192) (H := 32) (n := 4096) rfl (projA o ho a s w ws)) hemb).symm
  show dot (row (m := 1024) (n := 7168) _ r) _ (row (m := 1024) (n := 7168) _ ⟨128 * h.val + d.val, _⟩) _
    = dot (row a ⟨p * 1024 + r.val, hi⟩) (s (ix2 ⟨p * 1024 + r.val, hi⟩ 0)) (row w ⟨o + (128 * (q * 8 + h.val) + d.val), hj⟩) (ws (ix2 0 ⟨o + (128 * (q * 8 + h.val) + d.val), hj⟩))
  rw [hcol, ← c0, ← c2, ← c3]
  exact congrArg (fun z => dot _ z _ _) c1

/-- Every element of the projection is an element of some block. -/
theorem out4_cover (i : S8192x32x128.Idx) : ∃ t : Fin 32, ∃ y : S1024x8x128.Idx, ∀ i4 : Fin 3 → ℕ, i4 = ![t.val / 4, t.val % 4, 0] →
    ∀ b4 : ∀ x, i4 x * (![1024, 8, 128] : Fin 3 → ℕ) x + (![1024, 8, 128] : Fin 3 → ℕ) x ≤ (⟨3, ![8192, 32, 128]⟩ : Shape).size x,
      (Rect.unit (s := ⟨3, ![8192, 32, 128]⟩) (fun x => i4 x * (![1024, 8, 128] : Fin 3 → ℕ) x) ![1024, 8, 128] b4).emb y = i := by
  obtain ⟨p, q, d, rfl⟩ : ∃ (p : Fin 8192) (q : Fin 32) (d : Fin 128), i = ix3 p q d := ⟨i 0, i 1, i 2, eq_ix3 i⟩
  have hp := p.isLt
  have hq := q.isLt
  refine ⟨⟨4 * (p.val / 1024) + q.val / 8, by omega⟩, ix3 ⟨p.val % 1024, Nat.mod_lt _ (by decide)⟩ ⟨q.val % 8, Nat.mod_lt _ (by decide)⟩ d, ?_⟩
  rintro _ rfl b4
  refine emb3 _ b4 _ _ d p q d ?_ ?_ ?_
  · show p.val = (4 * (p.val / 1024) + q.val / 8) / 4 * 1024 + p.val % 1024
    omega
  · show q.val = (4 * (p.val / 1024) + q.val / 8) % 4 * 8 + q.val % 8
    omega
  · show d.val = 0 * 128 + d.val
    omega

end Cert.KernelIdeal.R1

end
-- ==== Proof.ProjArr.lean ====
/- What the three projections leave in their arrays. -/
module

public import proofs.«01_k».proof.Proof.KProj
public import proofs.«01_k».proof.Proof.KernelIdeal.Region2
public import proofs.«01_k».proof.Proof.KernelIdeal.Region3

@[expose] public section

noncomputable section

namespace Cert.KernelIdeal

open Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

namespace R1

theorem index_0 : ∀ t : Fin grid1.N, cc1_transform_0 (grid1.coords t) = ![t.val / 4, 0] := by decide +kernel
theorem index_1 : ∀ t : Fin grid1.N, cc1_transform_1 (grid1.coords t) = ![t.val / 4, 0] := by decide +kernel
theorem index_2 : ∀ t : Fin grid1.N, cc1_transform_2 (grid1.coords t) = ![t.val % 4, 0] := by decide +kernel
theorem index_3 : ∀ t : Fin grid1.N, cc1_transform_3 (grid1.coords t) = ![0, t.val % 4] := by decide +kernel
theorem index_4 : ∀ t : Fin grid1.N, cc1_transform_4 (grid1.coords t) = ![t.val / 4, t.val % 4, 0] := by decide +kernel

theorem arr4 (c : Dev nD) : (dat V c).arrAt 4 cfg1.N = headsA (m := 8192) (H := 32) (n := 4096) rfl
    (projA 0 (by decide) (V c main_v4_0) (V c main_v4_1) (V c main_arg2) (V c main_v1)) := by
  refine (dat V c).arrAt_eq_of_cover 4 _ (fun t _ => ?_) (fun i => ?_)
  · have ht : t.val < 32 := t.isLt.trans_eq N_1
    show (cfg1.win 4).cut (grid1.coords t) ((dat V c).after 4 t) = _
    rw [after1_4]
    funext y
    exact R1.out4_cut 0 (t.val % 4) (t.val / 4) (t.val % 4) (by decide) (by omega) (by omega) (by omega)
      (V c main_v4_0) (V c main_v4_1) (V c main_arg2) (V c main_v1) _ _ _ _ _ (index_0 t) (index_1 t) (index_2 t) (index_3 t) (index_4 t)
      _ _ _ _ _ y
  · obtain ⟨t, y, h⟩ := R1.out4_cover i
    refine ⟨⟨t.val, t.isLt.trans_eq N_1.symm⟩, flush1_4 _, ?_⟩
    rw [← h _ (index_4 ⟨t.val, t.isLt.trans_eq N_1.symm⟩) _]
    exact View.emb_mem_set _ _

end R1

namespace R2

theorem index_0 : ∀ t : Fin grid2.N, cc2_transform_0 (grid2.coords t) = ![t.val / 4, 0] := by decide +kernel
theorem index_1 : ∀ t : Fin grid2.N, cc2_transform_1 (grid2.coords t) = ![t.val / 4, 0] := by decide +kernel
theorem index_2 : ∀ t : Fin grid2.N, cc2_transform_2 (grid2.coords t) = ![t.val % 4 + 4, 0] := by decide +kernel
theorem index_3 : ∀ t : Fin grid2.N, cc2_transform_3 (grid2.coords t) = ![0, t.val % 4 + 4] := by decide +kernel
theorem index_4 : ∀ t : Fin grid2.N, cc2_transform_4 (grid2.coords t) = ![t.val / 4, t.val % 4, 0] := by decide +kernel

theorem arr4 (c : Dev nD) : (dat V c).arrAt 4 cfg2.N = headsA (m := 8192) (H := 32) (n := 4096) rfl
    (projA 4096 (by decide) (V c main_v4_0) (V c main_v4_1) (V c main_arg2) (V c main_v1)) := by
  refine (dat V c).arrAt_eq_of_cover 4 _ (fun t _ => ?_) (fun i => ?_)
  · have ht : t.val < 32 := t.isLt.trans_eq N_2
    show (cfg2.win 4).cut (grid2.coords t) ((dat V c).after 4 t) = _
    rw [after2_4]
    funext y
    exact R1.out4_cut 4096 (t.val % 4 + 4) (t.val / 4) (t.val % 4) (by decide) (by omega) (by omega) (by omega)
      (V c main_v4_0) (V c main_v4_1) (V c main_arg2) (V c main_v1) _ _ _ _ _ (index_0 t) (index_1 t) (index_2 t) (index_3 t) (index_4 t)
      _ _ _ _ _ y
  · obtain ⟨t, y, h⟩ := R1.out4_cover i
    refine ⟨⟨t.val, t.isLt.trans_eq N_2.symm⟩, flush2_4 _, ?_⟩
    rw [← h _ (index_4 ⟨t.val, t.isLt.trans_eq N_2.symm⟩) _]
    exact View.emb_mem_set _ _

end R2

namespace R3

theorem index_0 : ∀ t : Fin grid3.N, cc3_transform_0 (grid3.coords t) = ![t.val / 4, 0] := by decide +kernel
theorem index_1 : ∀ t : Fin grid3.N, cc3_transform_1 (grid3.coords t) = ![t.val / 4, 0] := by decide +kernel
theorem index_2 : ∀ t : Fin grid3.N, cc3_transform_2 (grid3.coords t) = ![t.val % 4 + 8, 0] := by decide +kernel
theorem index_3 : ∀ t : Fin grid3.N, cc3_transform_3 (grid3.coords t) = ![0, t.val % 4 + 8] := by decide +kernel
theorem index_4 : ∀ t : Fin grid3.N, cc3_transform_4 (grid3.coords t) = ![t.val / 4, t.val % 4, 0] := by decide +kernel

theorem arr4 (c : Dev nD) : (dat V c).arrAt 4 cfg3.N = headsA (m := 8192) (H := 32) (n := 4096) rfl
    (projA 8192 (by decide) (V c main_v4_0) (V c main_v4_1) (V c main_arg2) (V c main_v1)) := by
  refine (dat V c).arrAt_eq_of_cover 4 _ (fun t _ => ?_) (fun i => ?_)
  · have ht : t.val < 32 := t.isLt.trans_eq N_3
    show (cfg3.win 4).cut (grid3.coords t) ((dat V c).after 4 t) = _
    rw [after3_4]
    funext y
    exact R1.out4_cut 8192 (t.val % 4 + 8) (t.val / 4) (t.val % 4) (by decide) (by omega) (by omega) (by omega)
      (V c main_v4_0) (V c main_v4_1) (V c main_arg2) (V c main_v1) _ _ _ _ _ (index_0 t) (index_1 t) (index_2 t) (index_3 t) (index_4 t)
      _ _ _ _ _ y
  · obtain ⟨t, y, h⟩ := R1.out4_cover i
    refine ⟨⟨t.val, t.isLt.trans_eq N_3.symm⟩, flush3_4 _, ?_⟩
    rw [← h _ (index_4 ⟨t.val, t.isLt.trans_eq N_3.symm⟩) _]
    exact View.emb_mem_set _ _

end R3

end Cert.KernelIdeal

end
-- ==== Proof.KGlu.lean ====
/- What one row block of the gated unit holds: the blocks of `h`, and from their rows' largest magnitudes the codes and the scales. -/
module

public import proofs.«01_k».proof.Proof.KernelIdeal.Region4
public import proofs.«01_k».proof.Proof.Blocks

@[expose] public section

noncomputable section

namespace Cert.KernelIdeal.R4

open Cert.KernelIdeal.Gen
open Idealize.ShloMosaic Cert.Spec

/-! ## The blocks of `h` -/

theorem pay18_eq (s : Vec Ideal S512x1 .f32) (a w : Vec Ideal S512x7168 .fp8e4m3) (ws : Vec Ideal S1x512 .f32) (b v : Vec Ideal S512x7168 .fp8e4m3)
    (vs : Vec Ideal S1x512 .f32) (r c : Fin 512) :
    k4_pay18 (F := Ideal) s a w ws b v vs (ix2 r c)
      = glu (dot (row a r) (s (ix2 r 0)) (row w c) (ws (ix2 0 c))) (dot (row b r) (s (ix2 r 0)) (row v c) (vs (ix2 0 c))) := by
  unfold glu dot row
  pointwise [k4_pay18]

theorem pay19_eq (s : Vec Ideal S512x1 .f32) (a w : Vec Ideal S512x7168 .fp8e4m3) (ws : Vec Ideal S1x512 .f32) (b v : Vec Ideal S512x7168 .fp8e4m3)
    (vs : Vec Ideal S1x512 .f32) (r c : Fin 512) :
    k4_pay19 (F := Ideal) s a w ws b v vs (ix3 0 r c) = k4_pay18 (F := Ideal) s a w ws b v vs (ix2 r c) := by
  pointwise [k4_pay19]

theorem pay20_eq (s : Vec Ideal S512x1 .f32) (a w : Vec Ideal S512x7168 .fp8e4m3) (ws : Vec Ideal S1x512 .f32) (b v : Vec Ideal S512x7168 .fp8e4m3)
    (vs : Vec Ideal S1x512 .f32) (r : Fin 512) :
    k4_pay20 (F := Ideal) s a w ws b v vs (ix2 r 0) = big (fun c => k4_pay18 (F := Ideal) s a w ws b v vs (ix2 r c)) := by
  unfold big
  pointwise [k4_pay20]

/-! ## The exponent -/

theorem pay5_eq (a : Vec Ideal S512x1 .f32) (r : Fin 512) : k4_pay5 (F := Ideal) a (ix2 r 0) = unit (a (ix2 r 0)) := by
  unfold unit
  pointwise [k4_pay5]

theorem pay6_eq (a : Vec Ideal S512x1 .f32) :
    k4_pay6 (F := Ideal) a = stepV (k4_pay5 a) (stepV (k4_pay5 a) (stepV (k4_pay5 a) (stepV (k4_pay5 a) (broadcast S512x1 0#32) 126#32) 63#32) 32#32) 16#32 := by
  unfold k4_pay6
  generalize k4_pay5 (F := Ideal) a = v
  rfl

theorem pay8_eq (v : FVec Ideal S512x1 .f32) (n : IVec S512x1 32) :
    k4_pay8 (F := Ideal) v n (addi n (broadcast S512x1 8#32)) 23#32
      = select (cmpi .eq (stepV v (stepV v (stepV v (stepV v n 8#32) 4#32) 2#32) 1#32) (broadcast S512x1 0#32)) (broadcast S512x1 0#32)
          (subi (stepV v (stepV v (stepV v (stepV v n 8#32) 4#32) 2#32) 1#32) (broadcast S512x1 126#32)) := by
  unfold k4_pay8
  rfl

theorem aexp_eq (a : Vec Ideal S512x1 .f32) : aexp (F := Ideal) a = kexpV (k4_pay5 a) := by
  unfold aexp k4_pay7
  rw [pay8_eq, pay6_eq]
  unfold kexpV fieldV
  rfl

theorem inv_eq (a : Vec Ideal S512x1 .f32) (r : Fin 512) : k4_pay10 (F := Ideal) (aexp a) (ix2 r 0) = Scales.inv (unit (a (ix2 r 0))) := by
  rw [aexp_eq]
  pointwise [k4_pay10]
  rw [kexpV_apply, pay5_eq]
  exact Scales.kinv_eq _

theorem out7_apply (a : Vec Ideal S512x1 .f32) (r : Fin 512) : out4_7 (F := Ideal) a (ix2 r 0) = Scales.scale (unit (a (ix2 r 0))) := by
  have h : k4_pay8 (F := Ideal) (k4_pay5 a) (k4_pay6 a) (k4_pay7 a) 23#32 = kexpV (k4_pay5 a) := aexp_eq a
  unfold out4_7 k4_pay9
  rw [h]
  pointwise
  rw [kexpV_apply, pay5_eq]
  exact Scales.kscale_eq _

/-! ## The codes -/

theorem clip_eq (b : FVec Ideal S512x1 .f32) (h : Vec Ideal S1x512x512 .f32) (r c : Fin 512) :
    k4_pay4 (F := Ideal) b h (ix2 r c) = clip (h (ix3 0 r c) * b (ix2 r 0)) := by
  unfold clip
  pointwise [k4_pay4]

/-- From the largest magnitudes of the rows of `X` and its nine blocks of columns: the codes of its rows. -/
theorem out6_eq (a : Vec Ideal S512x1 .f32) (H : Fin 9 → Vec Ideal S1x512x512 .f32) (X : A2 512 4608) (ha : ∀ r : Fin 512, a (ix2 r 0) = big (row X r))
    (hH : ∀ (j : Fin 9) (r c : Fin 512), H j (ix3 0 r c) = X (ix2 r ⟨j.val * 512 + c.val, by omega⟩)) :
    out4_6 (F := Ideal) a H = codeA X := by
  funext y
  unfold out4_6
  refine View.canon_apply_of_pieces (Val := Elt Ideal) (S := S512x4608) (e := .fp8e4m3) (codeA X) _ ?_ y (cover4_6 _ _ _ _ _ _ _ _ _ y)
  have key : ∀ (j : Fin 9) (inb : ∀ x, (![0, j.val * 512] : Fin 2 → ℕ) x + S512x512.size x ≤ S512x4608.size x) (z : S512x512.Idx),
      k4_pay4 (F := Ideal) (k4_pay10 (aexp a)) (H j) z = codeA X ((Rect.unit (s := S512x4608) ![0, j.val * 512] S512x512.size inb).emb z) := by
    intro j inb z
    obtain ⟨r, c, rfl⟩ : ∃ r c : Fin 512, z = ix2 r c := ⟨z 0, z 1, eq_ix2 z⟩
    refine Eq.trans ?_ (congrArg (codeA X) (emb2 _ inb r c r ⟨j.val * 512 + c.val, by omega⟩ (Nat.zero_add _).symm rfl)).symm
    rw [clip_eq, inv_eq, ha, hH]
    rfl
  intro p hp
  simp only [List.mem_cons, List.not_mem_nil, or_false] at hp
  rcases hp with rfl | rfl | rfl | rfl | rfl | rfl | rfl | rfl | rfl
  · exact key 8 inb_S512x4608_S512x512_0_4096
  · exact key 7 inb_S512x4608_S512x512_0_3584
  · exact key 6 inb_S512x4608_S512x512_0_3072
  · exact key 5 inb_S512x4608_S512x512_0_2560
  · exact key 4 inb_S512x4608_S512x512_0_2048
  · exact key 3 inb_S512x4608_S512x512_0_1536
  · exact key 2 inb_S512x4608_S512x512_0_1024
  · exact key 1 inb_S512x4608_S512x512_0_512
  · exact key 0 inb_S512x4608_S512x512_0_0

theorem out7_eq (a : Vec Ideal S512x1 .f32) (X : A2 512 4608) (ha : ∀ r : Fin 512, a (ix2 r 0) = big (row X r)) : out4_7 (F := Ideal) a = scaleA X := by
  funext y
  obtain ⟨r, q, rfl⟩ : ∃ (r : Fin 512) (q : Fin 1), y = ix2 r q := ⟨y 0, y 1, eq_ix2 y⟩
  obtain rfl : q = 0 := Subsingleton.elim _ _
  rw [out7_apply, ha]
  rfl

end Cert.KernelIdeal.R4

end
-- ==== Proof.GluArr.lean ====
/- What the gated unit leaves in its arrays: the codes and the scales of its rows. -/
module

public import proofs.«01_k».proof.Proof.KGlu

@[expose] public section

noncomputable section

namespace Cert.KernelIdeal.R4

open Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- The point of row block `i` and column block `j`. -/
def q (i : Fin 16) (j : Fin 9) : Fin cfg4.N := ⟨9 * i.val + j.val, (by omega : _ < 144).trans_eq N_4.symm⟩

theorem index_0 : ∀ i j, cc4_transform_0 (grid4.coords (q i j)) = ![i.val, 0] := by decide +kernel
theorem index_1 : ∀ i j, cc4_transform_1 (grid4.coords (q i j)) = ![i.val, 0] := by decide +kernel
theorem index_2 : ∀ i j, cc4_transform_2 (grid4.coords (q i j)) = ![24 + j.val, 0] := by decide +kernel
theorem index_3 : ∀ i j, cc4_transform_3 (grid4.coords (q i j)) = ![33 + j.val, 0] := by decide +kernel
theorem index_4 : ∀ i j, cc4_transform_4 (grid4.coords (q i j)) = ![0, 24 + j.val] := by decide +kernel
theorem index_5 : ∀ i j, cc4_transform_5 (grid4.coords (q i j)) = ![0, 33 + j.val] := by decide +kernel
theorem index_6 : ∀ i j, cc4_transform_6 (grid4.coords (q i j)) = ![i.val, 0] := by decide +kernel
theorem index_7 : ∀ i j, cc4_transform_7 (grid4.coords (q i j)) = ![i.val, 0] := by decide +kernel

theorem pt_q (i : Fin 16) (j : Fin 9) : pt (9 * i.val + j.val) = q i j := Fin.ext (Nat.mod_eq_of_lt (by omega))

/-- Row `r` and column `k` of a block, in the array of `h`. -/
def at0 (i : Fin 16) (r : Fin 512) : Fin 8192 := ⟨i.val * 512 + r.val, by omega⟩
def at1 (j : Fin 9) (k : Fin 512) : Fin 4608 := ⟨j.val * 512 + k.val, by omega⟩

/-- The array of `h`, and the rows of row block `i`. -/
def hA (c : Dev nD) : A2 8192 4608 := gluA (V c main_v4_0) (V c main_v4_1) (V c main_arg2) (V c main_v1)
def hB (c : Dev nD) (i : Fin 16) : A2 512 4608 := fun y => hA V c (ix2 (at0 i (y 0)) (y 1))

theorem pay18_q (c : Dev nD) (i : Fin 16) (j : Fin 9) (r k : Fin 512) :
    k4_pay18 (F := Ideal) (iblk V c 1 (q i j)) (iblk V c 0 (q i j)) (iblk V c 2 (q i j)) (iblk V c 4 (q i j)) (iblk V c 0 (q i j)) (iblk V c 3 (q i j))
      (iblk V c 5 (q i j)) (ix2 r k) = hA V c (ix2 (at0 i r) (at1 j k)) := by
  have hg : 12288 + (at1 j k).val < 21504 := by have := (at1 j k).isLt; omega
  have hu : 16896 + (at1 j k).val < 21504 := by have := (at1 j k).isLt; omega
  have c0 : row (m := 512) (n := 7168) (iblk V c 0 (q i j)) r = row (m := 8192) (n := 7168) (V c main_v4_0) (at0 i r) :=
    row_cut (V c main_v4_0) _ i.val (index_0 i j) _ r _ rfl
  have c1 : (iblk V c 1 (q i j) : A2 512 1) (ix2 r 0) = (V c main_v4_1 : A2 8192 1) (ix2 (at0 i r) 0) :=
    congrFun (row_cut (V c main_v4_1) _ i.val (index_1 i j) _ r _ rfl) 0
  have c2 : row (m := 512) (n := 7168) (iblk V c 2 (q i j)) k = row (m := 21504) (n := 7168) (V c main_arg2) ⟨12288 + (at1 j k).val, hg⟩ :=
    row_cut (V c main_arg2) _ (24 + j.val) (index_2 i j) _ k _ (by show 12288 + (j.val * 512 + k.val) = _; omega)
  have c3 : row (m := 512) (n := 7168) (iblk V c 3 (q i j)) k = row (m := 21504) (n := 7168) (V c main_arg2) ⟨16896 + (at1 j k).val, hu⟩ :=
    row_cut (V c main_arg2) _ (33 + j.val) (index_3 i j) _ k _ (by show 16896 + (j.val * 512 + k.val) = _; omega)
  have c4 : (iblk V c 4 (q i j) : A2 1 512) (ix2 0 k) = (V c main_v1 : A2 1 21504) (ix2 0 ⟨12288 + (at1 j k).val, hg⟩) :=
    col_cut (V c main_v1) _ (24 + j.val) (index_4 i j) _ k _ (by show 12288 + (j.val * 512 + k.val) = _; omega)
  have c5 : (iblk V c 5 (q i j) : A2 1 512) (ix2 0 k) = (V c main_v1 : A2 1 21504) (ix2 0 ⟨16896 + (at1 j k).val, hu⟩) :=
    col_cut (V c main_v1) _ (33 + j.val) (index_5 i j) _ k _ (by show 16896 + (j.val * 512 + k.val) = _; omega)
  rw [pay18_eq]
  refine Eq.trans (b := glu (dot (row (m := 512) (n := 7168) (iblk V c 0 (q i j)) r) ((iblk V c 1 (q i j) : A2 512 1) (ix2 r 0))
      (row (m := 512) (n := 7168) (iblk V c 2 (q i j)) k) ((iblk V c 4 (q i j) : A2 1 512) (ix2 0 k)))
    (dot (row (m := 512) (n := 7168) (iblk V c 0 (q i j)) r) ((iblk V c 1 (q i j) : A2 512 1) (ix2 r 0))
      (row (m := 512) (n := 7168) (iblk V c 3 (q i j)) k) ((iblk V c 5 (q i j) : A2 1 512) (ix2 0 k)))) rfl ?_
  rw [c0, c1, c2, c3, c4, c5]
  rfl

theorem hval_q (c : Dev nD) (i : Fin 16) (j : Fin 9) (r k : Fin 512) :
    hval (F := Ideal) V c (9 * i.val + j.val) (ix3 0 r k) = hA V c (ix2 (at0 i r) (at1 j k)) := by
  have e0 (x : Vec Ideal S512x7168 .fp8e4m3) : View.ld x r4_0 = x := View.ld_unit_zero hz2 _ x
  have e1 (x : Vec Ideal S512x1 .f32) : View.ld x r4_1 = x := View.ld_unit_zero hz2 _ x
  have e2 (x : Vec Ideal S1x512 .f32) : View.ld x r4_2 = x := View.ld_unit_zero hz2 _ x
  unfold hval hpay
  rw [pt_q, e0, e0, e0, e1, e2, e2, pay19_eq]
  exact pay18_q V c i j r k

theorem rmax_q (c : Dev nD) (i : Fin 16) (j : Fin 9) (r : Fin 512) :
    rmax (F := Ideal) V c (9 * i.val + j.val) (ix2 r 0) = big (fun k : Fin 512 => hA V c (ix2 (at0 i r) (at1 j k))) := by
  have e0 (x : Vec Ideal S512x7168 .fp8e4m3) : View.ld x r4_0 = x := View.ld_unit_zero hz2 _ x
  have e1 (x : Vec Ideal S512x1 .f32) : View.ld x r4_1 = x := View.ld_unit_zero hz2 _ x
  have e2 (x : Vec Ideal S1x512 .f32) : View.ld x r4_2 = x := View.ld_unit_zero hz2 _ x
  unfold rmax rowmax
  rw [pt_q, e0, e0, e0, e1, e2, e2, pay20_eq]
  exact congrArg big (funext fun k => pay18_q V c i j r k)

/-! ## The running largest magnitude -/

theorem big_le {n : ℕ} (v : Fin n → EReal) (z : EReal) :
    big v ≤ z ↔ Ideal.ofBits .f32 4286578688#32 ≤ z ∧ ∀ k, FloatOps.absf (F := Ideal) (φ := .f32) (v k) ≤ z := by
  unfold big
  rw [Finset.fold_max_le]
  simp only [Finset.mem_univ, forall_true_left]

theorem amx_first (c : Dev nD) (n : ℕ) (h : n % 9 = 0) : amx (F := Ideal) V c n = rmax V c n := by
  cases n with
  | zero => rfl
  | succ n => exact if_pos h

theorem amx_next (c : Dev nD) (n : ℕ) (h : ¬ (n + 1) % 9 = 0) (y : S512x1.Idx) :
    amx (F := Ideal) V c (n + 1) y = max (amx V c n y : EReal) (rmax V c (n + 1) y) :=
  congrFun (if_neg h : amx (F := Ideal) V c (n + 1) = maximumf (amx V c n) (rmax V c (n + 1))) y

/-- After column block `j` it bounds exactly the columns up to the block's last. -/
theorem amx_le (c : Dev nD) (i : Fin 16) (r : Fin 512) (z : EReal) (j : ℕ) (hj : j < 9) :
    (amx (F := Ideal) V c (9 * i.val + j) (ix2 r 0) : EReal) ≤ z ↔ Ideal.ofBits .f32 4286578688#32 ≤ z ∧
      ∀ (j' : Fin 9) (k : Fin 512), j'.val ≤ j → FloatOps.absf (F := Ideal) (φ := .f32) (hA V c (ix2 (at0 i r) (at1 j' k))) ≤ z := by
  induction j with
  | zero =>
    rw [amx_first V c _ (by omega)]
    refine (iff_of_eq (congrArg (· ≤ z) (rmax_q V c i 0 r))).trans ((big_le _ z).trans (and_congr_right fun _ => ⟨fun h j' k e => ?_, fun h k => h 0 k le_rfl⟩))
    obtain rfl : j' = 0 := Fin.ext (Nat.le_zero.1 e)
    exact h k
  | succ j ih =>
    refine (iff_of_eq (congrArg (· ≤ z) (amx_next V c (9 * i.val + j) (by omega) (ix2 r 0)))).trans ?_
    rw [max_le_iff, ih (by omega)]
    refine (and_congr_right fun _ => (iff_of_eq (congrArg (· ≤ z) (rmax_q V c i ⟨j + 1, hj⟩ r))).trans (big_le _ z)).trans ?_
    constructor
    · rintro ⟨⟨hb, h⟩, _, h'⟩
      refine ⟨hb, fun j' k e => ?_⟩
      rcases Nat.lt_or_ge j'.val (j + 1) with hlt | hge
      · exact h j' k (by omega)
      · obtain rfl : j' = ⟨j + 1, hj⟩ := Fin.ext (by show j'.val = j + 1; omega)
        exact h' k
    · rintro ⟨hb, h⟩
      exact ⟨⟨hb, fun j' k e => h j' k (by omega)⟩, hb, fun k => h ⟨j + 1, hj⟩ k le_rfl⟩

/-- After the last column block it is the row's largest magnitude. -/
theorem amx_last (c : Dev nD) (i : Fin 16) (r : Fin 512) : amx (F := Ideal) V c (9 * i.val + 8) (ix2 r 0) = big (row (hB V c i) r) := by
  refine eq_of_forall_ge_iff (α := EReal) fun z => (amx_le V c i r z 8 (by decide)).trans (Iff.trans (and_congr_right fun _ => ?_) (big_le _ z).symm)
  constructor
  · intro h k
    have hk := k.isLt
    have e : at1 ⟨k.val / 512, by omega⟩ ⟨k.val % 512, Nat.mod_lt _ (by decide)⟩ = k := Fin.ext (Nat.div_add_mod' _ _)
    have := h ⟨k.val / 512, by omega⟩ ⟨k.val % 512, Nat.mod_lt _ (by decide)⟩ (by show k.val / 512 ≤ 8; omega)
    rw [e] at this
    exact this
  · intro h j' k _
    exact h (at1 j' k)

/-! ## The arrays -/

theorem eq_q (t : Fin cfg4.N) (h : t.val % 9 = 8) : ∃ i : Fin 16, t = q i 8 := by
  have ht : t.val < 144 := t.isLt.trans_eq N_4
  exact ⟨⟨t.val / 9, by omega⟩, Fin.ext (by show t.val = 9 * (t.val / 9) + 8; omega)⟩

theorem codes_q (c : Dev nD) (i : Fin 16) : codesAt (F := Ideal) V c (q i 8).val = codeA (hB V c i) := by
  unfold codesAt
  refine out6_eq _ _ (hB V c i) (fun r => amx_last V c i r) fun j r k => ?_
  have e : (q i 8).val - (q i 8).val % 9 + j.val = 9 * i.val + j.val := by
    show 9 * i.val + 8 - (9 * i.val + 8) % 9 + j.val = _
    omega
  rw [e]
  exact hval_q V c i j r k

theorem scales_q (c : Dev nD) (i : Fin 16) : scalesAt (F := Ideal) V c (q i 8).val = scaleA (hB V c i) := by
  unfold scalesAt
  exact out7_eq _ (hB V c i) (fun r => amx_last V c i r)

theorem emb_6 (i : Fin 16) (r : Fin 512) (k : Fin 4608) : (win4_6.rect (q i 8)).emb (ix2 r k) = ix2 (at0 i r) k := by
  refine emb2 _ _ r k (at0 i r) k ?_ ?_
  · show i.val * 512 + r.val = cc4_transform_6 (grid4.coords (q i 8)) 0 * 512 + r.val
    rw [index_6]; rfl
  · show k.val = cc4_transform_6 (grid4.coords (q i 8)) 1 * 4608 + k.val
    rw [index_6]; show _ = 0 * 4608 + _; omega

theorem emb_7 (i : Fin 16) (r : Fin 512) (k : Fin 1) : (win4_7.rect (q i 8)).emb (ix2 r k) = ix2 (at0 i r) k := by
  refine emb2 _ _ r k (at0 i r) k ?_ ?_
  · show i.val * 512 + r.val = cc4_transform_7 (grid4.coords (q i 8)) 0 * 512 + r.val
    rw [index_7]; rfl
  · show k.val = cc4_transform_7 (grid4.coords (q i 8)) 1 * 1 + k.val
    rw [index_7]; show _ = 0 * 1 + _; omega

/-- Every row is a row of some row block. -/
theorem exists_at0 (p : Fin 8192) : ∃ (i : Fin 16) (r : Fin 512), at0 i r = p := by
  have hp := p.isLt
  exact ⟨⟨p.val / 512, by omega⟩, ⟨p.val % 512, Nat.mod_lt _ (by decide)⟩, Fin.ext (Nat.div_add_mod' _ _)⟩

attribute [local irreducible] code in
theorem arr6 (c : Dev nD) : (dat V c).arrAt 6 cfg4.N = codeA (gluA (V c main_v4_0) (V c main_v4_1) (V c main_arg2) (V c main_v1)) := by
  refine (dat V c).arrAt_eq_of_cover 6 _ (fun t ht => ?_) (fun y => ?_)
  · obtain ⟨i, rfl⟩ := eq_q t ((flush4_6 t).1 ht)
    show (cfg4.win 6).cut (grid4.coords (q i 8)) ((dat V c).after 6 (q i 8)) = _
    rw [after4_6, codes_q]
    funext y
    obtain ⟨r, k, rfl⟩ : ∃ (r : Fin 512) (k : Fin 4608), y = ix2 r k := ⟨y 0, y 1, eq_ix2 y⟩
    show codeA (hB V c i) (ix2 r k) = codeA (hA V c) ((win4_6.rect (q i 8)).emb (ix2 r k))
    rw [emb_6]
    rfl
  · obtain ⟨p, k, rfl⟩ : ∃ (p : Fin 8192) (k : Fin 4608), y = ix2 p k := ⟨y 0, y 1, eq_ix2 y⟩
    obtain ⟨i, r, rfl⟩ := exists_at0 p
    refine ⟨q i 8, (flush4_6 _).2 (by show (9 * i.val + 8) % 9 = 8; omega), ?_⟩
    rw [← emb_6]
    exact View.emb_mem_set _ _

attribute [local irreducible] scale in
theorem arr7 (c : Dev nD) : (dat V c).arrAt 7 cfg4.N = scaleA (gluA (V c main_v4_0) (V c main_v4_1) (V c main_arg2) (V c main_v1)) := by
  refine (dat V c).arrAt_eq_of_cover 7 _ (fun t ht => ?_) (fun y => ?_)
  · obtain ⟨i, rfl⟩ := eq_q t ((flush4_7 t).1 ht)
    show (cfg4.win 7).cut (grid4.coords (q i 8)) ((dat V c).after 7 (q i 8)) = _
    rw [after4_7, scales_q]
    funext y
    obtain ⟨r, k, rfl⟩ : ∃ (r : Fin 512) (k : Fin 1), y = ix2 r k := ⟨y 0, y 1, eq_ix2 y⟩
    show scaleA (hB V c i) (ix2 r k) = scaleA (hA V c) ((win4_7.rect (q i 8)).emb (ix2 r k))
    rw [emb_7]
    rfl
  · obtain ⟨p, k, rfl⟩ : ∃ (p : Fin 8192) (k : Fin 1), y = ix2 p k := ⟨y 0, y 1, eq_ix2 y⟩
    obtain ⟨i, r, rfl⟩ := exists_at0 p
    refine ⟨q i 8, (flush4_7 _).2 (by show (9 * i.val + 8) % 9 = 8; omega), ?_⟩
    rw [← emb_7]
    exact View.emb_mem_set _ _

end Cert.KernelIdeal.R4

end
-- ==== Proof.DownArr.lean ====
/- What the down projection leaves in its array: the block's input plus the scaled products. -/
module

public import proofs.«01_k».proof.Proof.KernelIdeal.Region5
public import proofs.«01_k».proof.Proof.Blocks

@[expose] public section

noncomputable section

namespace Cert.KernelIdeal.R5

open Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

theorem out5_eq (x : Vec Ideal S1024x4608 .fp8e4m3) (s : Vec Ideal S1024x1 .f32) (w : Vec Ideal S1024x4608 .fp8e4m3) (ws : Vec Ideal S1x1024 .f32) (r : Vec Ideal S1024x1024 .bf16) :
    out5_5 (F := Ideal) x s w ws r = downA (m := 1024) (n := 1024) (K := 4608) r x s w ws := by
  unfold out5_5
  rw [View.canon_unit_zero hz2]
  have e0 (x : Vec Ideal S1024x4608 .fp8e4m3) : View.ld x r5_0 = x := View.ld_unit_zero hz2 _ x
  have e1 : View.ld s r5_1 = s := View.ld_unit_zero hz2 _ s
  have e2 : View.ld ws r5_2 = ws := View.ld_unit_zero hz2 _ ws
  have e3 : View.ld r r5_3 = r := View.ld_unit_zero hz2 _ r
  rw [e0, e0, e1, e2, e3]
  funext j
  obtain ⟨i, c, rfl⟩ : ∃ (i : Fin 1024) (c : Fin 1024), j = ix2 i c := ⟨j 0, j 1, eq_ix2 j⟩
  unfold downA dotA dot row
  pointwise [k5_pay1]

theorem index_0 : ∀ t : Fin grid5.N, cc5_transform_0 (grid5.coords t) = ![t.val / 7, 0] := by decide +kernel
theorem index_1 : ∀ t : Fin grid5.N, cc5_transform_1 (grid5.coords t) = ![t.val / 7, 0] := by decide +kernel
theorem index_2 : ∀ t : Fin grid5.N, cc5_transform_2 (grid5.coords t) = ![t.val % 7, 0] := by decide +kernel
theorem index_3 : ∀ t : Fin grid5.N, cc5_transform_3 (grid5.coords t) = ![0, t.val % 7] := by decide +kernel
theorem index_4 : ∀ t : Fin grid5.N, cc5_transform_4 (grid5.coords t) = ![t.val / 7, t.val % 7] := by decide +kernel
theorem index_5 : ∀ t : Fin grid5.N, cc5_transform_5 (grid5.coords t) = ![t.val / 7, t.val % 7] := by decide +kernel

/-- Row `r` and column `k` of the block at point `t`, in the array. -/
def at0 (t : Fin cfg5.N) (r : Fin 1024) : Fin 8192 := ⟨1024 * (t.val / 7) + r.val, by have : t.val < 56 := t.isLt.trans_eq N_5; omega⟩
def at1 (t : Fin cfg5.N) (k : Fin 1024) : Fin 7168 := ⟨1024 * (t.val % 7) + k.val, by omega⟩

theorem iblk_0 (c : Dev nD) (t : Fin cfg5.N) (r : Fin 1024) :
    row (m := 1024) (n := 4608) (iblk V c 0 t) r = row (m := 8192) (n := 4608) (V c main_v11_0) (at0 t r) := by
  funext k
  refine congrArg (V c main_v11_0) (emb2 _ _ r k (at0 t r) k ?_ ?_)
  · show 1024 * (t.val / 7) + r.val = cc5_transform_0 (grid5.coords t) 0 * 1024 + r.val
    rw [index_0]; show _ = t.val / 7 * 1024 + _; omega
  · show k.val = cc5_transform_0 (grid5.coords t) 1 * 4608 + k.val
    rw [index_0]; show _ = 0 * 4608 + _; omega

theorem iblk_1 (c : Dev nD) (t : Fin cfg5.N) (r : Fin 1024) :
    (iblk V c 1 t : A2 1024 1) (ix2 r 0) = (V c main_v11_1 : A2 8192 1) (ix2 (at0 t r) 0) := by
  refine congrArg (V c main_v11_1) (emb2 _ _ r 0 (at0 t r) 0 ?_ ?_)
  · show 1024 * (t.val / 7) + r.val = cc5_transform_1 (grid5.coords t) 0 * 1024 + r.val
    rw [index_1]; show _ = t.val / 7 * 1024 + _; omega
  · show 0 = cc5_transform_1 (grid5.coords t) 1 * 1 + 0
    rw [index_1]; rfl

theorem iblk_2 (c : Dev nD) (t : Fin cfg5.N) (r : Fin 1024) :
    row (m := 1024) (n := 4608) (iblk V c 2 t) r = row (m := 7168) (n := 4608) (V c main_arg4) (at1 t r) := by
  funext k
  refine congrArg (V c main_arg4) (emb2 _ _ r k (at1 t r) k ?_ ?_)
  · show 1024 * (t.val % 7) + r.val = cc5_transform_2 (grid5.coords t) 0 * 1024 + r.val
    rw [index_2]; show _ = t.val % 7 * 1024 + _; omega
  · show k.val = cc5_transform_2 (grid5.coords t) 1 * 4608 + k.val
    rw [index_2]; show _ = 0 * 4608 + _; omega

theorem iblk_3 (c : Dev nD) (t : Fin cfg5.N) (k : Fin 1024) :
    (iblk V c 3 t : A2 1 1024) (ix2 0 k) = (V c main_v2 : A2 1 7168) (ix2 0 (at1 t k)) := by
  refine congrArg (V c main_v2) (emb2 _ _ 0 k 0 (at1 t k) ?_ ?_)
  · show 0 = cc5_transform_3 (grid5.coords t) 0 * 1 + 0
    rw [index_3]; rfl
  · show 1024 * (t.val % 7) + k.val = cc5_transform_3 (grid5.coords t) 1 * 1024 + k.val
    rw [index_3]; show _ = t.val % 7 * 1024 + _; omega

theorem iblk_4 (c : Dev nD) (t : Fin cfg5.N) (r : Fin 1024) (k : Fin 1024) :
    (iblk V c 4 t : A2 1024 1024) (ix2 r k) = (V c main_v0 : A2 8192 7168) (ix2 (at0 t r) (at1 t k)) := by
  refine congrArg (V c main_v0) (emb2 _ _ r k (at0 t r) (at1 t k) ?_ ?_)
  · show 1024 * (t.val / 7) + r.val = cc5_transform_4 (grid5.coords t) 0 * 1024 + r.val
    rw [index_4]; show _ = t.val / 7 * 1024 + _; omega
  · show 1024 * (t.val % 7) + k.val = cc5_transform_4 (grid5.coords t) 1 * 1024 + k.val
    rw [index_4]; show _ = t.val % 7 * 1024 + _; omega

theorem emb_5 (t : Fin cfg5.N) (r : Fin 1024) (k : Fin 1024) : (win5_5.rect t).emb (ix2 r k) = ix2 (at0 t r) (at1 t k) := by
  refine emb2 _ _ r k (at0 t r) (at1 t k) ?_ ?_
  · show 1024 * (t.val / 7) + r.val = cc5_transform_5 (grid5.coords t) 0 * 1024 + r.val
    rw [index_5]; show _ = t.val / 7 * 1024 + _; omega
  · show 1024 * (t.val % 7) + k.val = cc5_transform_5 (grid5.coords t) 1 * 1024 + k.val
    rw [index_5]; show _ = t.val % 7 * 1024 + _; omega

/-- Every element is an element of some block. -/
theorem exists_at (i : Fin 8192) (j : Fin 7168) : ∃ (t : Fin cfg5.N) (r k : Fin 1024), at0 t r = i ∧ at1 t k = j := by
  have hi := i.isLt
  have hj := j.isLt
  refine ⟨⟨7 * (i.val / 1024) + j.val / 1024, (by omega : _ < 56).trans_eq N_5.symm⟩, ⟨i.val % 1024, Nat.mod_lt _ (by decide)⟩, ⟨j.val % 1024, Nat.mod_lt _ (by decide)⟩, Fin.ext ?_, Fin.ext ?_⟩
  · show 1024 * ((7 * (i.val / 1024) + j.val / 1024) / 7) + i.val % 1024 = i.val
    omega
  · show 1024 * ((7 * (i.val / 1024) + j.val / 1024) % 7) + j.val % 1024 = j.val
    omega

theorem arr5 (c : Dev nD) : (dat V c).arrAt 5 cfg5.N
    = downA (m := 8192) (n := 7168) (K := 4608) (V c main_v0) (V c main_v11_0) (V c main_v11_1) (V c main_arg4) (V c main_v2) := by
  refine (dat V c).arrAt_eq_of_cover 5 _ (fun t _ => ?_) (fun i => ?_)
  · show (cfg5.win 5).cut (grid5.coords t) ((dat V c).after 5 t) = _
    rw [after5_5, out5_eq]
    funext y
    obtain ⟨r, k, rfl⟩ : ∃ (r : Fin 1024) (k : Fin 1024), y = ix2 r k := ⟨y 0, y 1, eq_ix2 y⟩
    show @HAdd.hAdd EReal EReal EReal _ ((iblk V c 4 t : A2 1024 1024) (ix2 r k))
        (dot (row (m := 1024) (n := 4608) (iblk V c 0 t) r) ((iblk V c 1 t : A2 1024 1) (ix2 r 0))
          (row (m := 1024) (n := 4608) (iblk V c 2 t) k) ((iblk V c 3 t : A2 1 1024) (ix2 0 k)))
      = downA (m := 8192) (n := 7168) (K := 4608) (V c main_v0) (V c main_v11_0) (V c main_v11_1) (V c main_arg4) (V c main_v2) ((win5_5.rect t).emb (ix2 r k))
    rw [emb_5, iblk_0, iblk_1, iblk_2, iblk_3, iblk_4]
    rfl
  · obtain ⟨p, q, rfl⟩ : ∃ (p : Fin 8192) (q : Fin 7168), i = ix2 p q := ⟨i 0, i 1, eq_ix2 i⟩
    obtain ⟨t, r, k, rfl, rfl⟩ := exists_at p q
    refine ⟨t, flush5_5 t, ?_⟩
    rw [← emb_5]
    exact View.emb_mem_set _ _

end Cert.KernelIdeal.R5

end
-- ==== Proof.Result.lean ====
/- The block's results as functions of its operands. -/
module

public import proofs.«01_k».proof.Proof.Spec
public import Idealize.ShloMosaic.Lib.Pointwise.Reshape

@[expose] public section

noncomputable section

namespace Cert.Spec

open Idealize.ShloMosaic

/-- A projection of the normed rows. -/
def projB (o : ℕ) (ho : o + 4096 ≤ 21504) (x : A2 8192 7168) (g : A2 1 7168) (w : A2 21504 7168) (ws : A2 1 21504) : A2 8192 4096 :=
  projA o ho (codeA (normA x g)) (scaleA (normA x g)) w ws

/-- The gated unit of the normed rows. -/
def gluB (x : A2 8192 7168) (g : A2 1 7168) (w : A2 21504 7168) (ws : A2 1 21504) : A2 8192 4608 :=
  gluA (codeA (normA x g)) (scaleA (normA x g)) w ws

/-- The rows plus the down projection of the gated unit. -/
def downB (x : A2 8192 7168) (g : A2 1 7168) (w : A2 21504 7168) (ws : A2 1 21504) (v : A2 7168 4608) (vs : A2 1 7168) : A2 8192 7168 :=
  downA x (codeA (gluB x g w ws)) (scaleA (gluB x g w ws)) v vs

/-- Reading columns as heads of 128 is a reshape, so a reshape of it is one reshape. -/
theorem heads_shapeCast (P : A2 8192 4096) (h : (⟨3, ![8192, 32, 128]⟩ : Shape).ShapeCasts ⟨4, ![2, 4096, 32, 128]⟩)
    (h' : (⟨2, ![8192, 4096]⟩ : Shape).ShapeCasts ⟨4, ![2, 4096, 32, 128]⟩) :
    shapeCast ⟨4, ![2, 4096, 32, 128]⟩ (headsA (H := 32) rfl P) h = shapeCast ⟨4, ![2, 4096, 32, 128]⟩ P h' := by
  have hc : (⟨2, ![8192, 4096]⟩ : Shape).ShapeCasts ⟨3, ![8192, 32, 128]⟩ := h'.trans h.symm
  have e : headsA (H := 32) rfl P = shapeCast ⟨3, ![8192, 32, 128]⟩ P hc := by
    funext y
    refine congrArg P (Shape.reshapeEquiv_eq_of_vals hc y _ _ _ (rowMajor_val2 _ 4096 rfl) (rowMajor_val3 y 4096 128 rfl rfl) ?_).symm
    show (y 0).val * 4096 + (128 * (y 1).val + (y 2).val) = _
    omega
  rw [e, shapeCast_comp]

end Cert.Spec

end
-- ==== Proof.KernelValue.lean ====
/- What the kernel's results hold at the end of a run: the block's results, as functions of the arguments' reshapes. -/
module

public import proofs.«01_k».proof.Proof.KernelIdeal.Run
public import proofs.«01_k».proof.Proof.NormArr
public import proofs.«01_k».proof.Proof.ProjArr
public import proofs.«01_k».proof.Proof.GluArr
public import proofs.«01_k».proof.Proof.DownArr
public import proofs.«01_k».proof.Proof.Result

@[expose] public section

set_option maxRecDepth 16384

noncomputable section

namespace Cert.KernelIdeal.Run

open Cert.KernelIdeal.Gen
open Idealize.ShloMosaic Idealize.ShloMosaic.TcCoe Idealize.SL.Sem Cert.Spec

variable (m : (ℓ : Loc nD τ sig) → Buf (Elt Ideal) ℓ) (c : Dev nD)

/-! ## The buffers that the items leave -/

theorem W4_of (b : Ref sig .tc) (h0 : b ≠ main_v5) (h1 : b ≠ main_v6) : W4 m c (Proc.devRef .tc b) = W2 m c (Proc.devRef .tc b) := by
  unfold W4
  rw [StableHlo.after_of_writes_sub _ _ hostOps2_writes (fun e => h1 (List.mem_singleton.mp e)), W3_of m c b h0]

theorem W6_of (b : Ref sig .tc) (h0 : b ≠ main_v7) (h1 : b ≠ main_v8) : W6 m c (Proc.devRef .tc b) = W4 m c (Proc.devRef .tc b) := by
  unfold W6
  rw [StableHlo.after_of_writes_sub _ _ hostOps3_writes (fun e => h1 (List.mem_singleton.mp e)), W5_of m c b h0]

theorem W8_of (b : Ref sig .tc) (h0 : b ≠ main_v9) (h1 : b ≠ main_v10) : W8 m c (Proc.devRef .tc b) = W6 m c (Proc.devRef .tc b) := by
  unfold W8
  rw [StableHlo.after_of_writes_sub _ _ hostOps4_writes (fun e => h1 (List.mem_singleton.mp e)), W7_of m c b h0]

theorem W11_of (b : Ref sig .tc) (h : b ∉ hostOps6_W) (h0 : b ≠ main_v12) (h1 : b ≠ main_v11_0) (h2 : b ≠ main_v11_1) :
    W11 m c (Proc.devRef .tc b) = W8 m c (Proc.devRef .tc b) := by
  unfold W11
  rw [StableHlo.after_of_writes_sub _ _ hostOps6_writes h, W10_of m c b h0, W9_of m c b h1 h2]

/-! ## The operands -/

def opX : A2 8192 7168 := shapeCast S8192x7168 (m ((c : Thread nD τ).loc main_arg0)) shapeCasts_S2x4096x7168_S8192x7168
def opG : A2 1 7168 := shapeCast S1x7168 (m ((c : Thread nD τ).loc main_arg1)) shapeCasts_S7168_S1x7168
def opW : A2 21504 7168 := m ((c : Thread nD τ).loc main_arg2)
def opWs : A2 1 21504 := shapeCast S1x21504 (m ((c : Thread nD τ).loc main_arg3)) shapeCasts_S21504_S1x21504
def opV : A2 7168 4608 := m ((c : Thread nD τ).loc main_arg4)
def opVs : A2 1 7168 := shapeCast S1x7168 (m ((c : Thread nD τ).loc main_arg5)) shapeCasts_S7168_S1x7168

theorem W1_main_v0 : W1 m c (Proc.devRef .tc main_v0) = opX m c := by
  unfold W1; after_results; rfl
theorem W1_main_v1 : W1 m c (Proc.devRef .tc main_v1) = opWs m c := by
  unfold W1; after_results; rfl
theorem W1_main_v2 : W1 m c (Proc.devRef .tc main_v2) = opVs m c := by
  unfold W1; after_results; rfl
theorem W1_main_v3 : W1 m c (Proc.devRef .tc main_v3) = opG m c := by
  unfold W1; after_results; rfl
theorem W1_main_arg2 : W1 m c (Proc.devRef .tc main_arg2) = opW m c :=
  StableHlo.after_of_writes_sub _ _ hostOps0_writes (by decide)
theorem W1_main_arg4 : W1 m c (Proc.devRef .tc main_arg4) = opV m c :=
  StableHlo.after_of_writes_sub _ _ hostOps0_writes (by decide)

/-! ## The calls' arrays -/

theorem W2_codes : W2 m c (Proc.devRef .tc main_v4_0) = codeA (normA (opX m c) (opG m c)) := by
  rw [W2_main_v4_0, R0.arr2, ← W1_main_v0, ← W1_main_v3]
theorem W2_scale : W2 m c (Proc.devRef .tc main_v4_1) = scaleA (normA (opX m c) (opG m c)) := by
  rw [W2_main_v4_1, R0.arr3, ← W1_main_v0, ← W1_main_v3]
theorem W2_w : W2 m c (Proc.devRef .tc main_arg2) = opW m c := (W2_of m c _ (by decide) (by decide)).trans (W1_main_arg2 m c)
theorem W2_ws : W2 m c (Proc.devRef .tc main_v1) = opWs m c := (W2_of m c _ (by decide) (by decide)).trans (W1_main_v1 m c)

theorem W4_keep (b : Ref sig .tc) (h : b ∉ [main_v5, main_v6]) : W4 m c (Proc.devRef .tc b) = W2 m c (Proc.devRef .tc b) :=
  W4_of m c b (fun e => h (by simp [e])) (fun e => h (by simp [e]))
theorem W6_keep (b : Ref sig .tc) (h : b ∉ [main_v5, main_v6, main_v7, main_v8]) : W6 m c (Proc.devRef .tc b) = W2 m c (Proc.devRef .tc b) :=
  (W6_of m c b (fun e => h (by simp [e])) (fun e => h (by simp [e]))).trans (W4_of m c b (fun e => h (by simp [e])) (fun e => h (by simp [e])))
theorem W8_keep (b : Ref sig .tc) (h : b ∉ [main_v5, main_v6, main_v7, main_v8, main_v9, main_v10]) : W8 m c (Proc.devRef .tc b) = W2 m c (Proc.devRef .tc b) :=
  (W8_of m c b (fun e => h (by simp [e])) (fun e => h (by simp [e]))).trans (W6_keep m c b (fun e => h (by simp only [List.mem_cons, List.not_mem_nil, or_false] at e ⊢; tauto)))

theorem W3_proj : W3 m c (Proc.devRef .tc main_v5) = headsA (m := 8192) (H := 32) (n := 4096) rfl (projB 0 (by decide) (opX m c) (opG m c) (opW m c) (opWs m c)) := by
  rw [W3_main_v5, R1.arr4]
  unfold projB
  rw [← W2_codes, ← W2_scale, ← W2_w, ← W2_ws]
theorem W5_proj : W5 m c (Proc.devRef .tc main_v7) = headsA (m := 8192) (H := 32) (n := 4096) rfl (projB 4096 (by decide) (opX m c) (opG m c) (opW m c) (opWs m c)) := by
  rw [W5_main_v7, R2.arr4]
  unfold projB
  rw [← W2_codes, ← W2_scale, ← W2_w, ← W2_ws, ← W4_keep m c main_v4_0 (by decide), ← W4_keep m c main_v4_1 (by decide), ← W4_keep m c main_arg2 (by decide),
    ← W4_keep m c main_v1 (by decide)]
theorem W7_proj : W7 m c (Proc.devRef .tc main_v9) = headsA (m := 8192) (H := 32) (n := 4096) rfl (projB 8192 (by decide) (opX m c) (opG m c) (opW m c) (opWs m c)) := by
  rw [W7_main_v9, R3.arr4]
  unfold projB
  rw [← W2_codes, ← W2_scale, ← W2_w, ← W2_ws, ← W6_keep m c main_v4_0 (by decide), ← W6_keep m c main_v4_1 (by decide), ← W6_keep m c main_arg2 (by decide),
    ← W6_keep m c main_v1 (by decide)]

theorem gluB_eq : gluA (atTc (W8 m) c main_v4_0) (atTc (W8 m) c main_v4_1) (atTc (W8 m) c main_arg2) (atTc (W8 m) c main_v1)
    = gluB (opX m c) (opG m c) (opW m c) (opWs m c) := by
  unfold gluB
  rw [← W2_codes, ← W2_scale, ← W2_w, ← W2_ws, ← W8_keep m c main_v4_0 (by decide), ← W8_keep m c main_v4_1 (by decide), ← W8_keep m c main_arg2 (by decide),
    ← W8_keep m c main_v1 (by decide)]

theorem W9_codes : W9 m c (Proc.devRef .tc main_v11_0) = codeA (gluB (opX m c) (opG m c) (opW m c) (opWs m c)) := by
  rw [W9_main_v11_0, R4.arr6, gluB_eq]
theorem W9_scale : W9 m c (Proc.devRef .tc main_v11_1) = scaleA (gluB (opX m c) (opG m c) (opW m c) (opWs m c)) := by
  rw [W9_main_v11_1, R4.arr7, gluB_eq]

theorem W9_keep (b : Ref sig .tc) (h : b ∉ [main_v5, main_v6, main_v7, main_v8, main_v9, main_v10]) (h0 : b ∉ [main_v4_0, main_v4_1]) (h1 : b ∉ [main_v11_0, main_v11_1]) :
    W9 m c (Proc.devRef .tc b) = W1 m c (Proc.devRef .tc b) :=
  (W9_of m c b (fun e => h1 (by simp [e])) (fun e => h1 (by simp [e]))).trans ((W8_keep m c b h).trans (W2_of m c b (fun e => h0 (by simp [e])) (fun e => h0 (by simp [e]))))

theorem W10_down : W10 m c (Proc.devRef .tc main_v12) = downB (opX m c) (opG m c) (opW m c) (opWs m c) (opV m c) (opVs m c) := by
  rw [W10_main_v12, R5.arr5]
  unfold downB
  rw [← W9_codes, ← W9_scale]
  have e0 : atTc (W9 m) c main_v0 = opX m c := (W9_keep m c main_v0 (by decide) (by decide) (by decide)).trans (W1_main_v0 m c)
  have e1 : atTc (W9 m) c main_arg4 = opV m c := (W9_keep m c main_arg4 (by decide) (by decide) (by decide)).trans (W1_main_arg4 m c)
  have e2 : atTc (W9 m) c main_v2 = opVs m c := (W9_keep m c main_v2 (by decide) (by decide) (by decide)).trans (W1_main_v2 m c)
  rw [e0, e1, e2]

theorem W10_codes : W10 m c (Proc.devRef .tc main_v4_0) = codeA (normA (opX m c) (opG m c)) :=
  (W10_of m c _ (by decide)).trans ((W9_of m c _ (by decide) (by decide)).trans ((W8_keep m c _ (by decide)).trans (W2_codes m c)))
theorem W10_scale : W10 m c (Proc.devRef .tc main_v4_1) = scaleA (normA (opX m c) (opG m c)) :=
  (W10_of m c _ (by decide)).trans ((W9_of m c _ (by decide) (by decide)).trans ((W8_keep m c _ (by decide)).trans (W2_scale m c)))

/-! ## The results -/

theorem W11_main_v6 : W11 m c (Proc.devRef .tc main_v6)
    = shapeCast S2x4096x32x128 (headsA (m := 8192) (H := 32) (n := 4096) rfl (projB 0 (by decide) (opX m c) (opG m c) (opW m c) (opWs m c))) shapeCasts_S8192x32x128_S2x4096x32x128 := by
  rw [W11_of m c _ (by decide) (by decide) (by decide) (by decide), W8_of m c _ (by decide) (by decide), W6_of m c _ (by decide) (by decide), ← W3_proj]
  unfold W4; after_results; rfl
theorem W11_main_v8 : W11 m c (Proc.devRef .tc main_v8)
    = shapeCast S2x4096x32x128 (headsA (m := 8192) (H := 32) (n := 4096) rfl (projB 4096 (by decide) (opX m c) (opG m c) (opW m c) (opWs m c))) shapeCasts_S8192x32x128_S2x4096x32x128 := by
  rw [W11_of m c _ (by decide) (by decide) (by decide) (by decide), W8_of m c _ (by decide) (by decide), ← W5_proj]
  unfold W6; after_results; rfl
theorem W11_main_v10 : W11 m c (Proc.devRef .tc main_v10)
    = shapeCast S2x4096x32x128 (headsA (m := 8192) (H := 32) (n := 4096) rfl (projB 8192 (by decide) (opX m c) (opG m c) (opW m c) (opWs m c))) shapeCasts_S8192x32x128_S2x4096x32x128 := by
  rw [W11_of m c _ (by decide) (by decide) (by decide) (by decide), ← W7_proj]
  unfold W8; after_results; rfl
theorem W11_main_v13 : W11 m c (Proc.devRef .tc main_v13)
    = shapeCast S2x4096x7168 (downB (opX m c) (opG m c) (opW m c) (opWs m c) (opV m c) (opVs m c)) shapeCasts_S8192x7168_S2x4096x7168 := by
  rw [← W10_down]
  unfold W11; after_results; rfl
theorem W11_main_v14 : W11 m c (Proc.devRef .tc main_v14) = shapeCast S2x4096x7168 (codeA (normA (opX m c) (opG m c))) shapeCasts_S8192x7168_S2x4096x7168 := by
  rw [← W10_codes]
  unfold W11; after_results; rfl
theorem W11_main_v15 : W11 m c (Proc.devRef .tc main_v15) = shapeCast S2x4096x1 (scaleA (normA (opX m c) (opG m c))) shapeCasts_S8192x1_S2x4096x1 := by
  rw [← W10_scale]
  unfold W11; after_results; rfl
theorem W11_main_v16 : W11 m c (Proc.devRef .tc main_v16) = shapeCast S2x4096x4608 (codeA (gluB (opX m c) (opG m c) (opW m c) (opWs m c))) shapeCasts_S8192x4608_S2x4096x4608 := by
  rw [← W9_codes, ← W10_of m c _ (by decide)]
  unfold W11; after_results; rfl
theorem W11_main_v17 : W11 m c (Proc.devRef .tc main_v17) = shapeCast S2x4096x1 (scaleA (gluB (opX m c) (opG m c) (opW m c) (opWs m c))) shapeCasts_S8192x1_S2x4096x1 := by
  rw [← W9_scale, ← W10_of m c _ (by decide)]
  unfold W11; after_results; rfl

end Cert.KernelIdeal.Run

end
-- ==== Proof.KRef.lean ====
/- What the reference's body computes, from whole arrays. -/
module

public import proofs.«01_k».proof.Proof.Gen.ReferenceIdeal.Frame
public import proofs.«01_k».proof.Proof.Blocks

@[expose] public section

noncomputable section

namespace Cert.ReferenceIdeal.Value

open Cert.ReferenceIdeal Cert.ReferenceIdeal.Gen
open Idealize.ShloMosaic Cert.Spec

/-! ## The exponent -/

/-- The exponent at every element. -/
def expoV (v : FVec Ideal S8192x1 .f32) : FVec Ideal S8192x1 .f32 :=
  select (cmpf .olt v (broadcast S8192x1 (Scalar.ofBits (F := Ideal) .f32 0x00800000#32))) (broadcast S8192x1 (Scalar.ofBits (F := Ideal) .f32 0x00000000#32))
    (minimumf (addf (floor (divf (log v) (broadcast S8192x1 (Named.named (F := Ideal) (φ := .f32) κ "log_two" 0x3F317218#32))))
      (broadcast S8192x1 (Scalar.ofBits (F := Ideal) .f32 0x3F800000#32))) (broadcast S8192x1 (Scalar.ofBits (F := Ideal) .f32 0x42FC0000#32)))

theorem zero_bits : Ideal.ofBits .f32 0#32 = 0 := by
  simp [Ideal.ofBits, Ideal.ieee]

theorem one_bits : Ideal.ofBits .f32 0x3F800000#32 = 1 := by
  simp [Ideal.ofBits, Ideal.ieee, -EReal.coe_mul]; norm_num

theorem expoV_apply (v : FVec Ideal S8192x1 .f32) (i : S8192x1.Idx) : expoV v i = Scales.expo (v i) := by
  show Scalar.select (BitVec.ofBool (decide ((v i : EReal) < Ideal.ofBits .f32 8388608#32))) (Ideal.ofBits .f32 0#32)
    (min (Ideal.liftRound Int.floor (Ideal.div (Ideal.log (v i)) ((Real.log 2 : ℝ) : EReal)) + Ideal.ofBits .f32 0x3F800000#32) (Ideal.ofBits .f32 1123811328#32)) = _
  rw [zero_bits, one_bits]
  unfold Scales.expo Scalar.select
  by_cases h : (v i : EReal) < Ideal.ofBits .f32 8388608#32
  · rw [if_pos h, decide_eq_true h]; rfl
  · rw [if_neg h, decide_eq_false h]; rfl

/-! ## The norm and its quantised rows -/

theorem pay6_eq (x : Vec Ideal S8192x7168 .bf16) (g : Vec Ideal S1x7168 .bf16) : k0_pay6 (F := Ideal) x g = normA (m := 8192) x g := by
  funext j
  obtain ⟨r, c, rfl⟩ : ∃ (r : Fin 8192) (c : Fin 7168), j = ix2 r c := ⟨j 0, j 1, eq_ix2 j⟩
  show _ = rms (row (m := 8192) (n := 7168) x r) (row (m := 1) (n := 7168) g 0) c
  unfold rms row
  pointwise [k0_pay6, k0_pay5]

/-- The largest magnitudes of the rows over 448. -/
def unitA {n : ℕ} (v : A2 8192 n) : FVec Ideal S8192x1 .f32 := fun j => unit (big (row v (j 0)))

theorem expoV_unitA {n : ℕ} (v : A2 8192 n) (r : Fin 8192) : expoV (unitA v) (ix2 r 0) = Scales.expo (unit (big (row v r))) := expoV_apply _ _

/-- A largest magnitude over 448 at every row, as the body writes it. -/
def unitV {n : ℕ} (h : (⟨2, ![8192, n]⟩ : Shape).Reduces [1] S8192) (X : FVec Ideal ⟨2, ![8192, n]⟩ .f32) : FVec Ideal S8192x1 .f32 :=
  mulf (shapeCast S8192x1 (multiReduction .maximumf [1] S8192 (absf X) 0xFF800000#32 h (.inl rfl) rfl)
    shapeCasts_S8192_S8192x1) (broadcast S8192x1 (Scalar.ofBits (F := Ideal) .f32 0x3B124925#32))

theorem lift_row {n : ℕ} (h : (⟨2, ![8192, n]⟩ : Shape).Reduces [1] S8192) (r : Fin 8192) (k : Fin n) : h.lift (ix1 r) k = ix2 r k := by
  funext a
  apply Fin.ext
  fin_cases a <;> rfl

/-- The largest magnitude of a row, by its definition. -/
theorem big_eq {n : ℕ} (h : (⟨2, ![8192, n]⟩ : Shape).Reduces [1] S8192) (X : A2 8192 n) (r : Fin 8192) :
    multiReduction (F := Ideal) (φ := .f32) .maximumf [1] S8192 (absf (X : FVec Ideal ⟨2, ![8192, n]⟩ .f32)) 0xFF800000#32 h (.inl rfl) rfl (ix1 r) = big (row X r) := by
  refine (Ideal.multiReduction_maximumf_single (a := 1) (absf (X : FVec Ideal ⟨2, ![8192, n]⟩ .f32)) _ _ _ _ (ix1 r)).trans ?_
  unfold big
  exact congrArg (fun f => Finset.univ.fold max (Ideal.ofBits .f32 4286578688#32) f)
    (funext fun k => congrArg (fun i => FloatOps.absf (F := Ideal) (φ := .f32) (X i)) (lift_row _ r k))

theorem unitV_eq {n : ℕ} (h : (⟨2, ![8192, n]⟩ : Shape).Reduces [1] S8192) (X : A2 8192 n) : unitV h X = unitA X := by
  funext j
  obtain ⟨r, q, rfl⟩ : ∃ (r : Fin 8192) (q : Fin 1), j = ix2 r q := ⟨j 0, j 1, eq_ix2 j⟩
  obtain rfl : q = 0 := Subsingleton.elim _ _
  have e : Shape.reshapeEquiv shapeCasts_S8192_S8192x1 (ix2 r 0) = (ix1 r : S8192.Idx) :=
    Shape.reshapeEquiv_eq_of_vals _ _ _ _ _ (rowMajor_val1 _) (rowMajor_val2 _ 1 rfl) (by show r.val = r.val * 1 + 0; omega)
  have hu (M : FVec Ideal S8192 .f32) : mulf (shapeCast S8192x1 M shapeCasts_S8192_S8192x1) (broadcast S8192x1 (Scalar.ofBits (F := Ideal) .f32 0x3B124925#32)) (ix2 r 0) = unit (M (ix1 r)) := by
    rw [← e]
    rfl
  unfold unitV
  rw [hu, big_eq]
  rfl

theorem pay7_unitV (x : Vec Ideal S8192x7168 .bf16) (g : Vec Ideal S1x7168 .bf16) : k0_pay7 (F := Ideal) x g = expoV (unitV reduces_S8192x7168_S8192 (k0_pay6 x g)) := by
  unfold k0_pay7 expoV unitV
  with_reducible rfl

theorem pay7_eq (x : Vec Ideal S8192x7168 .bf16) (g : Vec Ideal S1x7168 .bf16) : k0_pay7 (F := Ideal) x g = expoV (unitA (normA (m := 8192) x g)) :=
  (pay7_unitV x g).trans (congrArg expoV ((congrArg (unitV _) (pay6_eq x g)).trans (unitV_eq _ _)))

theorem pay10_eq (x : Vec Ideal S8192x7168 .bf16) (g : Vec Ideal S1x7168 .bf16) :
    k0_pay10 (F := Ideal) (k0_pay8 x g) k0_pay9 = codeA (normA (m := 8192) x g) := by
  funext j
  obtain ⟨r, c, rfl⟩ : ∃ (r : Fin 8192) (c : Fin 7168), j = ix2 r c := ⟨j 0, j 1, eq_ix2 j⟩
  show _ = clip (row (normA (m := 8192) x g) r c * Ideal.exp2 (0 - Scales.expo (unit (big (row (normA (m := 8192) x g) r)))))
  rw [← expoV_unitA, ← zero_bits]
  unfold k0_pay8
  rw [pay7_eq, pay6_eq]
  generalize expoV (unitA (normA (m := 8192) x g)) = e
  generalize normA (m := 8192) x g = X
  unfold clip row
  pointwise [k0_pay10, k0_pay9]
  rfl

theorem pay11_eq (x : Vec Ideal S8192x7168 .bf16) (g : Vec Ideal S1x7168 .bf16) : k0_pay11 (F := Ideal) (k0_pay7 x g) = scaleA (normA (m := 8192) x g) := by
  funext j
  obtain ⟨r, q, rfl⟩ : ∃ (r : Fin 8192) (q : Fin 1), j = ix2 r q := ⟨j 0, j 1, eq_ix2 j⟩
  obtain rfl : q = 0 := Subsingleton.elim _ _
  have e1 (e : FVec Ideal S8192x1 .f32) : k0_pay11 (F := Ideal) e (ix2 r 0) = Ideal.exp2 (e (ix2 r 0)) := rfl
  rw [e1, pay7_eq, expoV_unitA]
  unfold scaleA scale Scales.scale
  rfl

/-! ## The product and its parts -/

/-- The columns from `o` on, read element by element. -/
theorem slice_eq (o : ℕ) (ho : o + 4096 ≤ 21504) (h : S8192x21504.Slices ![0, o] S8192x4096) (P : A2 8192 21504) :
    truncf (F := Ideal) .bf16 (extractStridedSlice S8192x4096 ![0, o] (P : FVec Ideal S8192x21504 .f32) h) bitsLt_bf16_f32
      = fun j : S8192x4096.Idx => P (ix2 (j 0) ⟨o + (j 1).val, by have : (j 1).val < 4096 := (j 1).isLt; omega⟩) := by
  funext j
  obtain ⟨r, c, rfl⟩ : ∃ (r : Fin 8192) (c : Fin 4096), j = ix2 r c := ⟨j 0, j 1, eq_ix2 j⟩
  pointwise

section
variable (e : FVec Ideal S8192x1 .f32) (a b : FVec Ideal S8192x7168 .f32) (w : Vec Ideal S21504x7168 .fp8e4m3) (ws : Vec Ideal S1x21504 .f32)
  (C : A2 8192 7168) (S : A2 8192 1) (hC : k0_pay10 (F := Ideal) a b = C) (hS : k0_pay11 (F := Ideal) e = S)
include hC hS

theorem pay12_eq : k0_pay12 (F := Ideal) e a b w ws = dotA C S w ws := by
  funext j
  obtain ⟨r, c, rfl⟩ : ∃ (r : Fin 8192) (c : Fin 21504), j = ix2 r c := ⟨j 0, j 1, eq_ix2 j⟩
  show _ = dot (row C r) (S (ix2 r 0)) (row (m := 21504) (n := 7168) w c) ((ws : A2 1 21504) (ix2 0 c))
  unfold k0_pay12
  rw [hC, hS]
  unfold dot row
  pointwise

theorem pay13_eq : k0_pay13 (F := Ideal) e a b w ws = projA 0 (by decide) C S w ws := by
  unfold k0_pay13
  rw [pay12_eq e a b w ws C S hC hS]
  exact slice_eq 0 (by decide) _ _

theorem pay14_eq : k0_pay14 (F := Ideal) e a b w ws = projA 4096 (by decide) C S w ws := by
  unfold k0_pay14
  rw [pay12_eq e a b w ws C S hC hS]
  exact slice_eq 4096 (by decide) _ _

theorem pay15_eq : k0_pay15 (F := Ideal) e a b w ws = projA 8192 (by decide) C S w ws := by
  unfold k0_pay15
  rw [pay12_eq e a b w ws C S hC hS]
  exact slice_eq 8192 (by decide) _ _

theorem pay16_eq : k0_pay16 (F := Ideal) e a b w ws = gluA C S w ws := by
  funext j
  obtain ⟨r, c, rfl⟩ : ∃ (r : Fin 8192) (c : Fin 4608), j = ix2 r c := ⟨j 0, j 1, eq_ix2 j⟩
  unfold k0_pay16
  rw [pay12_eq e a b w ws C S hC hS]
  unfold gluA glu
  generalize dotA C S w ws = P
  pointwise

omit hC hS in
theorem pay17_unitV : k0_pay17 (F := Ideal) e a b w ws = unitV reduces_S8192x4608_S8192 (k0_pay16 (F := Ideal) e a b w ws) := by
  unfold k0_pay17 unitV
  with_reducible rfl

theorem pay17_eq : k0_pay17 (F := Ideal) e a b w ws = unitA (gluA C S w ws) :=
  (pay17_unitV e a b w ws).trans ((congrArg (unitV _) (pay16_eq e a b w ws C S hC hS)).trans (unitV_eq _ _))

theorem pay1_eq : k0_pay1 (F := Ideal) (k0_pay18 e a b w ws) (k0_pay19 e a b w ws) = expoV (unitA (gluA C S w ws)) := by
  rw [← pay17_eq e a b w ws C S hC hS]
  unfold k0_pay18 k0_pay19 k0_pay1 expoV
  with_reducible rfl

theorem pay2_eq : k0_pay2 (F := Ideal) (k0_pay16 e a b w ws) (k0_pay18 e a b w ws) (k0_pay19 e a b w ws) = codeA (gluA C S w ws) := by
  funext j
  obtain ⟨r, c, rfl⟩ : ∃ (r : Fin 8192) (c : Fin 4608), j = ix2 r c := ⟨j 0, j 1, eq_ix2 j⟩
  show _ = clip (row (gluA C S w ws) r c * Ideal.exp2 (0 - Scales.expo (unit (big (row (gluA C S w ws) r)))))
  rw [← expoV_unitA, ← zero_bits]
  unfold k0_pay2
  rw [pay1_eq e a b w ws C S hC hS, pay16_eq e a b w ws C S hC hS]
  generalize expoV (unitA (gluA C S w ws)) = e'
  generalize gluA C S w ws = X
  unfold clip row
  pointwise
  rfl

theorem pay3_eq : k0_pay3 (F := Ideal) (k0_pay18 e a b w ws) (k0_pay19 e a b w ws) = scaleA (gluA C S w ws) := by
  funext j
  obtain ⟨r, q, rfl⟩ : ∃ (r : Fin 8192) (q : Fin 1), j = ix2 r q := ⟨j 0, j 1, eq_ix2 j⟩
  obtain rfl : q = 0 := Subsingleton.elim _ _
  have e1 (v : IVec S8192x1 1) (e : FVec Ideal S8192x1 .f32) : k0_pay3 (F := Ideal) v e (ix2 r 0) = Ideal.exp2 (k0_pay1 (F := Ideal) v e (ix2 r 0)) := rfl
  rw [e1, pay1_eq e a b w ws C S hC hS, expoV_unitA]
  unfold scaleA scale Scales.scale
  rfl

theorem pay4_eq (x : Vec Ideal S8192x7168 .bf16) (v : Vec Ideal S7168x4608 .fp8e4m3) (vs : Vec Ideal S1x7168 .f32) :
    k0_pay4 (F := Ideal) (k0_pay5 x) (k0_pay16 e a b w ws) (k0_pay18 e a b w ws) (k0_pay19 e a b w ws) v vs
      = downA (m := 8192) (n := 7168) (K := 4608) x (codeA (gluA C S w ws)) (scaleA (gluA C S w ws)) v vs := by
  funext j
  obtain ⟨r, c, rfl⟩ : ∃ (r : Fin 8192) (c : Fin 7168), j = ix2 r c := ⟨j 0, j 1, eq_ix2 j⟩
  unfold k0_pay4
  rw [pay2_eq e a b w ws C S hC hS, pay3_eq e a b w ws C S hC hS]
  unfold downA dotA dot row
  generalize codeA (gluA C S w ws) = P
  generalize scaleA (gluA C S w ws) = Q
  pointwise [k0_pay5]

end

end Cert.ReferenceIdeal.Value

end
-- ==== Proof.RefValue.lean ====
/- What the reference's results hold at the end of a run: the block's results, as functions of the arguments' reshapes. -/
module

public import proofs.«01_k».proof.Proof.KRef
public import proofs.«01_k».proof.Proof.Result

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Cert.Spec

/-! ## The body's outputs -/

section
variable (x : Vec Ideal S8192x7168 .bf16) (g : Vec Ideal S1x7168 .bf16) (w : Vec Ideal S21504x7168 .fp8e4m3) (ws : Vec Ideal S1x21504 .f32)
  (v : Vec Ideal S7168x4608 .fp8e4m3) (vs : Vec Ideal S1x7168 .f32)

theorem ld_x : View.ld x r0_0 = x := View.ld_unit_zero hz2 _ x
theorem ld_g {e : EltTy} (g : Vec Ideal S1x7168 e) : View.ld g r0_1 = g := View.ld_unit_zero hz2 _ g
theorem ld_w : View.ld w r0_2 = w := View.ld_unit_zero hz2 _ w
theorem ld_ws : View.ld ws r0_3 = ws := View.ld_unit_zero hz2 _ ws
theorem ld_v : View.ld v r0_5 = v := View.ld_unit_zero hz2 _ v

theorem out6_eq : out0_6 (F := Ideal) x g w ws v vs = projB 0 (by decide) x g w ws := by
  unfold out0_6 k0_pay20 k0_pay21 k0_pay22
  rw [View.canon_unit_zero hz2, ld_x, ld_g, ld_w, ld_ws]
  exact pay13_eq _ _ _ _ _ _ _ (pay10_eq x g) (pay11_eq x g)
theorem out7_eq : out0_7 (F := Ideal) x g w ws v vs = projB 4096 (by decide) x g w ws := by
  unfold out0_7 k0_pay20 k0_pay21 k0_pay22
  rw [View.canon_unit_zero hz2, ld_x, ld_g, ld_w, ld_ws]
  exact pay14_eq _ _ _ _ _ _ _ (pay10_eq x g) (pay11_eq x g)
theorem out8_eq : out0_8 (F := Ideal) x g w ws v vs = projB 8192 (by decide) x g w ws := by
  unfold out0_8 k0_pay20 k0_pay21 k0_pay22
  rw [View.canon_unit_zero hz2, ld_x, ld_g, ld_w, ld_ws]
  exact pay15_eq _ _ _ _ _ _ _ (pay10_eq x g) (pay11_eq x g)
theorem out9_eq : out0_9 (F := Ideal) x g w ws v vs = downB x g w ws v vs := by
  unfold out0_9 k0_pay23 k0_pay24 k0_pay25 k0_pay20 k0_pay21 k0_pay22
  rw [View.canon_unit_zero hz2, ld_x, ld_g, ld_w, ld_ws, ld_v, ld_g]
  exact pay4_eq _ _ _ _ _ _ _ (pay10_eq x g) (pay11_eq x g) x v vs
theorem out10_eq : out0_10 (F := Ideal) x g w ws v vs = codeA (normA (m := 8192) x g) := by
  unfold out0_10 k0_pay21 k0_pay22
  rw [View.canon_unit_zero hz2, ld_x, ld_g]
  exact pay10_eq x g
theorem out11_eq : out0_11 (F := Ideal) x g w ws v vs = scaleA (normA (m := 8192) x g) := by
  unfold out0_11 k0_pay20
  rw [View.canon_unit_zero hz2, ld_x, ld_g]
  exact pay11_eq x g
theorem out12_eq : out0_12 (F := Ideal) x g w ws v vs = codeA (gluB x g w ws) := by
  unfold out0_12 k0_pay23 k0_pay24 k0_pay25 k0_pay20 k0_pay21 k0_pay22
  rw [View.canon_unit_zero hz2, ld_x, ld_g, ld_w, ld_ws]
  exact pay2_eq _ _ _ _ _ _ _ (pay10_eq x g) (pay11_eq x g)
theorem out13_eq : out0_13 (F := Ideal) x g w ws v vs = scaleA (gluB x g w ws) := by
  unfold out0_13 k0_pay24 k0_pay25 k0_pay20 k0_pay21 k0_pay22
  rw [View.canon_unit_zero hz2, ld_x, ld_g, ld_w, ld_ws]
  exact pay3_eq _ _ _ _ _ _ _ (pay10_eq x g) (pay11_eq x g)
end

variable (m : (ℓ : Loc nD τ sig) → Buf (Elt Ideal) ℓ) (ρ : Dev nD → PrngReg) (c : Dev nD)

/-! ## The operands -/

def opX : A2 8192 7168 := shapeCast S8192x7168 (m ((c : Thread nD τ).loc main_arg0)) shapeCasts_S2x4096x7168_S8192x7168
def opG : A2 1 7168 := shapeCast S1x7168 (m ((c : Thread nD τ).loc main_arg1)) shapeCasts_S7168_S1x7168
def opW : A2 21504 7168 := m ((c : Thread nD τ).loc main_arg2)
def opWs : A2 1 21504 := shapeCast S1x21504 (m ((c : Thread nD τ).loc main_arg3)) shapeCasts_S21504_S1x21504
def opV : A2 7168 4608 := m ((c : Thread nD τ).loc main_arg4)
def opVs : A2 1 7168 := shapeCast S1x7168 (m ((c : Thread nD τ).loc main_arg5)) shapeCasts_S7168_S1x7168

/-- The reshaped arguments, as the region finds them. -/
theorem V_ops : V m c main_v0 = opX m c ∧ V m c main_v1 = opG m c ∧ V m c main_v2 = opWs m c ∧ V m c main_v3 = opVs m c := by
  refine ⟨?_, ?_, ?_, ?_⟩
  all_goals
    show StableHlo.after (List.flatten [hostOps0]) _ _ = _
    simp only [List.flatten_cons, List.flatten_nil, List.append_nil]
    after_results
    rfl

/-! ## The windows take whole arrays -/

theorem emb_zero {s : Shape} (off : Fin s.rank → ℕ) (h : ∀ a, off a = 0) (inb : ∀ a, off a + s.size a ≤ s.size a) (y : s.Idx) :
    (Rect.unit (s := s) off s.size inb).emb y = y := by
  funext a
  apply Fin.ext
  rw [Rect.emb_apply]
  show off a + 1 * (y a).val = (y a).val
  rw [h, Nat.zero_add, Nat.one_mul]

/-- An array read through its one block is the array. -/
theorem read_zero {s : Shape} {α : Type} (G : s.Idx → α) (off : Fin s.rank → ℕ) (h : ∀ a, off a = 0) (inb : ∀ a, off a + s.size a ≤ s.size a) :
    G = fun y => G ((Rect.unit (s := s) off s.size inb).emb y) :=
  funext fun y => congrArg G (emb_zero off h inb y).symm

/-- Every element of an array is an element of its one block. -/
theorem mem_block (b : Ref sig .tc) (off : Fin b.ty.shape.rank → ℕ) (h : ∀ a, off a = 0) (inb : ∀ a, off a + b.ty.shape.size a ≤ b.ty.shape.size a) (i : b.ty.shape.Idx) :
    i ∈ ((View.whole b).slice (Rect.unit (s := b.ty.shape) off b.ty.shape.size inb)).set := by
  rw [View.set_slice_whole, Rect.mem_set_unit]
  intro a
  rw [h]
  exact ⟨Nat.zero_le _, by rw [Nat.zero_add]; exact (i a).isLt⟩

/-- A function of the six input blocks at a point is that function of the operands. -/
theorem on_ops {α : Sort*} (f : Vec Ideal S8192x7168 .bf16 → Vec Ideal S1x7168 .bf16 → Vec Ideal S21504x7168 .fp8e4m3 → Vec Ideal S1x21504 .f32 →
    Vec Ideal S7168x4608 .fp8e4m3 → Vec Ideal S1x7168 .f32 → α) (t : Fin cfg0.N) :
    f (iblk m c 0 t) (iblk m c 1 t) (iblk m c 2 t) (iblk m c 3 t) (iblk m c 4 t) (iblk m c 5 t)
      = f (opX m c) (opG m c) (opW m c) (opWs m c) (opV m c) (opVs m c) := by
  obtain ⟨h0, h1, h2, h3⟩ := V_ops m c
  have e0 : iblk m c 0 t = opX m c := (funext fun y => congrArg (V m c main_v0) (emb_zero _ (fun _ => Nat.zero_mul _) _ y) : iblk m c 0 t = V m c main_v0).trans h0
  have e1 : iblk m c 1 t = opG m c := (funext fun y => congrArg (V m c main_v1) (emb_zero _ (fun _ => Nat.zero_mul _) _ y) : iblk m c 1 t = V m c main_v1).trans h1
  have e2 : iblk m c 2 t = opW m c := (funext fun y => congrArg (V m c main_arg2) (emb_zero _ (fun _ => Nat.zero_mul _) _ y) : iblk m c 2 t = V m c main_arg2).trans (V_main_arg2 m c)
  have e3 : iblk m c 3 t = opWs m c := (funext fun y => congrArg (V m c main_v2) (emb_zero _ (fun _ => Nat.zero_mul _) _ y) : iblk m c 3 t = V m c main_v2).trans h2
  have e4 : iblk m c 4 t = opV m c := (funext fun y => congrArg (V m c main_arg4) (emb_zero _ (fun _ => Nat.zero_mul _) _ y) : iblk m c 4 t = V m c main_arg4).trans (V_main_arg4 m c)
  have e5 : iblk m c 5 t = opVs m c := (funext fun y => congrArg (V m c main_v3) (emb_zero _ (fun _ => Nat.zero_mul _) _ y) : iblk m c 5 t = V m c main_v3).trans h3
  rw [e0, e1, e2, e3, e4, e5]

/-- The one point. -/
abbrev pt : Fin cfg0.N := ⟨0, Nat.lt_of_lt_of_eq Nat.one_pos N_0.symm⟩

/-- An array that its one block covers ends as what every point flushes. -/
theorem arr_of (w : Fin cfg0.W) (G : Buf (Elt Ideal) ((cfg0.win w).arr.view.loc (c.tc : Thread nD τ))) (hf : (cfg0.win w).flush pt = true)
    (hG : ∀ t, (dats m 0 c).flushed w t = ((cfg0.win w).blk t).view.read (Elt Ideal) G) (hc : ∀ i, i ∈ ((cfg0.win w).blk pt).view.set) :
    (dats m 0 c).arrAt w cfg0.N = G :=
  (dats m 0 c).arrAt_eq_of_cover w G (fun t _ => hG t) (fun i => ⟨pt, hf, hc i⟩)

theorem arr6 : (dats m 0 c).arrAt 6 cfg0.N = projB 0 (by decide) (opX m c) (opG m c) (opW m c) (opWs m c) :=
  arr_of m c 6 _ (flush0_6 _) (fun t => (congrArg ((cfg0.win 6).cut (grid0.coords t)) ((after0_6 m c t).trans ((on_ops m c out0_6 t).trans (out6_eq ..)))).trans
    (read_zero _ _ (fun _ => Nat.zero_mul _) _)) (mem_block main_v4_0 _ (fun _ => Nat.zero_mul _) _)
theorem arr7 : (dats m 0 c).arrAt 7 cfg0.N = projB 4096 (by decide) (opX m c) (opG m c) (opW m c) (opWs m c) :=
  arr_of m c 7 _ (flush0_7 _) (fun t => (congrArg ((cfg0.win 7).cut (grid0.coords t)) ((after0_7 m c t).trans ((on_ops m c out0_7 t).trans (out7_eq ..)))).trans
    (read_zero _ _ (fun _ => Nat.zero_mul _) _)) (mem_block main_v4_1 _ (fun _ => Nat.zero_mul _) _)
theorem arr8 : (dats m 0 c).arrAt 8 cfg0.N = projB 8192 (by decide) (opX m c) (opG m c) (opW m c) (opWs m c) :=
  arr_of m c 8 _ (flush0_8 _) (fun t => (congrArg ((cfg0.win 8).cut (grid0.coords t)) ((after0_8 m c t).trans ((on_ops m c out0_8 t).trans (out8_eq ..)))).trans
    (read_zero _ _ (fun _ => Nat.zero_mul _) _)) (mem_block main_v4_2 _ (fun _ => Nat.zero_mul _) _)
theorem arr9 : (dats m 0 c).arrAt 9 cfg0.N = downB (opX m c) (opG m c) (opW m c) (opWs m c) (opV m c) (opVs m c) :=
  arr_of m c 9 _ (flush0_9 _) (fun t => (congrArg ((cfg0.win 9).cut (grid0.coords t)) ((after0_9 m c t).trans ((on_ops m c out0_9 t).trans (out9_eq ..)))).trans
    (read_zero _ _ (fun _ => Nat.zero_mul _) _)) (mem_block main_v4_3 _ (fun _ => Nat.zero_mul _) _)
theorem arr10 : (dats m 0 c).arrAt 10 cfg0.N = codeA (normA (m := 8192) (opX m c) (opG m c)) :=
  arr_of m c 10 _ (flush0_10 _) (fun t => (congrArg ((cfg0.win 10).cut (grid0.coords t)) ((after0_10 m c t).trans ((on_ops m c out0_10 t).trans (out10_eq ..)))).trans
    (read_zero _ _ (fun _ => Nat.zero_mul _) _)) (mem_block main_v4_4 _ (fun _ => Nat.zero_mul _) _)
theorem arr11 : (dats m 0 c).arrAt 11 cfg0.N = scaleA (normA (m := 8192) (opX m c) (opG m c)) :=
  arr_of m c 11 _ (flush0_11 _) (fun t => (congrArg ((cfg0.win 11).cut (grid0.coords t)) ((after0_11 m c t).trans ((on_ops m c out0_11 t).trans (out11_eq ..)))).trans
    (read_zero _ _ (fun _ => Nat.zero_mul _) _)) (mem_block main_v4_5 _ (fun _ => Nat.zero_mul _) _)
theorem arr12 : (dats m 0 c).arrAt 12 cfg0.N = codeA (gluB (opX m c) (opG m c) (opW m c) (opWs m c)) :=
  arr_of m c 12 _ (flush0_12 _) (fun t => (congrArg ((cfg0.win 12).cut (grid0.coords t)) ((after0_12 m c t).trans ((on_ops m c out0_12 t).trans (out12_eq ..)))).trans
    (read_zero _ _ (fun _ => Nat.zero_mul _) _)) (mem_block main_v4_6 _ (fun _ => Nat.zero_mul _) _)
theorem arr13 : (dats m 0 c).arrAt 13 cfg0.N = scaleA (gluB (opX m c) (opG m c) (opW m c) (opWs m c)) :=
  arr_of m c 13 _ (flush0_13 _) (fun t => (congrArg ((cfg0.win 13).cut (grid0.coords t)) ((after0_13 m c t).trans ((on_ops m c out0_13 t).trans (out13_eq ..)))).trans
    (read_zero _ _ (fun _ => Nat.zero_mul _) _)) (mem_block main_v4_7 _ (fun _ => Nat.zero_mul _) _)

/-! ## The results -/

/-- The buffers as the region leaves them. -/
def left : Valuation τ sig (Elt Ideal) := Pipeline.withArrays (cfgs 0).spec c (V0 m c) fun w => (dats m 0 c).arrAt w (cfgs 0).N

theorem left_arr (w : Fin cfg0.W) : left m c (Proc.devRef .tc (Pipeline.arrRef spec0 w)) = (dats m 0 c).arrAt w cfg0.N :=
  Pipeline.withArrays_arr spec0 launch0.win.arr_inj c (V0 m c) _ w

/-- The lines after the region reshape its arrays. -/
theorem tail_reads (L : Valuation τ sig (Elt Ideal)) :
    StableHlo.after (List.flatten [hostOps1]) L (Proc.devRef .tc main_v5) = shapeCast S2x4096x32x128 (L (Proc.devRef .tc main_v4_0)) shapeCasts_S8192x4096_S2x4096x32x128
    ∧ StableHlo.after (List.flatten [hostOps1]) L (Proc.devRef .tc main_v6) = shapeCast S2x4096x32x128 (L (Proc.devRef .tc main_v4_1)) shapeCasts_S8192x4096_S2x4096x32x128
    ∧ StableHlo.after (List.flatten [hostOps1]) L (Proc.devRef .tc main_v7) = shapeCast S2x4096x32x128 (L (Proc.devRef .tc main_v4_2)) shapeCasts_S8192x4096_S2x4096x32x128
    ∧ StableHlo.after (List.flatten [hostOps1]) L (Proc.devRef .tc main_v8) = shapeCast S2x4096x7168 (L (Proc.devRef .tc main_v4_3)) shapeCasts_S8192x7168_S2x4096x7168
    ∧ StableHlo.after (List.flatten [hostOps1]) L (Proc.devRef .tc main_v9) = shapeCast S2x4096x7168 (L (Proc.devRef .tc main_v4_4)) shapeCasts_S8192x7168_S2x4096x7168
    ∧ StableHlo.after (List.flatten [hostOps1]) L (Proc.devRef .tc main_v10) = shapeCast S2x4096x1 (L (Proc.devRef .tc main_v4_5)) shapeCasts_S8192x1_S2x4096x1
    ∧ StableHlo.after (List.flatten [hostOps1]) L (Proc.devRef .tc main_v11) = shapeCast S2x4096x4608 (L (Proc.devRef .tc main_v4_6)) shapeCasts_S8192x4608_S2x4096x4608
    ∧ StableHlo.after (List.flatten [hostOps1]) L (Proc.devRef .tc main_v12) = shapeCast S2x4096x1 (L (Proc.devRef .tc main_v4_7)) shapeCasts_S8192x1_S2x4096x1 := by
  simp only [List.flatten_cons, List.flatten_nil, List.append_nil]
  refine ⟨?_, ?_, ?_, ?_, ?_, ?_, ?_, ?_⟩
  all_goals
    after_results
    rfl

/-- The results after the last line. -/
theorem results :
    Pipeline.afterTail₀ cfgs (dats m) 0 (V0 m) [hostOps1] c main_v5 = shapeCast S2x4096x32x128 (projB 0 (by decide) (opX m c) (opG m c) (opW m c) (opWs m c)) shapeCasts_S8192x4096_S2x4096x32x128
    ∧ Pipeline.afterTail₀ cfgs (dats m) 0 (V0 m) [hostOps1] c main_v6 = shapeCast S2x4096x32x128 (projB 4096 (by decide) (opX m c) (opG m c) (opW m c) (opWs m c)) shapeCasts_S8192x4096_S2x4096x32x128
    ∧ Pipeline.afterTail₀ cfgs (dats m) 0 (V0 m) [hostOps1] c main_v7 = shapeCast S2x4096x32x128 (projB 8192 (by decide) (opX m c) (opG m c) (opW m c) (opWs m c)) shapeCasts_S8192x4096_S2x4096x32x128
    ∧ Pipeline.afterTail₀ cfgs (dats m) 0 (V0 m) [hostOps1] c main_v8 = shapeCast S2x4096x7168 (downB (opX m c) (opG m c) (opW m c) (opWs m c) (opV m c) (opVs m c)) shapeCasts_S8192x7168_S2x4096x7168
    ∧ Pipeline.afterTail₀ cfgs (dats m) 0 (V0 m) [hostOps1] c main_v9 = shapeCast S2x4096x7168 (codeA (normA (m := 8192) (opX m c) (opG m c))) shapeCasts_S8192x7168_S2x4096x7168
    ∧ Pipeline.afterTail₀ cfgs (dats m) 0 (V0 m) [hostOps1] c main_v10 = shapeCast S2x4096x1 (scaleA (normA (m := 8192) (opX m c) (opG m c))) shapeCasts_S8192x1_S2x4096x1
    ∧ Pipeline.afterTail₀ cfgs (dats m) 0 (V0 m) [hostOps1] c main_v11 = shapeCast S2x4096x4608 (codeA (gluB (opX m c) (opG m c) (opW m c) (opWs m c))) shapeCasts_S8192x4608_S2x4096x4608
    ∧ Pipeline.afterTail₀ cfgs (dats m) 0 (V0 m) [hostOps1] c main_v12 = shapeCast S2x4096x1 (scaleA (gluB (opX m c) (opG m c) (opW m c) (opWs m c))) shapeCasts_S8192x1_S2x4096x1 := by
  obtain ⟨h5, h6, h7, h8, h9, h10, h11, h12⟩ := tail_reads (left m c)
  exact ⟨h5.trans (congrArg (fun a => shapeCast _ a shapeCasts_S8192x4096_S2x4096x32x128) ((left_arr m c 6).trans (arr6 m c))),
    h6.trans (congrArg (fun a => shapeCast _ a shapeCasts_S8192x4096_S2x4096x32x128) ((left_arr m c 7).trans (arr7 m c))),
    h7.trans (congrArg (fun a => shapeCast _ a shapeCasts_S8192x4096_S2x4096x32x128) ((left_arr m c 8).trans (arr8 m c))),
    h8.trans (congrArg (fun a => shapeCast _ a shapeCasts_S8192x7168_S2x4096x7168) ((left_arr m c 9).trans (arr9 m c))),
    h9.trans (congrArg (fun a => shapeCast _ a shapeCasts_S8192x7168_S2x4096x7168) ((left_arr m c 10).trans (arr10 m c))),
    h10.trans (congrArg (fun a => shapeCast _ a shapeCasts_S8192x1_S2x4096x1) ((left_arr m c 11).trans (arr11 m c))),
    h11.trans (congrArg (fun a => shapeCast _ a shapeCasts_S8192x4608_S2x4096x4608) ((left_arr m c 12).trans (arr12 m c))),
    h12.trans (congrArg (fun a => shapeCast _ a shapeCasts_S8192x1_S2x4096x1) ((left_arr m c 13).trans (arr13 m c)))⟩

/-- Every run ends with the results at those values and the arguments as launched. -/
theorem run : θ_run defs (onTc (τ := τ) (main (F := Ideal))) ⟨m, fun _ => 0, ρ⟩ (fun r => ∀ c : Dev nD,
      r.2.mem ((c : Thread nD τ).loc main_v5) = shapeCast S2x4096x32x128 (projB 0 (by decide) (opX m c) (opG m c) (opW m c) (opWs m c)) shapeCasts_S8192x4096_S2x4096x32x128
      ∧ r.2.mem ((c : Thread nD τ).loc main_v6) = shapeCast S2x4096x32x128 (projB 4096 (by decide) (opX m c) (opG m c) (opW m c) (opWs m c)) shapeCasts_S8192x4096_S2x4096x32x128
      ∧ r.2.mem ((c : Thread nD τ).loc main_v7) = shapeCast S2x4096x32x128 (projB 8192 (by decide) (opX m c) (opG m c) (opW m c) (opWs m c)) shapeCasts_S8192x4096_S2x4096x32x128
      ∧ r.2.mem ((c : Thread nD τ).loc main_v8) = shapeCast S2x4096x7168 (downB (opX m c) (opG m c) (opW m c) (opWs m c) (opV m c) (opVs m c)) shapeCasts_S8192x7168_S2x4096x7168
      ∧ r.2.mem ((c : Thread nD τ).loc main_v9) = shapeCast S2x4096x7168 (codeA (normA (m := 8192) (opX m c) (opG m c))) shapeCasts_S8192x7168_S2x4096x7168
      ∧ r.2.mem ((c : Thread nD τ).loc main_v10) = shapeCast S2x4096x1 (scaleA (normA (m := 8192) (opX m c) (opG m c))) shapeCasts_S8192x1_S2x4096x1
      ∧ r.2.mem ((c : Thread nD τ).loc main_v11) = shapeCast S2x4096x4608 (codeA (gluB (opX m c) (opG m c) (opW m c) (opWs m c))) shapeCasts_S8192x4608_S2x4096x4608
      ∧ r.2.mem ((c : Thread nD τ).loc main_v12) = shapeCast S2x4096x1 (scaleA (gluB (opX m c) (opG m c) (opW m c) (opWs m c))) shapeCasts_S8192x1_S2x4096x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v5 (Pipeline.mem_restRefs_of main_v5 (by decide) (by decide))).trans (results m c).1,
      ((h c).2 main_v6 (Pipeline.mem_restRefs_of main_v6 (by decide) (by decide))).trans (results m c).2.1,
      ((h c).2 main_v7 (Pipeline.mem_restRefs_of main_v7 (by decide) (by decide))).trans (results m c).2.2.1,
      ((h c).2 main_v8 (Pipeline.mem_restRefs_of main_v8 (by decide) (by decide))).trans (results m c).2.2.2.1,
      ((h c).2 main_v9 (Pipeline.mem_restRefs_of main_v9 (by decide) (by decide))).trans (results m c).2.2.2.2.1,
      ((h c).2 main_v10 (Pipeline.mem_restRefs_of main_v10 (by decide) (by decide))).trans (results m c).2.2.2.2.2.1,
      ((h c).2 main_v11 (Pipeline.mem_restRefs_of main_v11 (by decide) (by decide))).trans (results m c).2.2.2.2.2.2.1,
      ((h c).2 main_v12 (Pipeline.mem_restRefs_of main_v12 (by decide) (by decide))).trans (results m c).2.2.2.2.2.2.2,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩) (run_main m ρ)

end Cert.ReferenceIdeal.Value

end
-- ==== Proof.Algebraic.lean ====
/- The kernel computes what the reference computes, over the extended reals. -/
module

public import proofs.«01_k».proof.Defs
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem Cert.Spec

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Run.W11 m c (Proc.devRef .tc Cert.KernelIdeal.main_v6), fun c => Cert.KernelIdeal.Run.W11 m c (Proc.devRef .tc Cert.KernelIdeal.main_v8),
    fun c => Cert.KernelIdeal.Run.W11 m c (Proc.devRef .tc Cert.KernelIdeal.main_v10), fun c => Cert.KernelIdeal.Run.W11 m c (Proc.devRef .tc Cert.KernelIdeal.main_v13),
    fun c => Cert.KernelIdeal.Run.W11 m c (Proc.devRef .tc Cert.KernelIdeal.main_v14), fun c => Cert.KernelIdeal.Run.W11 m c (Proc.devRef .tc Cert.KernelIdeal.main_v15),
    fun c => Cert.KernelIdeal.Run.W11 m c (Proc.devRef .tc Cert.KernelIdeal.main_v16), fun c => Cert.KernelIdeal.Run.W11 m c (Proc.devRef .tc Cert.KernelIdeal.main_v17), ?_, ?_⟩
  · exact (θ_run Cert.KernelIdeal.defs _ _).mono (fun _ h c => ⟨h.1 c _ rfl, h.1 c _ rfl, h.1 c _ rfl, h.1 c _ rfl, h.1 c _ rfl, h.1 c _ rfl, h.1 c _ rfl, h.1 c _ rfl,
      (h.1 c _ rfl).trans (Cert.KernelIdeal.Run.W11_main_arg0 m c), (h.1 c _ rfl).trans (Cert.KernelIdeal.Run.W11_main_arg1 m c),
      (h.1 c _ rfl).trans (Cert.KernelIdeal.Run.W11_main_arg2 m c), (h.1 c _ rfl).trans (Cert.KernelIdeal.Run.W11_main_arg3 m c),
      (h.1 c _ rfl).trans (Cert.KernelIdeal.Run.W11_main_arg4 m c), (h.1 c _ rfl).trans (Cert.KernelIdeal.Run.W11_main_arg5 m c)⟩) (Cert.KernelIdeal.Run.run m g)
  · refine (θ_run Cert.ReferenceIdeal.defs _ _).mono (fun _ h c => ?_) (Cert.ReferenceIdeal.Value.run m' g')
    obtain ⟨h0, h1, h2, h3, h4, h5, h6, h7, hargs⟩ := h c
    have ex : Cert.ReferenceIdeal.Value.opX m' c = Cert.KernelIdeal.Run.opX m c := by
      unfold Cert.ReferenceIdeal.Value.opX Cert.KernelIdeal.Run.opX; rw [(hagree c).1]
    have eg : Cert.ReferenceIdeal.Value.opG m' c = Cert.KernelIdeal.Run.opG m c := by
      unfold Cert.ReferenceIdeal.Value.opG Cert.KernelIdeal.Run.opG; rw [(hagree c).2.1]
    have ew : Cert.ReferenceIdeal.Value.opW m' c = Cert.KernelIdeal.Run.opW m c := (hagree c).2.2.1
    have es : Cert.ReferenceIdeal.Value.opWs m' c = Cert.KernelIdeal.Run.opWs m c := by
      unfold Cert.ReferenceIdeal.Value.opWs Cert.KernelIdeal.Run.opWs; rw [(hagree c).2.2.2.1]
    have ev : Cert.ReferenceIdeal.Value.opV m' c = Cert.KernelIdeal.Run.opV m c := (hagree c).2.2.2.2.1
    have et : Cert.ReferenceIdeal.Value.opVs m' c = Cert.KernelIdeal.Run.opVs m c := by
      unfold Cert.ReferenceIdeal.Value.opVs Cert.KernelIdeal.Run.opVs; rw [(hagree c).2.2.2.2.2]
    rw [ex, eg, ew, es] at h0 h1 h2 h6 h7
    rw [ex, eg, ew, es, ev, et] at h3
    rw [ex, eg] at h4 h5
    exact ⟨h0.trans ((heads_shapeCast _ _ _).symm.trans (Cert.KernelIdeal.Run.W11_main_v6 m c).symm),
      h1.trans ((heads_shapeCast _ _ _).symm.trans (Cert.KernelIdeal.Run.W11_main_v8 m c).symm),
      h2.trans ((heads_shapeCast _ _ _).symm.trans (Cert.KernelIdeal.Run.W11_main_v10 m c).symm),
      h3.trans (Cert.KernelIdeal.Run.W11_main_v13 m c).symm, h4.trans (Cert.KernelIdeal.Run.W11_main_v14 m c).symm,
      h5.trans (Cert.KernelIdeal.Run.W11_main_v15 m c).symm, h6.trans (Cert.KernelIdeal.Run.W11_main_v16 m c).symm,
      h7.trans (Cert.KernelIdeal.Run.W11_main_v17 m c).symm, hargs⟩

end Cert.Proof

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, kernel_quiescent, kernelIdeal_quiescent,
    referenceIdeal_quiescent, preserves, algebraic⟩

end Cert.Proof

end
